-- ==== Defs.lean ====
def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2)
      ∧ r.2.mem ((c.tc : Thread Cert.Dgrad.nD Cert.Dgrad.τ).loc Cert.Dgrad.main_arg3) = m ((c.tc : Thread Cert.Dgrad.nD Cert.Dgrad.τ).loc Cert.Dgrad.main_arg3))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2)
      ∧ r.2.mem ((c.tc : Thread Cert.DgradRefIdeal.nD Cert.DgradRefIdeal.τ).loc Cert.DgradRefIdeal.main_arg3) = m ((c.tc : Thread Cert.DgradRefIdeal.nD Cert.DgradRefIdeal.τ).loc Cert.DgradRefIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def preserves_Dgrad_DgradIdeal : Prop :=
  True

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)
      ∧ m' ((c.tc : Thread Cert.DgradRefIdeal.nD Cert.DgradRefIdeal.τ).loc Cert.DgradRefIdeal.main_arg2) = m ((c.tc : Thread Cert.DgradIdeal.nD Cert.DgradIdeal.τ).loc Cert.DgradIdeal.main_arg2)
      ∧ m' ((c.tc : Thread Cert.DgradRefIdeal.nD Cert.DgradRefIdeal.τ).loc Cert.DgradRefIdeal.main_arg3) = m ((c.tc : Thread Cert.DgradIdeal.nD Cert.DgradIdeal.τ).loc Cert.DgradIdeal.main_arg3)) →
    ∃ (v0 : (c : Dev Cert.DgradIdeal.nD) → Buf (Elt Ideal) ((c.tc : Thread Cert.DgradIdeal.nD Cert.DgradIdeal.τ).loc Cert.DgradIdeal.main_v0)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
          ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v0) = v0 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1)
          ∧ r.2.mem ((c.tc : Thread Cert.DgradRefIdeal.nD Cert.DgradRefIdeal.τ).loc Cert.DgradRefIdeal.main_arg2) = m' ((c.tc : Thread Cert.DgradRefIdeal.nD Cert.DgradRefIdeal.τ).loc Cert.DgradRefIdeal.main_arg2)
          ∧ r.2.mem ((c.tc : Thread Cert.DgradRefIdeal.nD Cert.DgradRefIdeal.τ).loc Cert.DgradRefIdeal.main_arg3) = m' ((c.tc : Thread Cert.DgradRefIdeal.nD Cert.DgradRefIdeal.τ).loc Cert.DgradRefIdeal.main_arg3))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_1)) (v2 : (c : Dev Cert.WgradIdeal.nD) → Buf (Elt Ideal) ((c.tc : Thread Cert.WgradIdeal.nD Cert.WgradIdeal.τ).loc Cert.WgradIdeal.main_v0_2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_1) = v1 c
          ∧ r.2.mem ((c.tc : Thread Cert.WgradIdeal.nD Cert.WgradIdeal.τ).loc Cert.WgradIdeal.main_v0_2) = v2 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v0_0) = v0 c
          ∧ r.2.mem ((c.tc : Thread Cert.WgradRefIdeal.nD Cert.WgradRefIdeal.τ).loc Cert.WgradRefIdeal.main_v0_1) = v1 c
          ∧ r.2.mem ((c.tc : Thread Cert.WgradRefIdeal.nD Cert.WgradRefIdeal.τ).loc Cert.WgradRefIdeal.main_v0_2) = v2 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)) (v2 : (c : Dev Cert.QuantIdeal.nD) → Buf (Elt Ideal) ((c.tc : Thread Cert.QuantIdeal.nD Cert.QuantIdeal.τ).loc Cert.QuantIdeal.main_v0_2)) (v3 : (c : Dev Cert.QuantIdeal.nD) → Buf (Elt Ideal) ((c.tc : Thread Cert.QuantIdeal.nD Cert.QuantIdeal.τ).loc Cert.QuantIdeal.main_v0_3)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_v0_2) = v2 c
          ∧ r.2.mem ((c.tc : Thread Cert.QuantIdeal.nD Cert.QuantIdeal.τ).loc Cert.QuantIdeal.main_v0_3) = v3 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0_0) = v0 c
          ∧ r.2.mem ((c.tc : Thread Cert.QuantRefIdeal.nD Cert.QuantRefIdeal.τ).loc Cert.QuantRefIdeal.main_v0_1) = v1 c
          ∧ r.2.mem ((c.tc : Thread Cert.QuantRefIdeal.nD Cert.QuantRefIdeal.τ).loc Cert.QuantRefIdeal.main_v0_2) = v2 c
          ∧ r.2.mem ((c.tc : Thread Cert.QuantRefIdeal.nD Cert.QuantRefIdeal.τ).loc Cert.QuantRefIdeal.main_v0_3) = v3 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0))

def Claim : Prop :=
  ∃ (hDgrad : Cert.Dgrad.Facts) (hDgradIdeal : Cert.DgradIdeal.Facts) (hDgradRefIdeal : Cert.DgradRefIdeal.Facts) (hWgrad : Cert.Wgrad.Facts) (hWgradIdeal : Cert.WgradIdeal.Facts) (hWgradRefIdeal : Cert.WgradRefIdeal.Facts) (hQuant : Cert.Quant.Facts) (hQuantIdeal : Cert.QuantIdeal.Facts) (hQuantRefIdeal : Cert.QuantRefIdeal.Facts),
    quiescent_Dgrad (hDgrad := hDgrad)
    ∧ quiescent_DgradIdeal (hDgradIdeal := hDgradIdeal)
    ∧ quiescent_DgradRefIdeal (hDgradRefIdeal := hDgradRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Quant (hQuant := hQuant)
    ∧ quiescent_QuantIdeal (hQuantIdeal := hQuantIdeal)
    ∧ quiescent_QuantRefIdeal (hQuantRefIdeal := hQuantRefIdeal)
    ∧ preserves_Dgrad_DgradIdeal
    ∧ algebraic_DgradIdeal_DgradRefIdeal (hDgradIdeal := hDgradIdeal) (hDgradRefIdeal := hDgradRefIdeal)
    ∧ preserves_Wgrad_WgradIdeal
    ∧ algebraic_WgradIdeal_WgradRefIdeal (hWgradIdeal := hWgradIdeal) (hWgradRefIdeal := hWgradRefIdeal)
    ∧ preserves_Quant_QuantIdeal
    ∧ algebraic_QuantIdeal_QuantRefIdeal (hQuantIdeal := hQuantIdeal) (hQuantRefIdeal := hQuantRefIdeal)
-- ==== Dgrad.lean ====
abbrev S6144x4608 : Shape := ⟨2, ![6144, 4608]⟩
abbrev S6144x144 : Shape := ⟨2, ![6144, 144]⟩
abbrev S12288x4608 : Shape := ⟨2, ![12288, 4608]⟩
abbrev S12288x144 : Shape := ⟨2, ![12288, 144]⟩
abbrev S6144x12288 : Shape := ⟨2, ![6144, 12288]⟩
abbrev S1024x4608 : Shape := ⟨2, ![1024, 4608]⟩
abbrev S1024x144 : Shape := ⟨2, ![1024, 144]⟩
abbrev S512x4608 : Shape := ⟨2, ![512, 4608]⟩
abbrev S512x144 : Shape := ⟨2, ![512, 144]⟩
abbrev S1024x512 : Shape := ⟨2, ![1024, 512]⟩
abbrev S1024x112 : Shape := ⟨2, ![1024, 112]⟩
abbrev S1024x256 : Shape := ⟨2, ![1024, 256]⟩
abbrev S1024x128 : Shape := ⟨2, ![1024, 128]⟩
abbrev S1024x128x1 : Shape := ⟨3, ![1024, 128, 1]⟩
abbrev S512x112 : Shape := ⟨2, ![512, 112]⟩
abbrev S512x256 : Shape := ⟨2, ![512, 256]⟩
abbrev S512x128 : Shape := ⟨2, ![512, 128]⟩
abbrev S512x128x1 : Shape := ⟨3, ![512, 128, 1]⟩

abbrev nBuf : Space → Nat
  | .hbm => 5
  | .vmem => 12
  | .smem => 0
  | _ => 0

abbrev bufTy : (tb : Table) → Fin (tcTables nBuf tb) → BufTy
  | .hbm, ⟨0, _⟩ => ⟨S6144x4608, .fp8e4m3⟩
  | .hbm, ⟨1, _⟩ => ⟨S6144x144, .i8⟩
  | .hbm, ⟨2, _⟩ => ⟨S12288x4608, .fp8e4m3⟩
  | .hbm, ⟨3, _⟩ => ⟨S12288x144, .i8⟩
  | .hbm, ⟨4, _⟩ => ⟨S6144x12288, .bf16⟩
  | .local _ .vmem, ⟨0, _⟩ => ⟨S1024x4608, .fp8e4m3⟩
  | .local _ .vmem, ⟨1, _⟩ => ⟨S1024x4608, .fp8e4m3⟩
  | .local _ .vmem, ⟨2, _⟩ => ⟨S1024x144, .i8⟩
  | .local _ .vmem, ⟨3, _⟩ => ⟨S1024x144, .i8⟩
  | .local _ .vmem, ⟨4, _⟩ => ⟨S512x4608, .fp8e4m3⟩
  | .local _ .vmem, ⟨5, _⟩ => ⟨S512x4608, .fp8e4m3⟩
  | .local _ .vmem, ⟨6, _⟩ => ⟨S512x144, .i8⟩
  | .local _ .vmem, ⟨7, _⟩ => ⟨S512x144, .i8⟩
  | .local _ .vmem, ⟨8, _⟩ => ⟨S1024x512, .bf16⟩
  | .local _ .vmem, ⟨9, _⟩ => ⟨S1024x512, .bf16⟩
  | .local _ .vmem, ⟨10, _⟩ => ⟨S1024x4608, .bf16⟩
  | .local _ .vmem, ⟨11, _⟩ => ⟨S512x4608, .bf16⟩
  | _, _ => ⟨S6144x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x144 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x144 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DgradRefIdeal.lean ====
abbrev S6144x4608 : Shape := ⟨2, ![6144, 4608]⟩
abbrev S6144x144 : Shape := ⟨2, ![6144, 144]⟩
abbrev S12288x4608 : Shape := ⟨2, ![12288, 4608]⟩
abbrev S12288x144 : Shape := ⟨2, ![12288, 144]⟩
abbrev S6144x12288 : Shape := ⟨2, ![6144, 12288]⟩
abbrev S6144x144x32 : Shape := ⟨3, ![6144, 144, 32]⟩
abbrev S6144x144x1 : Shape := ⟨3, ![6144, 144, 1]⟩
abbrev S12288x144x32 : Shape := ⟨3, ![12288, 144, 32]⟩
abbrev S12288x144x1 : Shape := ⟨3, ![12288, 144, 1]⟩

abbrev nBuf : Space → Nat
  | .hbm => 5
  | .vmem => 5
  | .smem => 0
  | _ => 0

abbrev bufTy : (tb : Table) → Fin (tcTables nBuf tb) → BufTy
  | .hbm, ⟨0, _⟩ => ⟨S6144x4608, .fp8e4m3⟩
  | .hbm, ⟨1, _⟩ => ⟨S6144x144, .i8⟩
  | .hbm, ⟨2, _⟩ => ⟨S12288x4608, .fp8e4m3⟩
  | .hbm, ⟨3, _⟩ => ⟨S12288x144, .i8⟩
  | .hbm, ⟨4, _⟩ => ⟨S6144x12288, .bf16⟩
  | .local _ .vmem, ⟨0, _⟩ => ⟨S6144x4608, .fp8e4m3⟩
  | .local _ .vmem, ⟨1, _⟩ => ⟨S6144x144, .i8⟩
  | .local _ .vmem, ⟨2, _⟩ => ⟨S12288x4608, .fp8e4m3⟩
  | .local _ .vmem, ⟨3, _⟩ => ⟨S12288x144, .i8⟩
  | .local _ .vmem, ⟨4, _⟩ => ⟨S6144x12288, .bf16⟩
  | _, _ => ⟨S6144x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Wgrad.lean ====
abbrev S6144x12288 : Shape := ⟨2, ![6144, 12288]⟩
abbrev S6144x4608 : Shape := ⟨2, ![6144, 4608]⟩
abbrev S192x4608 : Shape := ⟨2, ![192, 4608]⟩
abbrev S12288x4608 : Shape := ⟨2, ![12288, 4608]⟩
abbrev S192x12288 : Shape := ⟨2, ![192, 12288]⟩
abbrev S6144x512 : Shape := ⟨2, ![6144, 512]⟩
abbrev S192x512 : Shape := ⟨2, ![192, 512]⟩
abbrev S512x512 : Shape := ⟨2, ![512, 512]⟩
abbrev S512x6144 : Shape := ⟨2, ![512, 6144]⟩
abbrev S1024x512 : Shape := ⟨2, ![1024, 512]⟩
abbrev S32x32x512 : Shape := ⟨3, ![32, 32, 512]⟩
abbrev S32x512 : Shape := ⟨2, ![32, 512]⟩
abbrev S32x1x512 : Shape := ⟨3, ![32, 1, 512]⟩
abbrev S512x1024 : Shape := ⟨2, ![512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S6144x12288, .bf16⟩
  | .hbm, ⟨1, _⟩ => ⟨S6144x4608, .fp8e4m3⟩
  | .hbm, ⟨2, _⟩ => ⟨S192x4608, .i8⟩
  | .hbm, ⟨3, _⟩ => ⟨S12288x4608, .f32⟩
  | .hbm, ⟨4, _⟩ => ⟨S6144x12288, .fp8e4m3⟩
  | .hbm, ⟨5, _⟩ => ⟨S192x12288, .i8⟩
  | .local _ .vmem, ⟨0, _⟩ => ⟨S6144x512, .bf16⟩
  | .local _ .vmem, ⟨1, _⟩ => ⟨S6144x512, .bf16⟩
  | .local _ .vmem, ⟨2, _⟩ => ⟨S6144x512, .fp8e4m3⟩
  | .local _ .vmem, ⟨3, _⟩ => ⟨S6144x512, .fp8e4m3⟩
  | .local _ .vmem, ⟨4, _⟩ => ⟨S192x512, .i8⟩
  | .local _ .vmem, ⟨5, _⟩ => ⟨S192x512, .i8⟩
  | .local _ .vmem, ⟨6, _⟩ => ⟨S512x512, .f32⟩
  | .local _ .vmem, ⟨7, _⟩ => ⟨S512x512, .f32⟩
  | .local _ .vmem, ⟨8, _⟩ => ⟨S6144x512, .fp8e4m3⟩
  | .local _ .vmem, ⟨9, _⟩ => ⟨S6144x512, .fp8e4m3⟩
  | .local _ .vmem, ⟨10, _⟩ => ⟨S192x512, .i8⟩
  | .local _ .vmem, ⟨11, _⟩ => ⟨S192x512, .i8⟩
  | .local _ .vmem, ⟨12, _⟩ => ⟨S512x6144, .bf16⟩
  | .local _ .vmem, ⟨13, _⟩ => ⟨S6144x512, .bf16⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S6144x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6144x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S192x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== WgradRefIdeal.lean ====
abbrev S6144x12288 : Shape := ⟨2, ![6144, 12288]⟩
abbrev S6144x4608 : Shape := ⟨2, ![6144, 4608]⟩
abbrev S192x4608 : Shape := ⟨2, ![192, 4608]⟩
abbrev S12288x4608 : Shape := ⟨2, ![12288, 4608]⟩
abbrev S192x12288 : Shape := ⟨2, ![192, 12288]⟩
abbrev S192x32x12288 : Shape := ⟨3, ![192, 32, 12288]⟩
abbrev S192x1x12288 : Shape := ⟨3, ![192, 1, 12288]⟩
abbrev S192x32x4608 : Shape := ⟨3, ![192, 32, 4608]⟩
abbrev S192x1x4608 : Shape := ⟨3, ![192, 1, 4608]⟩

abbrev nBuf : Space → Nat
  | .hbm => 6
  | .vmem => 6
  | .smem => 0
  | _ => 0

abbrev bufTy : (tb : Table) → Fin (tcTables nBuf tb) → BufTy
  | .hbm, ⟨0, _⟩ => ⟨S6144x12288, .bf16⟩
  | .hbm, ⟨1, _⟩ => ⟨S6144x4608, .fp8e4m3⟩
  | .hbm, ⟨2, _⟩ => ⟨S192x4608, .i8⟩
  | .hbm, ⟨3, _⟩ => ⟨S12288x4608, .f32⟩
  | .hbm, ⟨4, _⟩ => ⟨S6144x12288, .fp8e4m3⟩
  | .hbm, ⟨5, _⟩ => ⟨S192x12288, .i8⟩
  | .local _ .vmem, ⟨0, _⟩ => ⟨S6144x12288, .bf16⟩
  | .local _ .vmem, ⟨1, _⟩ => ⟨S6144x4608, .fp8e4m3⟩
  | .local _ .vmem, ⟨2, _⟩ => ⟨S192x4608, .i8⟩
  | .local _ .vmem, ⟨3, _⟩ => ⟨S12288x4608, .f32⟩
  | .local _ .vmem, ⟨4, _⟩ => ⟨S6144x12288, .fp8e4m3⟩
  | .local _ .vmem, ⟨5, _⟩ => ⟨S192x12288, .i8⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x4608 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x12288 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quant.lean ====
abbrev S6144x4608 : Shape := ⟨2, ![6144, 4608]⟩
abbrev S6144x144 : Shape := ⟨2, ![6144, 144]⟩
abbrev S192x4608 : Shape := ⟨2, ![192, 4608]⟩
abbrev S1024x4608 : Shape := ⟨2, ![1024, 4608]⟩
abbrev S1024x144 : Shape := ⟨2, ![1024, 144]⟩
abbrev S32x4608 : Shape := ⟨2, ![32, 4608]⟩
abbrev S128x4608 : Shape := ⟨2, ![128, 4608]⟩
abbrev S4x32x4608 : Shape := ⟨3, ![4, 32, 4608]⟩
abbrev S4x4608 : Shape := ⟨2, ![4, 4608]⟩
abbrev S4x1x4608 : Shape := ⟨3, ![4, 1, 4608]⟩
abbrev S1x4608 : Shape := ⟨2, ![1, 4608]⟩
abbrev S4608x128 : Shape := ⟨2, ![4608, 128]⟩
abbrev S144x32x128 : Shape := ⟨3, ![144, 32, 128]⟩
abbrev S144x128 : Shape := ⟨2, ![144, 128]⟩
abbrev S128x144 : Shape := ⟨2, ![128, 144]⟩
abbrev S128x112 : Shape := ⟨2, ![128, 112]⟩
abbrev S128x256 : Shape := ⟨2, ![128, 256]⟩
abbrev S128x128 : Shape := ⟨2, ![128, 128]⟩
abbrev S128x128x1 : Shape := ⟨3, ![128, 128, 1]⟩

abbrev nBuf : Space → Nat
  | .hbm => 5
  | .vmem => 11
  | .smem => 0
  | _ => 0

abbrev bufTy : (tb : Table) → Fin (tcTables nBuf tb) → BufTy
  | .hbm, ⟨0, _⟩ => ⟨S6144x4608, .bf16⟩
  | .hbm, ⟨1, _⟩ => ⟨S6144x4608, .fp8e4m3⟩
  | .hbm, ⟨2, _⟩ => ⟨S6144x144, .i8⟩
  | .hbm, ⟨3, _⟩ => ⟨S6144x4608, .fp8e4m3⟩
  | .hbm, ⟨4, _⟩ => ⟨S192x4608, .i8⟩
  | .local _ .vmem, ⟨0, _⟩ => ⟨S1024x4608, .bf16⟩
  | .local _ .vmem, ⟨1, _⟩ => ⟨S1024x4608, .bf16⟩
  | .local _ .vmem, ⟨2, _⟩ => ⟨S1024x4608, .fp8e4m3⟩
  | .local _ .vmem, ⟨3, _⟩ => ⟨S1024x4608, .fp8e4m3⟩
  | .local _ .vmem, ⟨4, _⟩ => ⟨S1024x144, .i8⟩
  | .local _ .vmem, ⟨5, _⟩ => ⟨S1024x144, .i8⟩
  | .local _ .vmem, ⟨6, _⟩ => ⟨S1024x4608, .fp8e4m3⟩
  | .local _ .vmem, ⟨7, _⟩ => ⟨S1024x4608, .fp8e4m3⟩
  | .local _ .vmem, ⟨8, _⟩ => ⟨S32x4608, .i8⟩
  | .local _ .vmem, ⟨9, _⟩ => ⟨S32x4608, .i8⟩
  | .local _ .vmem, ⟨10, _⟩ => ⟨S32x4608, .i32⟩
  | _, _ => ⟨S6144x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  v4
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v6 : Index := Scalar.indexCast v5
  let c0_4 : Index := 0#32
  ![v6.toNat, 0]
def k0_off2 (k0_t1 : Fin k0_t1_loop.trips) (c0_i32_12 : BitVec 32) : Fin 2 → Nat :=
  let c0_i32 : BitVec 32 := 0#32
  let c1_i32 : BitVec 32 := 1#32
  let arg7 : BitVec 32 := Scf.iv c0_i32 c1_i32 k0_t1
  let c4_i32 : BitVec 32 := 4#32
  let v122 : BitVec 32 := Scalar.muli arg7 c4_i32
  let v123 : BitVec 32 := Scalar.addi v122 c0_i32_12
  let v124 : Index := Scalar.indexCast v123
  let c0_13 : Index := 0#32
  ![v124.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v245 : Index := Scalar.indexCast v5
  let c0_44 : Index := 0#32
  ![v245.toNat, 0]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v303 : Index := Scalar.indexCast v5
  let c0_59 : Index := 0#32
  ![v303.toNat, 0]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v352 : Index := Scalar.indexCast v5
  let c128 : Index := 128#32
  ![v352.toNat, 128]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v401 : Index := Scalar.indexCast v5
  let c256 : Index := 256#32
  ![v401.toNat, 256]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v450 : Index := Scalar.indexCast v5
  let c384 : Index := 384#32
  ![v450.toNat, 384]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v499 : Index := Scalar.indexCast v5
  let c512 : Index := 512#32
  ![v499.toNat, 512]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v548 : Index := Scalar.indexCast v5
  let c640 : Index := 640#32
  ![v548.toNat, 640]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v597 : Index := Scalar.indexCast v5
  let c768 : Index := 768#32
  ![v597.toNat, 768]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v646 : Index := Scalar.indexCast v5
  let c896 : Index := 896#32
  ![v646.toNat, 896]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v695 : Index := Scalar.indexCast v5
  let c1024 : Index := 1024#32
  ![v695.toNat, 1024]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v744 : Index := Scalar.indexCast v5
  let c1152 : Index := 1152#32
  ![v744.toNat, 1152]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v793 : Index := Scalar.indexCast v5
  let c1280 : Index := 1280#32
  ![v793.toNat, 1280]
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v842 : Index := Scalar.indexCast v5
  let c1408 : Index := 1408#32
  ![v842.toNat, 1408]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v891 : Index := Scalar.indexCast v5
  let c1536 : Index := 1536#32
  ![v891.toNat, 1536]
def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v940 : Index := Scalar.indexCast v5
  let c1664 : Index := 1664#32
  ![v940.toNat, 1664]
def k0_off18 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v989 : Index := Scalar.indexCast v5
  let c1792 : Index := 1792#32
  ![v989.toNat, 1792]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1038 : Index := Scalar.indexCast v5
  let c1920 : Index := 1920#32
  ![v1038.toNat, 1920]
def k0_off20 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1087 : Index := Scalar.indexCast v5
  let c2048 : Index := 2048#32
  ![v1087.toNat, 2048]
def k0_off21 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1136 : Index := Scalar.indexCast v5
  let c2176 : Index := 2176#32
  ![v1136.toNat, 2176]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1185 : Index := Scalar.indexCast v5
  let c2304 : Index := 2304#32
  ![v1185.toNat, 2304]
def k0_off23 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1234 : Index := Scalar.indexCast v5
  let c2432 : Index := 2432#32
  ![v1234.toNat, 2432]
def k0_off24 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1283 : Index := Scalar.indexCast v5
  let c2560 : Index := 2560#32
  ![v1283.toNat, 2560]
def k0_off25 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1332 : Index := Scalar.indexCast v5
  let c2688 : Index := 2688#32
  ![v1332.toNat, 2688]
def k0_off26 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1381 : Index := Scalar.indexCast v5
  let c2816 : Index := 2816#32
  ![v1381.toNat, 2816]
def k0_off27 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1430 : Index := Scalar.indexCast v5
  let c2944 : Index := 2944#32
  ![v1430.toNat, 2944]
def k0_off28 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1479 : Index := Scalar.indexCast v5
  let c3072 : Index := 3072#32
  ![v1479.toNat, 3072]
def k0_off29 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1528 : Index := Scalar.indexCast v5
  let c3200 : Index := 3200#32
  ![v1528.toNat, 3200]
def k0_off30 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1577 : Index := Scalar.indexCast v5
  let c3328 : Index := 3328#32
  ![v1577.toNat, 3328]
def k0_off31 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1626 : Index := Scalar.indexCast v5
  let c3456 : Index := 3456#32
  ![v1626.toNat, 3456]
def k0_off32 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1675 : Index := Scalar.indexCast v5
  let c3584 : Index := 3584#32
  ![v1675.toNat, 3584]
def k0_off33 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1724 : Index := Scalar.indexCast v5
  let c3712 : Index := 3712#32
  ![v1724.toNat, 3712]
def k0_off34 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1773 : Index := Scalar.indexCast v5
  let c3840 : Index := 3840#32
  ![v1773.toNat, 3840]
def k0_off35 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1822 : Index := Scalar.indexCast v5
  let c3968 : Index := 3968#32
  ![v1822.toNat, 3968]
def k0_off36 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1871 : Index := Scalar.indexCast v5
  let c4096 : Index := 4096#32
  ![v1871.toNat, 4096]
def k0_off37 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1920 : Index := Scalar.indexCast v5
  let c4224 : Index := 4224#32
  ![v1920.toNat, 4224]
def k0_off38 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v1969 : Index := Scalar.indexCast v5
  let c4352 : Index := 4352#32
  ![v1969.toNat, 4352]
def k0_off39 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v4 : BitVec 32 := Scalar.muli arg7 c128_i32
  let v5 : BitVec 32 := v4
  let v2018 : Index := Scalar.indexCast v5
  let c4480 : Index := 4480#32
  ![v2018.toNat, 4480]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4608 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4608 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantRefIdeal.lean ====
abbrev S6144x4608 : Shape := ⟨2, ![6144, 4608]⟩
abbrev S6144x144 : Shape := ⟨2, ![6144, 144]⟩
abbrev S192x4608 : Shape := ⟨2, ![192, 4608]⟩
abbrev S6144x144x32 : Shape := ⟨3, ![6144, 144, 32]⟩
abbrev S6144x144x1 : Shape := ⟨3, ![6144, 144, 1]⟩
abbrev S192x32x4608 : Shape := ⟨3, ![192, 32, 4608]⟩
abbrev S192x1x4608 : Shape := ⟨3, ![192, 1, 4608]⟩

abbrev nBuf : Space → Nat
  | .hbm => 5
  | .vmem => 5
  | .smem => 0
  | _ => 0

abbrev bufTy : (tb : Table) → Fin (tcTables nBuf tb) → BufTy
  | .hbm, ⟨0, _⟩ => ⟨S6144x4608, .bf16⟩
  | .hbm, ⟨1, _⟩ => ⟨S6144x4608, .fp8e4m3⟩
  | .hbm, ⟨2, _⟩ => ⟨S6144x144, .i8⟩
  | .hbm, ⟨3, _⟩ => ⟨S6144x4608, .fp8e4m3⟩
  | .hbm, ⟨4, _⟩ => ⟨S192x4608, .i8⟩
  | .local _ .vmem, ⟨0, _⟩ => ⟨S6144x4608, .bf16⟩
  | .local _ .vmem, ⟨1, _⟩ => ⟨S6144x4608, .fp8e4m3⟩
  | .local _ .vmem, ⟨2, _⟩ => ⟨S6144x144, .i8⟩
  | .local _ .vmem, ⟨3, _⟩ => ⟨S6144x4608, .fp8e4m3⟩
  | .local _ .vmem, ⟨4, _⟩ => ⟨S192x4608, .i8⟩
  | _, _ => ⟨S6144x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x4608 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Lanes.lean ====
/-
  THE SCALE BYTES SPREAD OVER THE LANES. The kernel widens a tile of codes 128 lanes at a time: the scales of the row
  (one for 32 columns) are padded to 256 lanes, one half is chosen, and a gather along the lanes with the index
  `first + lane / 32` gives every lane its scale. Stated here once, for any number of rows.
-/
module

public import Idealize.ShloMosaic.Lib.Pointwise
public import Idealize.ShloMosaic.Lib.Pipeline.Value
public import Idealize.ShloMosaic.Lib.Pipeline.ValueKit.Tiles
public import Idealize.ShloMosaic.Lib.ValueIdx
public import Idealize.ShloMosaic.PureOps.Ideal.Laws

@[expose] public section

set_option maxRecDepth 16384

noncomputable section

namespace Cert.Lanes

open Idealize.ShloMosaic

abbrev Sh (R n : ℕ) : Shape := ⟨2, ![R, n]⟩

/-- A rectangle's start at the origin. -/
theorem hz : (![0, 0] : Fin 2 → Nat) = fun _ => 0 := funext fun a => by fin_cases a <;> rfl

/-- A load of the whole buffer after stores that cover it reads the stores back. -/
theorem readCov_all {sig : RefSig} {S : Shape} {e : EltTy} {sp : Space} (v : View sig .tc sp S e) {off : Fin S.rank → Nat} (L : List (View.Piece (Elt Ideal) S e)) (hz : off = fun _ => 0)
    (inb : ∀ a, off a + S.size a ≤ S.size a) (y : S.Idx) :
    v.readCov L (Rect.unit off S.size inb).toLoadRect y = View.canon L y := by
  subst hz
  rw [View.readCov_eq_canon']
  show View.canon L _ = _
  congr 1
  funext a
  exact Fin.ext ((Rect.idx_unit_val (fun _ => 0) S.size inb y a).trans (Nat.zero_add _))

variable {R : ℕ}

/-- The gather's index vector of a tile whose first scale sits at lane `a`: `a + lane // 32`, where the floor division
    is a truncating one corrected by the signs, and a negative index would be wrapped by 128. -/
def laneIdx (hi : (Sh R 128).Iotas .tc 32 [1]) (a : BitVec 32) : IVec (Sh R 128) 32 :=
  have v1614 : IVec (Sh R 128) 32 := iota .tc (Sh R 128) 32 [1] hi
  have v1615 : IVec (Sh R 128) 32 := broadcast (Sh R 128) 32#32
  have v1616 : IVec (Sh R 128) 32 := divsi v1614 v1615
  have v1617 : IVec (Sh R 128) 32 := broadcast (Sh R 128) 0#32
  have v1618 : IVec (Sh R 128) 1 := cmpi .sgt v1614 v1617
  have v1619 : IVec (Sh R 128) 32 := extui 32 v1618 (by decide)
  have v1620 : IVec (Sh R 128) 32 := broadcast (Sh R 128) 0#32
  have v1621 : IVec (Sh R 128) 1 := cmpi .slt v1614 v1620
  have v1622 : IVec (Sh R 128) 32 := extui 32 v1621 (by decide)
  have v1623 : IVec (Sh R 128) 32 := subi v1619 v1622
  let v1624 : BitVec 1 := Scalar.cmpi .sgt 32#32 0#32
  let v1625 : BitVec 32 := Scalar.extui v1624
  let v1626 : BitVec 1 := Scalar.cmpi .slt 32#32 0#32
  let v1627 : BitVec 32 := Scalar.extui v1626
  let v1628 : BitVec 32 := Scalar.subi v1625 v1627
  have v1629 : IVec (Sh R 128) 32 := broadcast (Sh R 128) v1628
  have v1630 : IVec (Sh R 128) 1 := cmpi .ne v1623 v1629
  have v1631 : IVec (Sh R 128) 32 := broadcast (Sh R 128) 32#32
  have v1632 : IVec (Sh R 128) 32 := remsi v1614 v1631
  have v1633 : IVec (Sh R 128) 32 := broadcast (Sh R 128) 0#32
  have v1634 : IVec (Sh R 128) 1 := cmpi .ne v1632 v1633
  have v1635 : IVec (Sh R 128) 1 := andi v1630 v1634
  have v1636 : IVec (Sh R 128) 32 := broadcast (Sh R 128) 1#32
  have v1637 : IVec (Sh R 128) 32 := subi v1616 v1636
  have v1638 : IVec (Sh R 128) 32 := select v1635 v1637 v1616
  have v1639 : IVec (Sh R 128) 32 := broadcast (Sh R 128) a
  have v1640 : IVec (Sh R 128) 32 := addi v1639 v1638
  have v1641 : IVec (Sh R 128) 32 := broadcast (Sh R 128) 0#32
  have v1642 : IVec (Sh R 128) 1 := cmpi .slt v1640 v1641
  have v1643 : IVec (Sh R 128) 32 := broadcast (Sh R 128) 128#32
  have v1644 : IVec (Sh R 128) 32 := addi v1640 v1643
  select v1642 v1644 v1640

/-- The same chain on one lane's word. -/
def laneWord (a l : BitVec 32) : BitVec 32 :=
  let q := IntOp.divsi .vector l 32#32
  let sg := (IntOp.cmpi .sgt l 0#32).setWidth 32 - (IntOp.cmpi .slt l 0#32).setWidth 32
  let c := IntOp.cmpi .ne sg ((IntOp.cmpi .sgt 32#32 0#32).setWidth 32 - (IntOp.cmpi .slt 32#32 0#32).setWidth 32) &&& IntOp.cmpi .ne (IntOp.remsi .vector l 32#32) 0#32
  let d := if c = 1#1 then q - 1#32 else q
  if IntOp.cmpi .slt (a + d) 0#32 = 1#1 then a + d + 128#32 else a + d

theorem laneIdx_apply_word (hi : (Sh R 128).Iotas .tc 32 [1]) (a : BitVec 32) (j : (Sh R 128).Idx) :
    laneIdx hi a j = laneWord a (BitVec.ofNat 32 (j 1).val) := by
  have e : iota .tc (Sh R 128) 32 [1] hi j = BitVec.ofNat 32 (j 1).val := by
    show BitVec.ofNat 32 (0 * _ + (j 1).val) = _
    rw [Nat.zero_mul, Nat.zero_add]
  rw [← e]
  rfl

/-- For the 36 tiles of a row: the index is the tile's first scale plus the lane over 32 — decided over the lanes. -/
theorem laneWord_eq : ∀ (a : Fin 32) (l : Fin 128), (laneWord (BitVec.ofNat 32 (4 * a.val)) (BitVec.ofNat 32 l.val)).toNat = 4 * a.val + l.val / 32 := by
  decide +kernel

theorem laneIdx_toNat (hi : (Sh R 128).Iotas .tc 32 [1]) (a : ℕ) (ha : a < 32) (j : (Sh R 128).Idx) :
    (laneIdx hi (BitVec.ofNat 32 (4 * a)) j).toNat = 4 * a + (j 1).val / 32 := by
  rw [laneIdx_apply_word]
  exact laneWord_eq ⟨a, ha⟩ ⟨(j 1).val, (j 1).isLt⟩

/-- The gather of one tile's scales: row `s`, lanes `base … base + 127`, at the lanes' indices. -/
def spread (hi : (Sh R 128).Iotas .tc 32 [1]) (h1 : (Sh R 128).ShapeCasts ⟨3, ![R, 128, 1]⟩) (h2 : Shape.ShapeCasts ⟨3, ![R, 128, 1]⟩ (Sh R 128))
    (off : Fin 2 → ℕ) (hs : (Sh R 256).Slices off (Sh R 128)) (s : FVec Ideal (Sh R 256) .bf16) (a : BitVec 32) : FVec Ideal (Sh R 128) .bf16 :=
  truncf .bf16 (dynamicGather 1 (extf .f32 (extractStridedSlice (Sh R 128) off s hs) (by decide))
    (shapeCast (Sh R 128) (shapeCast ⟨3, ![R, 128, 1]⟩ (laneIdx hi a) h1) h2)) (by decide)

theorem spread_apply (hi : (Sh R 128).Iotas .tc 32 [1]) (h1 : (Sh R 128).ShapeCasts ⟨3, ![R, 128, 1]⟩) (h2 : Shape.ShapeCasts ⟨3, ![R, 128, 1]⟩ (Sh R 128))
    (off : Fin 2 → ℕ) (hs : (Sh R 256).Slices off (Sh R 128)) (s : FVec Ideal (Sh R 256) .bf16) (a : ℕ) (ha : a < 32) (j : (Sh R 128).Idx)
    (k : (Sh R 256).Idx) (hk0 : (k 0).val = off 0 + (j 0).val) (hk1 : (k 1).val = off 1 + (4 * a + (j 1).val / 32)) :
    spread hi h1 h2 off hs s (BitVec.ofNat 32 (4 * a)) j = s k := by
  unfold spread
  rw [shapeCast_shapeCast]
  refine (Ideal.truncf_def (φ := .f32) (ψ := .bf16) _ _).trans ?_
  rw [dynamicGather_apply]
  refine (Ideal.extf_def (φ := .bf16) (ψ := .f32) _ _).trans ?_
  refine extractStridedSlice_apply off s hs _ k ?_
  have hj : (j 1).val < 128 := (j 1).isLt
  intro x
  match x with
  | ⟨0, _⟩ => exact hk0
  | ⟨1, _⟩ =>
    refine hk1.trans ?_
    show _ = off 1 + (laneIdx hi (BitVec.ofNat 32 (4 * a)) j).toNat % 128
    rw [laneIdx_toNat hi a ha, Nat.mod_eq_of_lt (by omega)]

end Cert.Lanes

end
-- ==== Proof.Scales.lean ====
/-
  A SCALE BYTE'S VALUE. The kernel builds the power of two a byte stands for by its bits (`byte · 2²³` read as an f32);
  the reference takes the exponential of `byte - 127`, with what an f32 does at the two ends stated (zero below the
  normal range, infinity at 128). The two are one function of the 256 bytes.
-/
module

public import Idealize.ShloMosaic.Lib.Pointwise
public import Idealize.ShloMosaic.Lib.ValueIdx
public import Idealize.ShloMosaic.PureOps.Ideal.Laws

@[expose] public section

set_option maxRecDepth 16384

noncomputable section

namespace Cert.Scales

open Idealize.ShloMosaic

/-- The word `byte · 2²³` read as an f32: the power of two the scale byte `b` stands for. -/
def pow2 (b : BitVec 32) : EReal := Ideal.ofBits .f32 (b <<< 23)

/-- The exponential of the byte minus 127 with the f32 ends: what the reference multiplies by. -/
def scaleOf (b : BitVec 8) : EReal :=
  let e : BitVec 32 := b.setWidth 32 - 127#32
  if IntOp.cmpi .slt e 4294967170#32 = 1#1 then Ideal.ofBits .f32 0x00000000#32
  else if IntOp.cmpi .sgt e 127#32 = 1#1 then Ideal.ofBits .f32 0x7F800000#32
  else Ideal.exp2 ((e.toInt : ℝ) : EReal)

theorem ofBits_f32 (b : BitVec 32) : Ideal.ofBits .f32 b = Ideal.ieee 8 23 b := by rw [Ideal.ofBits.eq_def]

theorem word_fields : ∀ n : Fin 256,
    ((BitVec.ofNat 8 n.val).setWidth 32 <<< 23).extractLsb' 31 1 = 0#1
    ∧ (((BitVec.ofNat 8 n.val).setWidth 32 <<< 23).extractLsb' 23 8).toNat = n.val
    ∧ (((BitVec.ofNat 8 n.val).setWidth 32 <<< 23).extractLsb' 0 23).toNat = 0
    ∧ ((BitVec.ofNat 8 n.val).setWidth 32 - 127#32).toInt = (n.val : ℤ) - 127
    ∧ (IntOp.cmpi .slt ((BitVec.ofNat 8 n.val).setWidth 32 - 127#32) 4294967170#32 = 1#1 ↔ n.val = 0)
    ∧ (IntOp.cmpi .sgt ((BitVec.ofNat 8 n.val).setWidth 32 - 127#32) 127#32 = 1#1 ↔ n.val = 255) := by
  decide +kernel

theorem ieee_pow (n : ℕ) (w : BitVec 32) (h0 : w.extractLsb' 31 1 = 0#1) (h1 : (w.extractLsb' 23 8).toNat = n)
    (h2 : (w.extractLsb' 0 23).toNat = 0) (hn0 : n ≠ 0) (hn : n ≠ 255) :
    Ideal.ieee 8 23 w = (((2 : ℝ) ^ ((n : ℤ) - 127) : ℝ) : EReal) := by
  unfold Ideal.ieee
  simp only [h0, h1, h2]
  rw [if_neg (by simpa using hn), if_neg hn0]
  congr 1
  have h : (2 : ℝ) ^ ((n : ℤ) - 127) = (2 : ℝ) ^ (23 : ℤ) * (2 : ℝ) ^ ((n : ℤ) - (2 ^ (8 - 1) - 1) - (23 : ℕ)) := by
    rw [← zpow_add₀ (by norm_num)]; congr 1; push_cast; ring
  rw [h]
  norm_num

theorem ieee_top (w : BitVec 32) (h0 : w.extractLsb' 31 1 = 0#1) (h1 : (w.extractLsb' 23 8).toNat = 255)
    (h2 : (w.extractLsb' 0 23).toNat = 0) : Ideal.ieee 8 23 w = ⊤ := by
  unfold Ideal.ieee
  simp only [h0, h1, h2]
  norm_num

theorem ieee_zero (w : BitVec 32) (h1 : (w.extractLsb' 23 8).toNat = 0) (h2 : (w.extractLsb' 0 23).toNat = 0) :
    Ideal.ieee 8 23 w = 0 := by
  unfold Ideal.ieee
  simp only [h1, h2]
  norm_num

theorem pow2_eq (b : BitVec 8) : pow2 (b.setWidth 32) = scaleOf b := by
  obtain ⟨n, rfl⟩ : ∃ n : Fin 256, b = BitVec.ofNat 8 n.val := ⟨⟨b.toNat, b.isLt⟩, by simp⟩
  obtain ⟨h0, h1, h2, h3, h4, h5⟩ := word_fields n
  unfold pow2 scaleOf
  simp only [h4, h5, h3]
  by_cases hz : n.val = 0
  · rw [if_pos hz]
    rw [ofBits_f32, ofBits_f32, ieee_zero _ (h1.trans hz) h2, ieee_zero _ (by decide) (by decide)]
  · rw [if_neg hz]
    by_cases ht : n.val = 255
    · rw [if_pos ht]
      rw [ofBits_f32, ofBits_f32, ieee_top _ h0 (h1.trans ht) h2, ieee_top _ (by decide) (by decide) (by decide)]
    · rw [if_neg ht]
      rw [ofBits_f32, ieee_pow n.val _ h0 h1 h2 hz ht, Ideal.exp2_coe]
      have h := (Real.rpow_intCast 2 ((n.val : ℤ) - 127)).symm
      exact congrArg (fun r : ℝ => (r : EReal)) h

end Cert.Scales

end
-- ==== Proof.WidenTile.lean ====
/-
  ONE LANE TILE OF WIDENED CODES. A tile is 128 columns of a row block: the codes widened, each times the power of two of
  the scale of its row and of its run of 32 columns. Stated for any number of rows and for each of the 36 tiles of a row.
-/
module

public import proofs.«01_k».proof.Proof.Lanes
public import proofs.«01_k».proof.Proof.Scales

@[expose] public section

set_option maxRecDepth 16384

noncomputable section

namespace Cert.Lanes

open Idealize.ShloMosaic Cert.Scales

variable {R : ℕ}

/-- What a tile stores: the widened codes times the spread scales. -/
def tile (hi : (Sh R 128).Iotas .tc 32 [1]) (h1 : (Sh R 128).ShapeCasts ⟨3, ![R, 128, 1]⟩) (h2 : Shape.ShapeCasts ⟨3, ![R, 128, 1]⟩ (Sh R 128))
    (h3 : (Sh R 128).ShapeCasts (Sh R 128)) (off : Fin 2 → ℕ) (hs : (Sh R 256).Slices off (Sh R 128)) (s : FVec Ideal (Sh R 256) .bf16)
    (codes : FVec Ideal (Sh R 128) .fp8e4m3) (a : BitVec 32) : FVec Ideal (Sh R 128) .bf16 :=
  shapeCast (Sh R 128) (mulf (extf .bf16 codes (by decide)) (spread hi h1 h2 off hs s a)) h3

theorem tile_apply (hi : (Sh R 128).Iotas .tc 32 [1]) (h1 : (Sh R 128).ShapeCasts ⟨3, ![R, 128, 1]⟩) (h2 : Shape.ShapeCasts ⟨3, ![R, 128, 1]⟩ (Sh R 128))
    (h3 : (Sh R 128).ShapeCasts (Sh R 128)) (off : Fin 2 → ℕ) (hs : (Sh R 256).Slices off (Sh R 128)) (s : FVec Ideal (Sh R 256) .bf16)
    (codes : FVec Ideal (Sh R 128) .fp8e4m3) (a : ℕ) (ha : a < 32) (j : (Sh R 128).Idx)
    (k : (Sh R 256).Idx) (hk0 : (k 0).val = off 0 + (j 0).val) (hk1 : (k 1).val = off 1 + (4 * a + (j 1).val / 32)) :
    tile hi h1 h2 h3 off hs s codes (BitVec.ofNat 32 (4 * a)) j = (codes j : EReal) * (s k : EReal) := by
  unfold tile
  rw [shapeCast_self]
  show (FloatOps.mulf (F := Ideal) (FloatOps.extf .bf16 _ (codes j)) (spread hi h1 h2 off hs s (BitVec.ofNat 32 (4 * a)) j) : EReal) = _
  rw [spread_apply hi h1 h2 off hs s a ha j k hk0 hk1, Ideal.extf_def]
  rfl

/-- A row block's scales as powers of two, padded with zeros to 256 lanes. -/
def padded (hc : Shape.Concatenates [Sh R 144, Sh R 112] (Sh R 256) 1) (x : IVec (Sh R 144) 8) : FVec Ideal (Sh R 256) .bf16 :=
  concatenate (Sh R 256) 1 [⟨Sh R 144, truncf .bf16 (bitcastToFloat (F := Ideal) .f32 (shli (extui 32 x (by decide)) (broadcast (Sh R 144) 23#32))) (by decide)⟩,
    ⟨Sh R 112, broadcast (Sh R 112) (Scalar.sitofp (F := Ideal) .bf16 0#32)⟩] hc

theorem padded_apply (hc : Shape.Concatenates [Sh R 144, Sh R 112] (Sh R 256) 1) (x : IVec (Sh R 144) 8)
    (k : (Sh R 256).Idx) (i : (Sh R 144).Idx) (h0 : (i 0).val = (k 0).val) (h1 : (i 1).val = (k 1).val) :
    padded hc x k = pow2 ((x i).setWidth 32) := by
  unfold padded
  refine (concatenate_pair_apply_left (t := Sh R 256) (s₁ := Sh R 144) (s₂ := Sh R 112) (1 : Fin 2) _ _ hc k rfl i ?_).trans ?_
  · intro b
    match b with
    | ⟨0, _⟩ => exact h0
    | ⟨1, _⟩ => exact h1
  · refine (Ideal.truncf_def (φ := .f32) (ψ := .bf16) _ _).trans ?_
    rfl

/-- A row block's codes widened: each times the power of two of its row's scale for its run of 32 columns. -/
def widen (X : (Sh R 4608).Idx → Ideal .fp8e4m3) (x : IVec (Sh R 144) 8) : FVec Ideal (Sh R 4608) .bf16 := fun y =>
  (X y : EReal) * pow2 ((x (ix2 (y 0) (⟨(y 1).val / 32, Nat.div_lt_of_lt_mul (y 1).isLt⟩ : Fin 144))).setWidth 32)

/-- Tile `c` of the 36: column `128 c + l` of the codes times the scale of its run of 32. -/
theorem tile_value (hi : (Sh R 128).Iotas .tc 32 [1]) (h1 : (Sh R 128).ShapeCasts ⟨3, ![R, 128, 1]⟩) (h2 : Shape.ShapeCasts ⟨3, ![R, 128, 1]⟩ (Sh R 128))
    (h3 : (Sh R 128).ShapeCasts (Sh R 128)) (b : ℕ) (hs : (Sh R 256).Slices ![0, b] (Sh R 128))
    (hc : Shape.Concatenates [Sh R 144, Sh R 112] (Sh R 256) 1)
    (X : (Sh R 4608).Idx → Ideal .fp8e4m3) (x : IVec (Sh R 144) 8) (o a : ℕ) (ha : a < 32) (hob : o = 32 * (b + 4 * a))
    (inb : ∀ q, (![0, o] : Fin 2 → ℕ) q + (![R, 128] : Fin 2 → ℕ) q ≤ (Sh R 4608).size q)
    (inb' : ∀ q, (![0, 0] : Fin 2 → ℕ) q + (![R, 144] : Fin 2 → ℕ) q ≤ (Sh R 144).size q)
    (y : (Sh R 4608).Idx) (k : (Sh R 144).Idx) (hk0 : (k 0).val = (y 0).val) (hk1 : (k 1).val = (y 1).val / 32)
    (j : (Sh R 128).Idx) (hj0 : (y 0).val = (j 0).val) (hj1 : (y 1).val = o + (j 1).val) :
    tile hi h1 h2 h3 ![0, b] hs (padded hc (View.ld (S := Sh R 144) (Val := Elt Ideal) (e' := .i8) x (Rect.unit (s := Sh R 144) ![0, 0] ![R, 144] inb')))
        (View.ld (S := Sh R 4608) (Val := Elt Ideal) (e' := .fp8e4m3) X (Rect.unit (s := Sh R 4608) ![0, o] ![R, 128] inb)) (BitVec.ofNat 32 (4 * a)) j
      = (X y : EReal) * pow2 ((x k).setWidth 32) := by
  have hz : (![0, 0] : Fin 2 → Nat) = fun _ => 0 := funext fun a => by fin_cases a <;> rfl
  have hy : (y 1).val < 4608 := (y 1).isLt
  have hyR : (y 0).val < R := (y 0).isLt
  have hj : (j 1).val < 128 := (j 1).isLt
  rw [tile_apply hi h1 h2 h3 ![0, b] hs _ _ a ha j (ix2 (⟨(y 0).val, hyR⟩ : Fin R) (⟨(y 1).val / 32, by omega⟩ : Fin 256))
    (by show (y 0).val = 0 + (j 0).val; omega) (by show (y 1).val / 32 = b + (4 * a + (j 1).val / 32); omega)]
  rw [padded_apply hc _ _ k hk0 hk1]
  rw [View.ld_unit_apply_of (S := Sh R 4608) (Val := Elt Ideal) (e := .fp8e4m3) X ![0, o] ![R, 128] inb j y (by
    intro q
    match q with
    | ⟨0, _⟩ => show (y 0).val = 0 + (j 0).val; omega
    | ⟨1, _⟩ => exact hj1)]
  rw [View.ld_unit_apply_of (S := Sh R 144) (Val := Elt Ideal) (e := .i8) x ![0, 0] ![R, 144] inb' k k (by
    intro q
    match q with
    | ⟨0, _⟩ => show (k 0).val = 0 + (k 0).val; omega
    | ⟨1, _⟩ => show (k 1).val = 0 + (k 1).val; omega)]

end Cert.Lanes

end
-- ==== Proof.DgradTiles.lean ====
/-
  THE DGRAD BODY'S CASES, AS VALUES. At a point that opens a row of output blocks the body widens the row block's codes
  into the carried scratch; at every point it widens the column block's codes and stores the product. Both scratches are
  filled in 36 lane tiles; read back at an index each is `Cert.Lanes.widen` of the block's codes and scales.
-/
module

public import proofs.«01_k».proof.Proof.Gen.DgradIdeal.Frame
public import proofs.«01_k».proof.Proof.WidenTile
public import proofs.«01_k».proof.Proof.Scales
public import Idealize.ShloMosaic.Lib.Pipeline.Value
public import Idealize.ShloMosaic.Lib.Pipeline.ValueKit.Tiles

@[expose] public section

set_option maxRecDepth 16384

noncomputable section

namespace Cert.DgradIdeal.Tiles

open Idealize.ShloMosaic Idealize.ShloMosaic.TcCoe Idealize.SL.Sem
open Idealize.ShloMosaic.Pipeline (Dat)
open Cert.DgradIdeal Cert.DgradIdeal.Gen Cert.Lanes Cert.Scales

/-- A point that opens a row of blocks leaves the widened row block in the carried scratch. -/
theorem sout_A (c : Dev nD) (i : grid0.Coords) (arg2 : Memref sig .tc .vmem S1024x4608 .fp8e4m3) (harg2 : arg2.IsWhole) (arg3 : Memref sig .tc .vmem S1024x144 .i8) (harg3 : arg3.IsWhole) (arg4 : Memref sig .tc .vmem S512x4608 .fp8e4m3) (harg4 : arg4.IsWhole) (arg5 : Memref sig .tc .vmem S512x144 .i8) (harg5 : arg5.IsWhole) (arg6 : Memref sig .tc .vmem S1024x512 .bf16) (harg6 : arg6.IsWhole) (arg7 : Memref sig .tc .vmem S1024x4608 .bf16) (harg7 : arg7.IsWhole) (arg8 : Memref sig .tc .vmem S512x4608 .bf16) (harg8 : arg8.IsWhole) (hc0 : cond0_0 i) (x0 : Vec Ideal S1024x4608 .fp8e4m3) (x1 : Vec Ideal S1024x144 .i8) (x2 : Vec Ideal S512x4608 .fp8e4m3) (x3 : Vec Ideal S512x144 .i8) :
    sout0_A_0 c i arg2 harg2 arg3 harg3 arg4 harg4 arg5 harg5 arg6 harg6 arg7 harg7 arg8 harg8 hc0 x0 x1 x2 x3 = widen (R := 1024) x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  simp only [View.readAt_eq_ld, harg2.read_unread, harg3.read_unread]
  funext y
  canon_tiles x h
  · exact tile_value (R := 1024) _ _ _ shapeCasts_S1024x128_S1024x128 128 slices_S1024x256_o0_128_S1024x128 concatenates_S1024x144_S1024x112_S1024x256_d1 _ _ 4480 3 (by decide) (by decide) _ _ y _ rfl rfl x h0 h1
  · exact tile_value (R := 1024) _ _ _ shapeCasts_S1024x128_S1024x128 128 slices_S1024x256_o0_128_S1024x128 concatenates_S1024x144_S1024x112_S1024x256_d1 _ _ 4352 2 (by decide) (by decide) _ _ y _ rfl rfl x h0 h1
  · exact tile_value (R := 1024) _ _ _ shapeCasts_S1024x128_S1024x128 128 slices_S1024x256_o0_128_S1024x128 concatenates_S1024x144_S1024x112_S1024x256_d1 _ _ 4224 1 (by decide) (by decide) _ _ y _ rfl rfl x h0 h1
  · exact tile_value (R := 1024) _ _ _ shapeCasts_S1024x128_S1024x128 128 slices_S1024x256_o0_128_S1024x128 concatenates_S1024x144_S1024x112_S1024x256_d1 _ _ 4096 0 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3968 31 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3840 30 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3712 29 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3584 28 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3456 27 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3328 26 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3200 25 (by decide) (by decide) _ _ y _ rfl rfl x h0 h1
  · exact tile_value (R := 1024) _ _ _ shapeCasts_S1024x128_S1024x128 0 slices_S1024x256_o0_0_S1024x128 concatenates_S1024x144_S1024x112_S1024x256_d1 _ _ 3072 24 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2944 23 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2816 22 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2688 21 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2560 20 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2432 19 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2304 18 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2176 17 (by decide) (by decide) _ _ y _ rfl rfl x h0 h1
  · exact tile_value (R := 1024) _ _ _ shapeCasts_S1024x128_S1024x128 0 slices_S1024x256_o0_0_S1024x128 concatenates_S1024x144_S1024x112_S1024x256_d1 _ _ 2048 16 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1920 15 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1792 14 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1664 13 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1536 12 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1408 11 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1280 10 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1152 9 (by decide) (by decide) _ _ y _ rfl rfl x h0 h1
  · exact tile_value (R := 1024) _ _ _ shapeCasts_S1024x128_S1024x128 0 slices_S1024x256_o0_0_S1024x128 concatenates_S1024x144_S1024x112_S1024x256_d1 _ _ 1024 8 (by decide) (by decide) _ _ y _ rfl rfl x h0 h1
  · exact tile_value (R := 1024) _ _ _ shapeCasts_S1024x128_S1024x128 0 slices_S1024x256_o0_0_S1024x128 concatenates_S1024x144_S1024x112_S1024x256_d1 _ _ 896 7 (by decide) (by decide) _ _ y _ rfl rfl x h0 h1
  · exact tile_value (R := 1024) _ _ _ shapeCasts_S1024x128_S1024x128 0 slices_S1024x256_o0_0_S1024x128 concatenates_S1024x144_S1024x112_S1024x256_d1 _ _ 768 6 (by decide) (by decide) _ _ y _ rfl rfl x h0 h1
  · exact tile_value (R := 1024) _ _ _ shapeCasts_S1024x128_S1024x128 0 slices_S1024x256_o0_0_S1024x128 concatenates_S1024x144_S1024x112_S1024x256_d1 _ _ 640 5 (by decide) (by decide) _ _ y _ rfl rfl x h0 h1
  · exact tile_value (R := 1024) _ _ _ shapeCasts_S1024x128_S1024x128 0 slices_S1024x256_o0_0_S1024x128 concatenates_S1024x144_S1024x112_S1024x256_d1 _ _ 512 4 (by decide) (by decide) _ _ y _ rfl rfl x h0 h1
  · exact tile_value (R := 1024) _ _ _ shapeCasts_S1024x128_S1024x128 0 slices_S1024x256_o0_0_S1024x128 concatenates_S1024x144_S1024x112_S1024x256_d1 _ _ 384 3 (by decide) (by decide) _ _ y _ rfl rfl x h0 h1
  · exact tile_value (R := 1024) _ _ _ shapeCasts_S1024x128_S1024x128 0 slices_S1024x256_o0_0_S1024x128 concatenates_S1024x144_S1024x112_S1024x256_d1 _ _ 256 2 (by decide) (by decide) _ _ y _ rfl rfl x h0 h1
  · exact tile_value (R := 1024) _ _ _ shapeCasts_S1024x128_S1024x128 0 slices_S1024x256_o0_0_S1024x128 concatenates_S1024x144_S1024x112_S1024x256_d1 _ _ 128 1 (by decide) (by decide) _ _ y _ rfl rfl x h0 h1
  · exact tile_value (R := 1024) _ _ _ shapeCasts_S1024x128_S1024x128 0 slices_S1024x256_o0_0_S1024x128 concatenates_S1024x144_S1024x112_S1024x256_d1 _ _ 0 0 (by decide) (by decide) _ _ y _ rfl rfl x h0 (h1.trans (Nat.zero_add _).symm)

/-- Its output block: the product of the widened row block and the widened column block. -/
theorem out_A (c : Dev nD) (i : grid0.Coords) (arg2 : Memref sig .tc .vmem S1024x4608 .fp8e4m3) (harg2 : arg2.IsWhole) (arg3 : Memref sig .tc .vmem S1024x144 .i8) (harg3 : arg3.IsWhole) (arg4 : Memref sig .tc .vmem S512x4608 .fp8e4m3) (harg4 : arg4.IsWhole) (arg5 : Memref sig .tc .vmem S512x144 .i8) (harg5 : arg5.IsWhole) (arg6 : Memref sig .tc .vmem S1024x512 .bf16) (harg6 : arg6.IsWhole) (arg7 : Memref sig .tc .vmem S1024x4608 .bf16) (harg7 : arg7.IsWhole) (arg8 : Memref sig .tc .vmem S512x4608 .bf16) (harg8 : arg8.IsWhole) (hc0 : cond0_0 i) (x0 : Vec Ideal S1024x4608 .fp8e4m3) (x1 : Vec Ideal S1024x144 .i8) (x2 : Vec Ideal S512x4608 .fp8e4m3) (x3 : Vec Ideal S512x144 .i8) :
    out0_A_4 c i arg2 harg2 arg3 harg3 arg4 harg4 arg5 harg5 arg6 harg6 arg7 harg7 arg8 harg8 hc0 x0 x1 x2 x3 = k0_pay2 (F := Ideal) (widen (R := 1024) x0 x1) (widen (R := 512) x2 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz]
  simp only [View.readAt_eq_ld, harg2.read_unread, harg3.read_unread, harg4.read_unread, harg5.read_unread]
  congr 1
  · funext y
    rw [readCov_all _ _ hz]
    canon_tiles x h
    · exact tile_value (R := 1024) _ _ _ shapeCasts_S1024x128_S1024x128 128 slices_S1024x256_o0_128_S1024x128 concatenates_S1024x144_S1024x112_S1024x256_d1 _ _ 4480 3 (by decide) (by decide) _ _ y _ rfl rfl x h0 h1
    · exact tile_value (R := 1024) _ _ _ shapeCasts_S1024x128_S1024x128 128 slices_S1024x256_o0_128_S1024x128 concatenates_S1024x144_S1024x112_S1024x256_d1 _ _ 4352 2 (by decide) (by decide) _ _ y _ rfl rfl x h0 h1
    · exact tile_value (R := 1024) _ _ _ shapeCasts_S1024x128_S1024x128 128 slices_S1024x256_o0_128_S1024x128 concatenates_S1024x144_S1024x112_S1024x256_d1 _ _ 4224 1 (by decide) (by decide) _ _ y _ rfl rfl x h0 h1
    · exact tile_value (R := 1024) _ _ _ shapeCasts_S1024x128_S1024x128 128 slices_S1024x256_o0_128_S1024x128 concatenates_S1024x144_S1024x112_S1024x256_d1 _ _ 4096 0 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3968 31 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3840 30 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3712 29 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3584 28 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3456 27 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3328 26 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3200 25 (by decide) (by decide) _ _ y _ rfl rfl x h0 h1
    · exact tile_value (R := 1024) _ _ _ shapeCasts_S1024x128_S1024x128 0 slices_S1024x256_o0_0_S1024x128 concatenates_S1024x144_S1024x112_S1024x256_d1 _ _ 3072 24 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2944 23 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2816 22 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2688 21 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2560 20 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2432 19 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2304 18 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2176 17 (by decide) (by decide) _ _ y _ rfl rfl x h0 h1
    · exact tile_value (R := 1024) _ _ _ shapeCasts_S1024x128_S1024x128 0 slices_S1024x256_o0_0_S1024x128 concatenates_S1024x144_S1024x112_S1024x256_d1 _ _ 2048 16 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1920 15 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1792 14 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1664 13 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1536 12 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1408 11 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1280 10 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1152 9 (by decide) (by decide) _ _ y _ rfl rfl x h0 h1
    · exact tile_value (R := 1024) _ _ _ shapeCasts_S1024x128_S1024x128 0 slices_S1024x256_o0_0_S1024x128 concatenates_S1024x144_S1024x112_S1024x256_d1 _ _ 1024 8 (by decide) (by decide) _ _ y _ rfl rfl x h0 h1
    · exact tile_value (R := 1024) _ _ _ shapeCasts_S1024x128_S1024x128 0 slices_S1024x256_o0_0_S1024x128 concatenates_S1024x144_S1024x112_S1024x256_d1 _ _ 896 7 (by decide) (by decide) _ _ y _ rfl rfl x h0 h1
    · exact tile_value (R := 1024) _ _ _ shapeCasts_S1024x128_S1024x128 0 slices_S1024x256_o0_0_S1024x128 concatenates_S1024x144_S1024x112_S1024x256_d1 _ _ 768 6 (by decide) (by decide) _ _ y _ rfl rfl x h0 h1
    · exact tile_value (R := 1024) _ _ _ shapeCasts_S1024x128_S1024x128 0 slices_S1024x256_o0_0_S1024x128 concatenates_S1024x144_S1024x112_S1024x256_d1 _ _ 640 5 (by decide) (by decide) _ _ y _ rfl rfl x h0 h1
    · exact tile_value (R := 1024) _ _ _ shapeCasts_S1024x128_S1024x128 0 slices_S1024x256_o0_0_S1024x128 concatenates_S1024x144_S1024x112_S1024x256_d1 _ _ 512 4 (by decide) (by decide) _ _ y _ rfl rfl x h0 h1
    · exact tile_value (R := 1024) _ _ _ shapeCasts_S1024x128_S1024x128 0 slices_S1024x256_o0_0_S1024x128 concatenates_S1024x144_S1024x112_S1024x256_d1 _ _ 384 3 (by decide) (by decide) _ _ y _ rfl rfl x h0 h1
    · exact tile_value (R := 1024) _ _ _ shapeCasts_S1024x128_S1024x128 0 slices_S1024x256_o0_0_S1024x128 concatenates_S1024x144_S1024x112_S1024x256_d1 _ _ 256 2 (by decide) (by decide) _ _ y _ rfl rfl x h0 h1
    · exact tile_value (R := 1024) _ _ _ shapeCasts_S1024x128_S1024x128 0 slices_S1024x256_o0_0_S1024x128 concatenates_S1024x144_S1024x112_S1024x256_d1 _ _ 128 1 (by decide) (by decide) _ _ y _ rfl rfl x h0 h1
    · exact tile_value (R := 1024) _ _ _ shapeCasts_S1024x128_S1024x128 0 slices_S1024x256_o0_0_S1024x128 concatenates_S1024x144_S1024x112_S1024x256_d1 _ _ 0 0 (by decide) (by decide) _ _ y _ rfl rfl x h0 (h1.trans (Nat.zero_add _).symm)
  · funext y
    rw [readCov_all _ _ hz]
    canon_tiles x h
    · exact tile_value (R := 512) _ _ _ shapeCasts_S512x128_S512x128 128 slices_S512x256_o0_128_S512x128 concatenates_S512x144_S512x112_S512x256_d1 _ _ 4480 3 (by decide) (by decide) _ _ y _ rfl rfl x h0 h1
    · exact tile_value (R := 512) _ _ _ shapeCasts_S512x128_S512x128 128 slices_S512x256_o0_128_S512x128 concatenates_S512x144_S512x112_S512x256_d1 _ _ 4352 2 (by decide) (by decide) _ _ y _ rfl rfl x h0 h1
    · exact tile_value (R := 512) _ _ _ shapeCasts_S512x128_S512x128 128 slices_S512x256_o0_128_S512x128 concatenates_S512x144_S512x112_S512x256_d1 _ _ 4224 1 (by decide) (by decide) _ _ y _ rfl rfl x h0 h1
    · exact tile_value (R := 512) _ _ _ shapeCasts_S512x128_S512x128 128 slices_S512x256_o0_128_S512x128 concatenates_S512x144_S512x112_S512x256_d1 _ _ 4096 0 (by decide) (by decide) _ _ y _ rfl rfl x h0 h1
    · exact tile_value (R := 512) _ _ _ shapeCasts_S512x128_S512x128 0 slices_S512x256_o0_0_S512x128 concatenates_S512x144_S512x112_S512x256_d1 _ _ 3968 31 (by decide) (by decide) _ _ y _ rfl rfl x h0 h1
    · exact tile_value (R := 512) _ _ _ shapeCasts_S512x128_S512x128 0 slices_S512x256_o0_0_S512x128 concatenates_S512x144_S512x112_S512x256_d1 _ _ 3840 30 (by decide) (by decide) _ _ y _ rfl rfl x h0 h1
    · exact tile_value (R := 512) _ _ _ shapeCasts_S512x128_S512x128 0 slices_S512x256_o0_0_S512x128 concatenates_S512x144_S512x112_S512x256_d1 _ _ 3712 29 (by decide) (by decide) _ _ y _ rfl rfl x h0 h1
    · exact tile_value (R := 512) _ _ _ shapeCasts_S512x128_S512x128 0 slices_S512x256_o0_0_S512x128 concatenates_S512x144_S512x112_S512x256_d1 _ _ 3584 28 (by decide) (by decide) _ _ y _ rfl rfl x h0 h1
    · exact tile_value (R := 512) _ _ _ shapeCasts_S512x128_S512x128 0 slices_S512x256_o0_0_S512x128 concatenates_S512x144_S512x112_S512x256_d1 _ _ 3456 27 (by decide) (by decide) _ _ y _ rfl rfl x h0 h1
    · exact tile_value (R := 512) _ _ _ shapeCasts_S512x128_S512x128 0 slices_S512x256_o0_0_S512x128 concatenates_S512x144_S512x112_S512x256_d1 _ _ 3328 26 (by decide) (by decide) _ _ y _ rfl rfl x h0 h1
    · exact tile_value (R := 512) _ _ _ shapeCasts_S512x128_S512x128 0 slices_S512x256_o0_0_S512x128 concatenates_S512x144_S512x112_S512x256_d1 _ _ 3200 25 (by decide) (by decide) _ _ y _ rfl rfl x h0 h1
    · exact tile_value (R := 512) _ _ _ shapeCasts_S512x128_S512x128 0 slices_S512x256_o0_0_S512x128 concatenates_S512x144_S512x112_S512x256_d1 _ _ 3072 24 (by decide) (by decide) _ _ y _ rfl rfl x h0 h1
    · exact tile_value (R := 512) _ _ _ shapeCasts_S512x128_S512x128 0 slices_S512x256_o0_0_S512x128 concatenates_S512x144_S512x112_S512x256_d1 _ _ 2944 23 (by decide) (by decide) _ _ y _ rfl rfl x h0 h1
    · exact tile_value (R := 512) _ _ _ shapeCasts_S512x128_S512x128 0 slices_S512x256_o0_0_S512x128 concatenates_S512x144_S512x112_S512x256_d1 _ _ 2816 22 (by decide) (by decide) _ _ y _ rfl rfl x h0 h1
    · exact tile_value (R := 512) _ _ _ shapeCasts_S512x128_S512x128 0 slices_S512x256_o0_0_S512x128 concatenates_S512x144_S512x112_S512x256_d1 _ _ 2688 21 (by decide) (by decide) _ _ y _ rfl rfl x h0 h1
    · exact tile_value (R := 512) _ _ _ shapeCasts_S512x128_S512x128 0 slices_S512x256_o0_0_S512x128 concatenates_S512x144_S512x112_S512x256_d1 _ _ 2560 20 (by decide) (by decide) _ _ y _ rfl rfl x h0 h1
    · exact tile_value (R := 512) _ _ _ shapeCasts_S512x128_S512x128 0 slices_S512x256_o0_0_S512x128 concatenates_S512x144_S512x112_S512x256_d1 _ _ 2432 19 (by decide) (by decide) _ _ y _ rfl rfl x h0 h1
    · exact tile_value (R := 512) _ _ _ shapeCasts_S512x128_S512x128 0 slices_S512x256_o0_0_S512x128 concatenates_S512x144_S512x112_S512x256_d1 _ _ 2304 18 (by decide) (by decide) _ _ y _ rfl rfl x h0 h1
    · exact tile_value (R := 512) _ _ _ shapeCasts_S512x128_S512x128 0 slices_S512x256_o0_0_S512x128 concatenates_S512x144_S512x112_S512x256_d1 _ _ 2176 17 (by decide) (by decide) _ _ y _ rfl rfl x h0 h1
    · exact tile_value (R := 512) _ _ _ shapeCasts_S512x128_S512x128 0 slices_S512x256_o0_0_S512x128 concatenates_S512x144_S512x112_S512x256_d1 _ _ 2048 16 (by decide) (by decide) _ _ y _ rfl rfl x h0 h1
    · exact tile_value (R := 512) _ _ _ shapeCasts_S512x128_S512x128 0 slices_S512x256_o0_0_S512x128 concatenates_S512x144_S512x112_S512x256_d1 _ _ 1920 15 (by decide) (by decide) _ _ y _ rfl rfl x h0 h1
    · exact tile_value (R := 512) _ _ _ shapeCasts_S512x128_S512x128 0 slices_S512x256_o0_0_S512x128 concatenates_S512x144_S512x112_S512x256_d1 _ _ 1792 14 (by decide) (by decide) _ _ y _ rfl rfl x h0 h1
    · exact tile_value (R := 512) _ _ _ shapeCasts_S512x128_S512x128 0 slices_S512x256_o0_0_S512x128 concatenates_S512x144_S512x112_S512x256_d1 _ _ 1664 13 (by decide) (by decide) _ _ y _ rfl rfl x h0 h1
    · exact tile_value (R := 512) _ _ _ shapeCasts_S512x128_S512x128 0 slices_S512x256_o0_0_S512x128 concatenates_S512x144_S512x112_S512x256_d1 _ _ 1536 12 (by decide) (by decide) _ _ y _ rfl rfl x h0 h1
    · exact tile_value (R := 512) _ _ _ shapeCasts_S512x128_S512x128 0 slices_S512x256_o0_0_S512x128 concatenates_S512x144_S512x112_S512x256_d1 _ _ 1408 11 (by decide) (by decide) _ _ y _ rfl rfl x h0 h1
    · exact tile_value (R := 512) _ _ _ shapeCasts_S512x128_S512x128 0 slices_S512x256_o0_0_S512x128 concatenates_S512x144_S512x112_S512x256_d1 _ _ 1280 10 (by decide) (by decide) _ _ y _ rfl rfl x h0 h1
    · exact tile_value (R := 512) _ _ _ shapeCasts_S512x128_S512x128 0 slices_S512x256_o0_0_S512x128 concatenates_S512x144_S512x112_S512x256_d1 _ _ 1152 9 (by decide) (by decide) _ _ y _ rfl rfl x h0 h1
    · exact tile_value (R := 512) _ _ _ shapeCasts_S512x128_S512x128 0 slices_S512x256_o0_0_S512x128 concatenates_S512x144_S512x112_S512x256_d1 _ _ 1024 8 (by decide) (by decide) _ _ y _ rfl rfl x h0 h1
    · exact tile_value (R := 512) _ _ _ shapeCasts_S512x128_S512x128 0 slices_S512x256_o0_0_S512x128 concatenates_S512x144_S512x112_S512x256_d1 _ _ 896 7 (by decide) (by decide) _ _ y _ rfl rfl x h0 h1
    · exact tile_value (R := 512) _ _ _ shapeCasts_S512x128_S512x128 0 slices_S512x256_o0_0_S512x128 concatenates_S512x144_S512x112_S512x256_d1 _ _ 768 6 (by decide) (by decide) _ _ y _ rfl rfl x h0 h1
    · exact tile_value (R := 512) _ _ _ shapeCasts_S512x128_S512x128 0 slices_S512x256_o0_0_S512x128 concatenates_S512x144_S512x112_S512x256_d1 _ _ 640 5 (by decide) (by decide) _ _ y _ rfl rfl x h0 h1
    · exact tile_value (R := 512) _ _ _ shapeCasts_S512x128_S512x128 0 slices_S512x256_o0_0_S512x128 concatenates_S512x144_S512x112_S512x256_d1 _ _ 512 4 (by decide) (by decide) _ _ y _ rfl rfl x h0 h1
    · exact tile_value (R := 512) _ _ _ shapeCasts_S512x128_S512x128 0 slices_S512x256_o0_0_S512x128 concatenates_S512x144_S512x112_S512x256_d1 _ _ 384 3 (by decide) (by decide) _ _ y _ rfl rfl x h0 h1
    · exact tile_value (R := 512) _ _ _ shapeCasts_S512x128_S512x128 0 slices_S512x256_o0_0_S512x128 concatenates_S512x144_S512x112_S512x256_d1 _ _ 256 2 (by decide) (by decide) _ _ y _ rfl rfl x h0 h1
    · exact tile_value (R := 512) _ _ _ shapeCasts_S512x128_S512x128 0 slices_S512x256_o0_0_S512x128 concatenates_S512x144_S512x112_S512x256_d1 _ _ 128 1 (by decide) (by decide) _ _ y _ rfl rfl x h0 h1
    · exact tile_value (R := 512) _ _ _ shapeCasts_S512x128_S512x128 0 slices_S512x256_o0_0_S512x128 concatenates_S512x144_S512x112_S512x256_d1 _ _ 0 0 (by decide) (by decide) _ _ y _ rfl rfl x h0 (h1.trans (Nat.zero_add _).symm)

/-- At the other points the scratch is what the point before left. -/
theorem out_B (c : Dev nD) (i : grid0.Coords) (arg2 : Memref sig .tc .vmem S1024x4608 .fp8e4m3) (harg2 : arg2.IsWhole) (arg3 : Memref sig .tc .vmem S1024x144 .i8) (harg3 : arg3.IsWhole) (arg4 : Memref sig .tc .vmem S512x4608 .fp8e4m3) (harg4 : arg4.IsWhole) (arg5 : Memref sig .tc .vmem S512x144 .i8) (harg5 : arg5.IsWhole) (arg6 : Memref sig .tc .vmem S1024x512 .bf16) (harg6 : arg6.IsWhole) (arg7 : Memref sig .tc .vmem S1024x4608 .bf16) (harg7 : arg7.IsWhole) (arg8 : Memref sig .tc .vmem S512x4608 .bf16) (harg8 : arg8.IsWhole) (hc0 : ¬cond0_0 i) (x0 : Vec Ideal S1024x4608 .fp8e4m3) (x1 : Vec Ideal S1024x144 .i8) (x2 : Vec Ideal S512x4608 .fp8e4m3) (x3 : Vec Ideal S512x144 .i8) (xs0 : Vec Ideal S1024x4608 .bf16) :
    out0_B_4 c i arg2 harg2 arg3 harg3 arg4 harg4 arg5 harg5 arg6 harg6 arg7 harg7 arg8 harg8 hc0 x0 x1 x2 x3 xs0 = k0_pay2 (F := Ideal) xs0 (widen (R := 512) x2 x3) := by
  unfold out0_B_4
  rw [View.read_writes_eq_canon _ _ _ (cover0_B_4 c i arg2 harg2 arg3 harg3 arg4 harg4 arg5 harg5 arg6 harg6 arg7 harg7 arg8 harg8 hc0 x0 x1 x2 x3 xs0)]
  unfold kernelRun0_B
  dsimp only
  sl_unfold_words
  rw [View.canon_unit_zero hz]
  simp only [View.readAt_eq_ld, harg4.read_unread, harg5.read_unread, harg7.read_unread, View.ld_unit_zero (S := S1024x4608) hz]
  congr 1
  funext y
  rw [readCov_all _ _ hz]
  canon_tiles x h
  · exact tile_value (R := 512) _ _ _ shapeCasts_S512x128_S512x128 128 slices_S512x256_o0_128_S512x128 concatenates_S512x144_S512x112_S512x256_d1 _ _ 4480 3 (by decide) (by decide) _ _ y _ rfl rfl x h0 h1
  · exact tile_value (R := 512) _ _ _ shapeCasts_S512x128_S512x128 128 slices_S512x256_o0_128_S512x128 concatenates_S512x144_S512x112_S512x256_d1 _ _ 4352 2 (by decide) (by decide) _ _ y _ rfl rfl x h0 h1
  · exact tile_value (R := 512) _ _ _ shapeCasts_S512x128_S512x128 128 slices_S512x256_o0_128_S512x128 concatenates_S512x144_S512x112_S512x256_d1 _ _ 4224 1 (by decide) (by decide) _ _ y _ rfl rfl x h0 h1
  · exact tile_value (R := 512) _ _ _ shapeCasts_S512x128_S512x128 128 slices_S512x256_o0_128_S512x128 concatenates_S512x144_S512x112_S512x256_d1 _ _ 4096 0 (by decide) (by decide) _ _ y _ rfl rfl x h0 h1
  · exact tile_value (R := 512) _ _ _ shapeCasts_S512x128_S512x128 0 slices_S512x256_o0_0_S512x128 concatenates_S512x144_S512x112_S512x256_d1 _ _ 3968 31 (by decide) (by decide) _ _ y _ rfl rfl x h0 h1
  · exact tile_value (R := 512) _ _ _ shapeCasts_S512x128_S512x128 0 slices_S512x256_o0_0_S512x128 concatenates_S512x144_S512x112_S512x256_d1 _ _ 3840 30 (by decide) (by decide) _ _ y _ rfl rfl x h0 h1
  · exact tile_value (R := 512) _ _ _ shapeCasts_S512x128_S512x128 0 slices_S512x256_o0_0_S512x128 concatenates_S512x144_S512x112_S512x256_d1 _ _ 3712 29 (by decide) (by decide) _ _ y _ rfl rfl x h0 h1
  · exact tile_value (R := 512) _ _ _ shapeCasts_S512x128_S512x128 0 slices_S512x256_o0_0_S512x128 concatenates_S512x144_S512x112_S512x256_d1 _ _ 3584 28 (by decide) (by decide) _ _ y _ rfl rfl x h0 h1
  · exact tile_value (R := 512) _ _ _ shapeCasts_S512x128_S512x128 0 slices_S512x256_o0_0_S512x128 concatenates_S512x144_S512x112_S512x256_d1 _ _ 3456 27 (by decide) (by decide) _ _ y _ rfl rfl x h0 h1
  · exact tile_value (R := 512) _ _ _ shapeCasts_S512x128_S512x128 0 slices_S512x256_o0_0_S512x128 concatenates_S512x144_S512x112_S512x256_d1 _ _ 3328 26 (by decide) (by decide) _ _ y _ rfl rfl x h0 h1
  · exact tile_value (R := 512) _ _ _ shapeCasts_S512x128_S512x128 0 slices_S512x256_o0_0_S512x128 concatenates_S512x144_S512x112_S512x256_d1 _ _ 3200 25 (by decide) (by decide) _ _ y _ rfl rfl x h0 h1
  · exact tile_value (R := 512) _ _ _ shapeCasts_S512x128_S512x128 0 slices_S512x256_o0_0_S512x128 concatenates_S512x144_S512x112_S512x256_d1 _ _ 3072 24 (by decide) (by decide) _ _ y _ rfl rfl x h0 h1
  · exact tile_value (R := 512) _ _ _ shapeCasts_S512x128_S512x128 0 slices_S512x256_o0_0_S512x128 concatenates_S512x144_S512x112_S512x256_d1 _ _ 2944 23 (by decide) (by decide) _ _ y _ rfl rfl x h0 h1
  · exact tile_value (R := 512) _ _ _ shapeCasts_S512x128_S512x128 0 slices_S512x256_o0_0_S512x128 concatenates_S512x144_S512x112_S512x256_d1 _ _ 2816 22 (by decide) (by decide) _ _ y _ rfl rfl x h0 h1
  · exact tile_value (R := 512) _ _ _ shapeCasts_S512x128_S512x128 0 slices_S512x256_o0_0_S512x128 concatenates_S512x144_S512x112_S512x256_d1 _ _ 2688 21 (by decide) (by decide) _ _ y _ rfl rfl x h0 h1
  · exact tile_value (R := 512) _ _ _ shapeCasts_S512x128_S512x128 0 slices_S512x256_o0_0_S512x128 concatenates_S512x144_S512x112_S512x256_d1 _ _ 2560 20 (by decide) (by decide) _ _ y _ rfl rfl x h0 h1
  · exact tile_value (R := 512) _ _ _ shapeCasts_S512x128_S512x128 0 slices_S512x256_o0_0_S512x128 concatenates_S512x144_S512x112_S512x256_d1 _ _ 2432 19 (by decide) (by decide) _ _ y _ rfl rfl x h0 h1
  · exact tile_value (R := 512) _ _ _ shapeCasts_S512x128_S512x128 0 slices_S512x256_o0_0_S512x128 concatenates_S512x144_S512x112_S512x256_d1 _ _ 2304 18 (by decide) (by decide) _ _ y _ rfl rfl x h0 h1
  · exact tile_value (R := 512) _ _ _ shapeCasts_S512x128_S512x128 0 slices_S512x256_o0_0_S512x128 concatenates_S512x144_S512x112_S512x256_d1 _ _ 2176 17 (by decide) (by decide) _ _ y _ rfl rfl x h0 h1
  · exact tile_value (R := 512) _ _ _ shapeCasts_S512x128_S512x128 0 slices_S512x256_o0_0_S512x128 concatenates_S512x144_S512x112_S512x256_d1 _ _ 2048 16 (by decide) (by decide) _ _ y _ rfl rfl x h0 h1
  · exact tile_value (R := 512) _ _ _ shapeCasts_S512x128_S512x128 0 slices_S512x256_o0_0_S512x128 concatenates_S512x144_S512x112_S512x256_d1 _ _ 1920 15 (by decide) (by decide) _ _ y _ rfl rfl x h0 h1
  · exact tile_value (R := 512) _ _ _ shapeCasts_S512x128_S512x128 0 slices_S512x256_o0_0_S512x128 concatenates_S512x144_S512x112_S512x256_d1 _ _ 1792 14 (by decide) (by decide) _ _ y _ rfl rfl x h0 h1
  · exact tile_value (R := 512) _ _ _ shapeCasts_S512x128_S512x128 0 slices_S512x256_o0_0_S512x128 concatenates_S512x144_S512x112_S512x256_d1 _ _ 1664 13 (by decide) (by decide) _ _ y _ rfl rfl x h0 h1
  · exact tile_value (R := 512) _ _ _ shapeCasts_S512x128_S512x128 0 slices_S512x256_o0_0_S512x128 concatenates_S512x144_S512x112_S512x256_d1 _ _ 1536 12 (by decide) (by decide) _ _ y _ rfl rfl x h0 h1
  · exact tile_value (R := 512) _ _ _ shapeCasts_S512x128_S512x128 0 slices_S512x256_o0_0_S512x128 concatenates_S512x144_S512x112_S512x256_d1 _ _ 1408 11 (by decide) (by decide) _ _ y _ rfl rfl x h0 h1
  · exact tile_value (R := 512) _ _ _ shapeCasts_S512x128_S512x128 0 slices_S512x256_o0_0_S512x128 concatenates_S512x144_S512x112_S512x256_d1 _ _ 1280 10 (by decide) (by decide) _ _ y _ rfl rfl x h0 h1
  · exact tile_value (R := 512) _ _ _ shapeCasts_S512x128_S512x128 0 slices_S512x256_o0_0_S512x128 concatenates_S512x144_S512x112_S512x256_d1 _ _ 1152 9 (by decide) (by decide) _ _ y _ rfl rfl x h0 h1
  · exact tile_value (R := 512) _ _ _ shapeCasts_S512x128_S512x128 0 slices_S512x256_o0_0_S512x128 concatenates_S512x144_S512x112_S512x256_d1 _ _ 1024 8 (by decide) (by decide) _ _ y _ rfl rfl x h0 h1
  · exact tile_value (R := 512) _ _ _ shapeCasts_S512x128_S512x128 0 slices_S512x256_o0_0_S512x128 concatenates_S512x144_S512x112_S512x256_d1 _ _ 896 7 (by decide) (by decide) _ _ y _ rfl rfl x h0 h1
  · exact tile_value (R := 512) _ _ _ shapeCasts_S512x128_S512x128 0 slices_S512x256_o0_0_S512x128 concatenates_S512x144_S512x112_S512x256_d1 _ _ 768 6 (by decide) (by decide) _ _ y _ rfl rfl x h0 h1
  · exact tile_value (R := 512) _ _ _ shapeCasts_S512x128_S512x128 0 slices_S512x256_o0_0_S512x128 concatenates_S512x144_S512x112_S512x256_d1 _ _ 640 5 (by decide) (by decide) _ _ y _ rfl rfl x h0 h1
  · exact tile_value (R := 512) _ _ _ shapeCasts_S512x128_S512x128 0 slices_S512x256_o0_0_S512x128 concatenates_S512x144_S512x112_S512x256_d1 _ _ 512 4 (by decide) (by decide) _ _ y _ rfl rfl x h0 h1
  · exact tile_value (R := 512) _ _ _ shapeCasts_S512x128_S512x128 0 slices_S512x256_o0_0_S512x128 concatenates_S512x144_S512x112_S512x256_d1 _ _ 384 3 (by decide) (by decide) _ _ y _ rfl rfl x h0 h1
  · exact tile_value (R := 512) _ _ _ shapeCasts_S512x128_S512x128 0 slices_S512x256_o0_0_S512x128 concatenates_S512x144_S512x112_S512x256_d1 _ _ 256 2 (by decide) (by decide) _ _ y _ rfl rfl x h0 h1
  · exact tile_value (R := 512) _ _ _ shapeCasts_S512x128_S512x128 0 slices_S512x256_o0_0_S512x128 concatenates_S512x144_S512x112_S512x256_d1 _ _ 128 1 (by decide) (by decide) _ _ y _ rfl rfl x h0 h1
  · exact tile_value (R := 512) _ _ _ shapeCasts_S512x128_S512x128 0 slices_S512x256_o0_0_S512x128 concatenates_S512x144_S512x112_S512x256_d1 _ _ 0 0 (by decide) (by decide) _ _ y _ rfl rfl x h0 (h1.trans (Nat.zero_add _).symm)

end Cert.DgradIdeal.Tiles

end
-- ==== Proof.DgradValue.lean ====
/-
  THE DGRAD KERNEL'S RESULT, AS A VALUE. After each point the carried scratch holds the widened row block of the point's
  grid row (stored at the row's first point, kept by the others), and the output block is the product of the two widened
  blocks. So the array the call returns is, entry by entry, the sum over the 4608 columns of widened dy times widened W.
-/
module

public import proofs.«01_k».proof.Proof.Gen.DgradIdeal.Value
public import proofs.«01_k».proof.Proof.DgradTiles

@[expose] public section

set_option maxRecDepth 16384

noncomputable section

namespace Cert.DgradIdeal.Tiles

open Idealize.ShloMosaic Idealize.ShloMosaic.TcCoe Idealize.SL.Sem
open Idealize.ShloMosaic.Pipeline (Dat)
open Cert.DgradIdeal Cert.DgradIdeal.Gen Cert.Lanes Cert.Scales

variable (m : (ℓ : Loc nD τ sig) → Buf (Elt Ideal) ℓ)

/-- The product the body stores, at an entry. -/
theorem pay2_apply (l : Vec Ideal S1024x4608 .bf16) (r : Vec Ideal S512x4608 .bf16) (a : Fin 1024) (b : Fin 512) :
    k0_pay2 (F := Ideal) l r (ix2 a b) = ∑ k : Fin 4608, (l (ix2 a k) : EReal) * (r (ix2 b k) : EReal) := by
  unfold k0_pay2
  pointwise

/-- The windows' block indices, decided over the grid: the row block is the point over 24, the column block the rest. -/
theorem idx_all : ∀ t : Fin cfg0.N,
    (win0_0.index t (0 : Fin 2) = t.val / 24 ∧ win0_0.index t (1 : Fin 2) = 0)
    ∧ (win0_1.index t (0 : Fin 2) = t.val / 24 ∧ win0_1.index t (1 : Fin 2) = 0)
    ∧ (win0_2.index t (0 : Fin 2) = t.val % 24 ∧ win0_2.index t (1 : Fin 2) = 0)
    ∧ (win0_3.index t (0 : Fin 2) = t.val % 24 ∧ win0_3.index t (1 : Fin 2) = 0)
    ∧ (win0_4.index t (0 : Fin 2) = t.val / 24 ∧ win0_4.index t (1 : Fin 2) = t.val % 24) :=
  (by decide +kernel : ∀ t : Fin grid0.N, _)

theorem lt_N (t : Fin cfg0.N) : t.val < 144 := lt_of_lt_of_eq t.isLt N_0

/-- A block of each argument, at an index: the argument's entry. -/
theorem iblk0_apply (c : Dev nD) (t : Fin cfg0.N) (a : Fin 1024) (k : Fin 4608) :
    iblk m c 0 t (ix2 a k) = m ((c : Thread nD τ).loc main_arg0) (ix2 (⟨1024 * (t.val / 24) + a.val, by have := lt_N t; omega⟩ : Fin 6144) k) := by
  obtain ⟨⟨h0, h1⟩, _⟩ := idx_all t
  show V m c (Pipeline.arrRef spec0 0) (((cfg0.win 0).blk t).view.emb (ix2 a k)) = _
  rw [show V m c (Pipeline.arrRef spec0 0) = m ((c : Thread nD τ).loc main_arg0) from V_main_arg0 m c]
  congr 1
  funext q; apply Fin.ext
  match q with
  | ⟨0, _⟩ => show win0_0.index t (0 : Fin 2) * 1024 + 1 * a.val = 1024 * (t.val / 24) + a.val; rw [h0]; omega
  | ⟨1, _⟩ => show win0_0.index t (1 : Fin 2) * 4608 + 1 * k.val = k.val; rw [h1]; omega

theorem iblk1_apply (c : Dev nD) (t : Fin cfg0.N) (a : Fin 1024) (k : Fin 144) :
    iblk m c 1 t (ix2 a k) = m ((c : Thread nD τ).loc main_arg1) (ix2 (⟨1024 * (t.val / 24) + a.val, by have := lt_N t; omega⟩ : Fin 6144) k) := by
  obtain ⟨_, ⟨h0, h1⟩, _⟩ := idx_all t
  show V m c (Pipeline.arrRef spec0 1) (((cfg0.win 1).blk t).view.emb (ix2 a k)) = _
  rw [show V m c (Pipeline.arrRef spec0 1) = m ((c : Thread nD τ).loc main_arg1) from V_main_arg1 m c]
  congr 1
  funext q; apply Fin.ext
  match q with
  | ⟨0, _⟩ => show win0_1.index t (0 : Fin 2) * 1024 + 1 * a.val = 1024 * (t.val / 24) + a.val; rw [h0]; omega
  | ⟨1, _⟩ => show win0_1.index t (1 : Fin 2) * 144 + 1 * k.val = k.val; rw [h1]; omega

theorem iblk2_apply (c : Dev nD) (t : Fin cfg0.N) (a : Fin 512) (k : Fin 4608) :
    iblk m c 2 t (ix2 a k) = m ((c : Thread nD τ).loc main_arg2) (ix2 (⟨512 * (t.val % 24) + a.val, by omega⟩ : Fin 12288) k) := by
  obtain ⟨_, _, ⟨h0, h1⟩, _⟩ := idx_all t
  show V m c (Pipeline.arrRef spec0 2) (((cfg0.win 2).blk t).view.emb (ix2 a k)) = _
  rw [show V m c (Pipeline.arrRef spec0 2) = m ((c : Thread nD τ).loc main_arg2) from V_main_arg2 m c]
  congr 1
  funext q; apply Fin.ext
  match q with
  | ⟨0, _⟩ => show win0_2.index t (0 : Fin 2) * 512 + 1 * a.val = 512 * (t.val % 24) + a.val; rw [h0]; omega
  | ⟨1, _⟩ => show win0_2.index t (1 : Fin 2) * 4608 + 1 * k.val = k.val; rw [h1]; omega

theorem iblk3_apply (c : Dev nD) (t : Fin cfg0.N) (a : Fin 512) (k : Fin 144) :
    iblk m c 3 t (ix2 a k) = m ((c : Thread nD τ).loc main_arg3) (ix2 (⟨512 * (t.val % 24) + a.val, by omega⟩ : Fin 12288) k) := by
  obtain ⟨_, _, _, ⟨h0, h1⟩, _⟩ := idx_all t
  show V m c (Pipeline.arrRef spec0 3) (((cfg0.win 3).blk t).view.emb (ix2 a k)) = _
  rw [show V m c (Pipeline.arrRef spec0 3) = m ((c : Thread nD τ).loc main_arg3) from V_main_arg3 m c]
  congr 1
  funext q; apply Fin.ext
  match q with
  | ⟨0, _⟩ => show win0_3.index t (0 : Fin 2) * 512 + 1 * a.val = 512 * (t.val % 24) + a.val; rw [h0]; omega
  | ⟨1, _⟩ => show win0_3.index t (1 : Fin 2) * 144 + 1 * k.val = k.val; rw [h1]; omega

/-- The launched arguments, widened. -/
def wideDy (c : Dev nD) : FVec Ideal (Sh 6144 4608) .bf16 := widen (R := 6144) (m ((c : Thread nD τ).loc main_arg0)) (m ((c : Thread nD τ).loc main_arg1))
def wideW (c : Dev nD) : FVec Ideal (Sh 12288 4608) .bf16 := widen (R := 12288) (m ((c : Thread nD τ).loc main_arg2)) (m ((c : Thread nD τ).loc main_arg3))

theorem widen_dy (c : Dev nD) (t : Fin cfg0.N) (a : Fin 1024) (k : Fin 4608) :
    widen (R := 1024) (iblk m c 0 t) (iblk m c 1 t) (ix2 a k) = wideDy m c (ix2 (⟨1024 * (t.val / 24) + a.val, by have := lt_N t; omega⟩ : Fin 6144) k) := by
  unfold wideDy widen
  rw [iblk0_apply]
  congr 3
  exact iblk1_apply m c t a _

theorem widen_w (c : Dev nD) (t : Fin cfg0.N) (a : Fin 512) (k : Fin 4608) :
    widen (R := 512) (iblk m c 2 t) (iblk m c 3 t) (ix2 a k) = wideW m c (ix2 (⟨512 * (t.val % 24) + a.val, by omega⟩ : Fin 12288) k) := by
  unfold wideW widen
  rw [iblk2_apply]
  congr 3
  exact iblk3_apply m c t a _

/-- Two points of one grid row see one row block. -/
theorem row_congr (c : Dev nD) (t t' : Fin cfg0.N) (h : t.val / 24 = t'.val / 24) :
    widen (R := 1024) (iblk m c 0 t) (iblk m c 1 t) = widen (R := 1024) (iblk m c 0 t') (iblk m c 1 t') := by
  funext y
  obtain ⟨a, k, rfl⟩ : ∃ (a : Fin 1024) (k : Fin 4608), y = ix2 a k := ⟨y 0, y 1, (ix2_eta y).symm⟩
  rw [widen_dy, widen_dy]
  congr 2
  exact Fin.ext (congrArg (fun q => 1024 * q + a.val) h)

theorem scratch_A (c : Dev nD) (t : Fin cfg0.N) (h0 : t.val % 24 = 0) :
    (outsAt0 m c t.val t.isLt).2 = widen (R := 1024) (iblk m c 0 t) (iblk m c 1 t) := by
  rw [outsAt0_A m c t h0]
  dsimp only
  rw [sout_A]

theorem scratch_B (c : Dev nD) (t : Fin cfg0.N) (h0 : ¬t.val % 24 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- The carried scratch after point `n`: the widened row block of the point's grid row. -/
theorem scratch_eq (c : Dev nD) : ∀ (n : ℕ) (h : n < cfg0.N), (outsAt0 m c n h).2 = widen (R := 1024) (iblk m c 0 ⟨n, h⟩) (iblk m c 1 ⟨n, h⟩) := by
  intro n
  induction n with
  | zero => intro h; exact scratch_A m c ⟨0, h⟩ rfl
  | succ n ih =>
    intro h
    by_cases h0 : (n + 1) % 24 = 0
    · exact scratch_A m c ⟨n + 1, h⟩ h0
    · refine (scratch_B m c ⟨n + 1, h⟩ h0).trans ((ih (Nat.lt_of_succ_lt h)).trans (row_congr m c _ _ ?_))
      show n / 24 = (n + 1) / 24
      omega

/-- The output block after point `t`: the product of the widened blocks. -/
theorem out_eq (c : Dev nD) (t : Fin cfg0.N) :
    (outsAt0 m c t.val t.isLt).1 = k0_pay2 (F := Ideal) (widen (R := 1024) (iblk m c 0 t) (iblk m c 1 t)) (widen (R := 512) (iblk m c 2 t) (iblk m c 3 t)) := by
  by_cases h0 : t.val % 24 = 0
  · rw [outsAt0_A m c t h0]
    dsimp only
    rw [out_A]
  · rw [outsAt0_B m c t h0]
    dsimp only
    rw [out_B, scratch_eq, row_congr m c ⟨t.val - 1, _⟩ t (by show (t.val - 1) / 24 = t.val / 24; omega)]

/-- The result array: the product of the widened arguments over the 4608 columns. -/
def result (c : Dev nD) : Buf (Elt Ideal) ((c : Thread nD τ).loc main_v0) := fun i =>
  (∑ k : Fin 4608, (wideDy m c (ix2 (i 0) k) : EReal) * (wideW m c (ix2 (i 1) k) : EReal) : EReal)

theorem flushed_eq (c : Dev nD) (t : Fin cfg0.N) (hf : (cfg0.win 4).flush t = true) :
    (dats m 0 c).flushed 4 t = ((cfg0.win 4).blk t).view.read (Elt Ideal) (result m c) := by
  show (cfg0.win 4).cut (grid0.coords t) ((dats m 0 c).after 4 t) = _
  rw [after0_4, out_eq]
  obtain ⟨_, _, _, _, h0, h1⟩ := idx_all t
  have key : ∀ (a : Fin 1024) (b : Fin 512), k0_pay2 (F := Ideal) (widen (R := 1024) (iblk m c 0 t) (iblk m c 1 t)) (widen (R := 512) (iblk m c 2 t) (iblk m c 3 t)) (ix2 a b)
      = result m c (ix2 (⟨1024 * (t.val / 24) + a.val, by have := lt_N t; omega⟩ : Fin 6144) (⟨512 * (t.val % 24) + b.val, by omega⟩ : Fin 12288)) := by
    intro a b
    rw [pay2_apply]
    unfold result
    refine Finset.sum_congr rfl fun k _ => ?_
    rw [widen_dy, widen_w]
    rfl
  generalize k0_pay2 (F := Ideal) (widen (R := 1024) (iblk m c 0 t) (iblk m c 1 t)) (widen (R := 512) (iblk m c 2 t) (iblk m c 3 t)) = X at key ⊢
  generalize result m c = Y at key ⊢
  funext y
  have hy0 : (y 0).val < 1024 := (y 0).isLt
  have hy1 : (y 1).val < 512 := (y 1).isLt
  show X ((cfg0.win 4).xinj (grid0.coords t) y) = Y (((cfg0.win 4).blk t).view.emb y)
  rw [show (cfg0.win 4).xinj (grid0.coords t) y = ix2 (⟨(y 0).val, hy0⟩ : Fin 1024) (⟨(y 1).val, hy1⟩ : Fin 512) from by
    funext a; apply Fin.ext
    match a with
    | ⟨0, _⟩ => rfl
    | ⟨1, _⟩ => rfl]
  rw [key]
  congr 1
  funext a; apply Fin.ext
  match a with
  | ⟨0, _⟩ => show 1024 * (t.val / 24) + (y 0).val = win0_4.index t (0 : Fin 2) * 1024 + 1 * (y 0).val; rw [h0]; omega
  | ⟨1, _⟩ => show 512 * (t.val % 24) + (y 1).val = win0_4.index t (1 : Fin 2) * 512 + 1 * (y 1).val; rw [h1]; omega

theorem final (c : Dev nD) : (dats m 0 c).arrAt 4 cfg0.N = result m c :=
  (dats m 0 c).arrAt_eq_of_cover 4 _ (fun t hf => flushed_eq m c t hf) (fun i => (Cert.DgradIdeal.Value.covered_iff4 i).2 (by
    have h0 : (i 0).val < 6144 := (i 0).isLt; have h1 : (i 1).val < 12288 := (i 1).isLt; omega))

/-- The run: the result array holds the product, the arguments are as launched. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.DgradIdeal.Value.run_blocks m ρ)

end Cert.DgradIdeal.Tiles

end
-- ==== Proof.DgradReference.lean ====
/-
  THE DGRAD REFERENCE, AS A VALUE. The reference splits the 4608 columns into runs of 32, multiplies each run by its scale
  and multiplies the two widened matrices; read entry by entry it is the product the kernel's result was read as.
-/
module

public import proofs.«01_k».proof.Proof.Gen.DgradRefIdeal.Value
public import proofs.«01_k».proof.Proof.WidenTile

@[expose] public section

set_option maxRecDepth 16384

noncomputable section

namespace Cert.Lanes

open Idealize.ShloMosaic Cert.Scales

variable {R : ℕ}

/-- The reference's scales: the exponential of the byte minus 127, its two ends stated. -/
def scalesRef (x : IVec (Sh R 144) 8) : FVec Ideal (Sh R 144) .bf16 :=
  truncf .bf16 (select (cmpi .slt (subi (extui 32 x (by decide)) (broadcast (Sh R 144) 127#32)) (broadcast (Sh R 144) 4294967170#32))
    (broadcast (Sh R 144) (Scalar.ofBits (F := Ideal) .f32 0x00000000#32))
    (select (cmpi .sgt (subi (extui 32 x (by decide)) (broadcast (Sh R 144) 127#32)) (broadcast (Sh R 144) 127#32))
      (broadcast (Sh R 144) (Scalar.ofBits (F := Ideal) .f32 0x7F800000#32))
      (exp2 (sitofp (F := Ideal) .f32 (subi (extui 32 x (by decide)) (broadcast (Sh R 144) 127#32)))))) (by decide)

theorem scalesRef_apply (x : IVec (Sh R 144) 8) (i : (Sh R 144).Idx) : scalesRef x i = scaleOf (x i) := by
  unfold scalesRef
  refine (Ideal.truncf_def (φ := .f32) (ψ := .bf16) _ _).trans ?_
  rfl

/-- The reference's widening: the codes in runs of 32 columns, each run times its scale. -/
theorem widenRef_apply (h1 : (Sh R 4608).ShapeCasts ⟨3, ![R, 144, 32]⟩) (h2 : (Sh R 144).ShapeCasts ⟨3, ![R, 144, 1]⟩)
    (h3 : Shape.Broadcasts ⟨3, ![R, 144, 1]⟩ ⟨3, ![R, 144, 32]⟩) (h4 : Shape.ShapeCasts ⟨3, ![R, 144, 32]⟩ (Sh R 4608)) (hR : R ≠ 1)
    (X : (Sh R 4608).Idx → Ideal .fp8e4m3) (x : IVec (Sh R 144) 8) (a : Fin R) (k : Fin 4608) :
    shapeCast (Sh R 4608) (mulf (F := Ideal) (φ := .bf16) (shapeCast ⟨3, ![R, 144, 32]⟩ (extf (F := Ideal) (φ := .fp8e4m3) .bf16 X (by decide)) h1)
      (broadcastTo ⟨3, ![R, 144, 32]⟩ (shapeCast ⟨3, ![R, 144, 1]⟩ (scalesRef x) h2) h3)) h4 (ix2 a k)
      = widen X x (ix2 a k) := by
  have hk : k.val < 4608 := k.isLt
  rw [shapeCast_apply _ h4 (ix2 a k) (ix3 a (⟨k.val / 32, by omega⟩ : Fin 144) (⟨k.val % 32, by omega⟩ : Fin 32)) (by
    rw [Shape.rowMajor_val_three, Shape.rowMajor_val_two]
    show (a.val * 144 + k.val / 32) * 32 + k.val % 32 = a.val * 4608 + k.val
    omega)]
  show (FloatOps.mulf (F := Ideal) (φ := .bf16) _ _ : EReal) = _
  rw [shapeCast_apply _ h1 _ (ix2 a k) (by
    rw [Shape.rowMajor_val_three, Shape.rowMajor_val_two]
    show a.val * 4608 + k.val = (a.val * 144 + k.val / 32) * 32 + k.val % 32
    omega)]
  rw [broadcastTo_apply _ h3 _ (ix3 a (⟨k.val / 32, by omega⟩ : Fin 144) (0 : Fin 1)) (by
    intro q
    match q with
    | ⟨0, _⟩ => show a.val = if R = 1 then 0 else a.val; rw [if_neg hR]
    | ⟨1, _⟩ => rfl
    | ⟨2, _⟩ => rfl)]
  rw [shapeCast_apply _ h2 _ (ix2 a (⟨k.val / 32, by omega⟩ : Fin 144)) (by
    rw [Shape.rowMajor_val_three, Shape.rowMajor_val_two]
    show a.val * 144 + k.val / 32 = (a.val * 144 + k.val / 32) * 1 + 0
    omega)]
  rw [scalesRef_apply, ← pow2_eq]
  show (FloatOps.mulf (F := Ideal) (φ := .bf16) (FloatOps.extf (F := Ideal) (φ := .fp8e4m3) .bf16 _ (X (ix2 a k))) _ : EReal) = _
  rw [Ideal.extf_def]
  rfl

end Cert.Lanes

namespace Cert.DgradRefIdeal.Read

open Idealize.ShloMosaic Idealize.ShloMosaic.TcCoe Idealize.SL.Sem
open Cert.DgradRefIdeal Cert.DgradRefIdeal.Gen Cert.Lanes Cert.Scales

theorem left_apply (X : Vec Ideal S6144x4608 .fp8e4m3) (x : Vec Ideal S6144x144 .i8) (a : Fin 6144) (k : Fin 4608) :
    k0_pay2 (F := Ideal) X x (ix2 a k) = widen (R := 6144) X x (ix2 a k) :=
  widenRef_apply (R := 6144) _ _ _ _ (by decide) X x a k

theorem right_apply (X : Vec Ideal S12288x4608 .fp8e4m3) (x : Vec Ideal S12288x144 .i8) (b : Fin 12288) (k : Fin 4608) :
    shapeCast S12288x4608 (mulf (k0_pay3 (F := Ideal) X) (k0_pay4 (F := Ideal) x)) shapeCasts_S12288x144x32_S12288x4608 (ix2 b k) = widen (R := 12288) X x (ix2 b k) :=
  widenRef_apply (R := 12288) shapeCasts_S12288x4608_S12288x144x32 shapeCasts_S12288x144_S12288x144x1 broadcasts_S12288x144x1_S12288x144x32 shapeCasts_S12288x144x32_S12288x4608 (by decide) X x b k

theorem dot_apply (l : FVec Ideal S6144x4608 .bf16) (r : FVec Ideal S12288x4608 .bf16) (a : Fin 6144) (b : Fin 12288) :
    truncf .bf16 (matmul (F := Ideal) dot_S6144x4608_S12288x4608_S6144x12288_1_1_0_0_n_n none l r (constant S6144x12288 .f32 0x00000000#32)) bitsLt_bf16_f32 (ix2 a b)
      = ∑ k : Fin 4608, (l (ix2 a k) : EReal) * (r (ix2 b k) : EReal) := by
  pointwise

/-- The reference's result at an entry: the sum over the columns of the widened arguments. -/
theorem result_apply (a0 : Vec Ideal S6144x4608 .fp8e4m3) (a1 : Vec Ideal S6144x144 .i8) (a2 : Vec Ideal S12288x4608 .fp8e4m3) (a3 : Vec Ideal S12288x144 .i8)
    (a : Fin 6144) (b : Fin 12288) :
    Cert.DgradRefIdeal.Value.G4 (F := Ideal) a0 a1 a2 a3 (ix2 a b)
      = ∑ k : Fin 4608, (widen (R := 6144) a0 a1 (ix2 a k) : EReal) * (widen (R := 12288) a2 a3 (ix2 b k) : EReal) := by
  refine (dot_apply (k0_pay2 (F := Ideal) a0 a1) (shapeCast S12288x4608 (mulf (k0_pay3 (F := Ideal) a2) (k0_pay4 (F := Ideal) a3)) shapeCasts_S12288x144x32_S12288x4608) a b).trans ?_
  refine Finset.sum_congr rfl fun k _ => ?_
  rw [left_apply, right_apply]

end Cert.DgradRefIdeal.Read

end
-- ==== Proof.DgradClaim.lean ====
/-
  DGRAD IS ITS REFERENCE over the extended reals: both runs end with the same array, the product of the widened arguments.
-/
module

public import proofs.«01_k».proof.Defs
public import proofs.«01_k».proof.Proof.DgradValue
public import proofs.«01_k».proof.Proof.DgradReference

@[expose] public section

set_option maxRecDepth 16384

noncomputable section

namespace Cert.DgradAgree

open Idealize.ShloMosaic Idealize.ShloMosaic.TcCoe Idealize.SL.Sem Cert.Lanes

theorem agree : Cert.algebraic_DgradIdeal_DgradRefIdeal := by
  intro m g m' g' hpre hargs
  refine ⟨fun c => Cert.DgradIdeal.Tiles.result m c, Cert.DgradIdeal.Tiles.run m g, ?_⟩
  refine (θ_run Cert.DgradRefIdeal.defs _ _).mono (fun r h c => ⟨(h c).1.trans ?_, (h c).2⟩) (Cert.DgradRefIdeal.Value.run (F := Ideal) m' g')
  obtain ⟨e0, e1, e2, e3⟩ := hargs c
  rw [e0, e1, e2, e3]
  funext i
  obtain ⟨a, b, rfl⟩ : ∃ (a : Fin 6144) (b : Fin 12288), i = ix2 a b := ⟨i 0, i 1, (ix2_eta i).symm⟩
  exact Cert.DgradRefIdeal.Read.result_apply _ _ _ _ a b

end Cert.DgradAgree

end
-- ==== Proof.WgradRunB.lean ====
module

public import proofs.«01_k».proof.Proof.Gen.Wgrad.Frame
public import proofs.«01_k».proof.Proof.Gen.Wgrad.Skeleton
public import Idealize.ShloMosaic.Lib.Claim

@[expose] public section

set_option maxRecDepth 16384

noncomputable section

namespace Cert.Wgrad.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Wgrad.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the two cases of the weight-gradient body share: the condition of its `scf.if` over the grid's points and
the memrefs a point is called with. -/

/-- The condition of the body's `scf.if`: the grid's second coordinate is 0. -/
abbrev cond0_0 (i : grid0.Coords) : Prop := (Scalar.cmpi .ne (Scalar.extui (Scalar.cmpi .eq (BitVec.ofNat 32 (i 1).val) 0#32)) 0#32) = 1#1

/-- It holds at the points ≡ 0 (mod 9). -/
theorem hcond0_0 : ∀ t : Fin cfg0.N, cond0_0 (grid0.coords t) ↔ t.val % 9 = 0 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- One staging buffer of output window 3, through which its contents are stated. -/
abbrev VO0_3 : View sig .tc .vmem S512x512 .f32 := (Memref.whole cc0_stg3_0 : Memref sig .tc .vmem S512x512 .f32).view
/-- One staging buffer of output window 4, through which its contents are stated. -/
abbrev VO0_4 : View sig .tc .vmem S6144x512 .fp8e4m3 := (Memref.whole cc0_stg4_0 : Memref sig .tc .vmem S6144x512 .fp8e4m3).view
/-- One staging buffer of output window 5, through which its contents are stated. -/
abbrev VO0_5 : View sig .tc .vmem S192x512 .i8 := (Memref.whole cc0_stg5_0 : Memref sig .tc .vmem S192x512 .i8).view
/-! Each window's current staging memref at a point, and its wholeness. -/
abbrev ms0_0 (t : Fin cfg0.N) : Memref sig .tc .vmem S6144x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6144x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S192x512 .i8 := win0_5.stage (cfg0.slots t 5)
abbrev hs0_5 (t : Fin cfg0.N) : (ms0_5 t).IsWhole := hstage0_5 ((cfg0.slots t 5).cast nbuf0_5)
/-- The scratch that carries the quantised, transposed activations from a column block's first point to its others. -/
abbrev scM0_0 : Memref sig .tc .vmem S512x6144 .bf16 := Memref.whole cc0_scratch0
/-- The scratch every point refills with its gradient block. -/
abbrev scM0_1 : Memref sig .tc .vmem S6144x512 .bf16 := Memref.whole cc0_scratch1
/-- The carried scratch as a view. -/
abbrev VS0_0 : View sig .tc .vmem S512x6144 .bf16 := scM0_0.view

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1600000 in
/-- The body at the other points: it stores into the first output and the refilled scratch alone, and leaves the other
    outputs and the carried scratch as it found them. -/
noncomputable def kernelRun0_B (c : Dev nD) (i : grid0.Coords) (arg2 : Memref sig .tc .vmem S6144x512 .bf16) (harg2 : arg2.IsWhole) (arg3 : Memref sig .tc .vmem S6144x512 .fp8e4m3) (harg3 : arg3.IsWhole) (arg4 : Memref sig .tc .vmem S192x512 .i8) (harg4 : arg4.IsWhole) (arg5 : Memref sig .tc .vmem S512x512 .f32) (harg5 : arg5.IsWhole) (arg6 : Memref sig .tc .vmem S6144x512 .fp8e4m3) (harg6 : arg6.IsWhole) (arg7 : Memref sig .tc .vmem S192x512 .i8) (harg7 : arg7.IsWhole) (arg8 : Memref sig .tc .vmem S512x6144 .bf16) (harg8 : arg8.IsWhole) (arg9 : Memref sig .tc .vmem S6144x512 .bf16) (harg9 : arg9.IsWhole) (hc0 : ¬cond0_0 i)
    (x0 : Vec F S6144x512 .bf16) (x1 : Vec F S6144x512 .fp8e4m3) (x2 : Vec F S192x512 .i8) (x4 : Vec F S6144x512 .fp8e4m3) (x5 : Vec F S192x512 .i8) (xs0 : Vec F S512x6144 .bf16) :
    Σ' (L3 : List (View.Piece (Elt F) S512x512 .f32)), { LT1 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare x5 ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare x4 ∗ owns (c : Thread nD τ) arg7 fullShare x5 ∗ owns (c : Thread nD τ) arg8 fullShare xs0 ∗ (∃ f, arg9.view.loc (c : Thread nD τ) ↦[arg9.view.set]{fullShare} arg9.view.writes (Elt F) f LT1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9) K } := by
  refine ⟨?_, ?_, fun E K => ?run⟩
  case run =>
    simp only [cc0_wgrad_eq_skeleton]; unfold cc0_wgrad_skel
    simp only [k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.Wgrad.Run

end
-- ==== Proof.WgradRunA.lean ====
module

public import proofs.«01_k».proof.Proof.WgradRunB

@[expose] public section

set_option maxRecDepth 16384

noncomputable section

namespace Cert.Wgrad.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Wgrad.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a point that starts a column block: the pieces its stores leave in the three outputs, in the carried
    scratch and in the refilled scratch, with the triple that says so. -/
noncomputable def kernelRun0_A (c : Dev nD) (i : grid0.Coords) (arg2 : Memref sig .tc .vmem S6144x512 .bf16) (harg2 : arg2.IsWhole) (arg3 : Memref sig .tc .vmem S6144x512 .fp8e4m3) (harg3 : arg3.IsWhole) (arg4 : Memref sig .tc .vmem S192x512 .i8) (harg4 : arg4.IsWhole) (arg5 : Memref sig .tc .vmem S512x512 .f32) (harg5 : arg5.IsWhole) (arg6 : Memref sig .tc .vmem S6144x512 .fp8e4m3) (harg6 : arg6.IsWhole) (arg7 : Memref sig .tc .vmem S192x512 .i8) (harg7 : arg7.IsWhole) (arg8 : Memref sig .tc .vmem S512x6144 .bf16) (harg8 : arg8.IsWhole) (arg9 : Memref sig .tc .vmem S6144x512 .bf16) (harg9 : arg9.IsWhole) (hc0 : cond0_0 i)
    (x0 : Vec F S6144x512 .bf16) (x1 : Vec F S6144x512 .fp8e4m3) (x2 : Vec F S192x512 .i8) :
    Σ' (L3 : List (View.Piece (Elt F) S512x512 .f32)), Σ' (L4 : List (View.Piece (Elt F) S6144x512 .fp8e4m3)), Σ' (L5 : List (View.Piece (Elt F) S192x512 .i8)), Σ' (LS0 : List (View.Piece (Elt F) S512x6144 .bf16)), { LT1 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9) K } := by
  refine ⟨?_, ?_, ?_, ?_, ?_, fun E K => ?run⟩
  case run =>
    simp only [cc0_wgrad_eq_skeleton]; unfold cc0_wgrad_skel
    simp only [k0_part18_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.Wgrad.Run

end
-- ==== Proof.WgradFrame.lean ====
module

public import proofs.«01_k».proof.Proof.WgradRunA
public import Idealize.ShloMosaic.Lib.Claim

@[expose] public section

set_option maxRecDepth 16384

noncomputable section

namespace Cert.Wgrad.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Wgrad.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases at a point -/

/-- The run of a point that starts a column block, on the point's memrefs and input blocks. -/
abbrev runA (c : Dev nD) (t : Fin cfg0.N) (h0 : t.val % 9 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t)

/-- The run of any other point, on the point's memrefs and input blocks and what the carried buffers hold. -/
abbrev runB (c : Dev nD) (t : Fin cfg0.N) (h0 : ¬t.val % 9 = 0) (x4 : Vec F S6144x512 .fp8e4m3) (x5 : Vec F S192x512 .i8) (xs0 : Vec F S512x6144 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) x4 x5 xs0

/-! The stores of each case tile the buffers they go to. -/

theorem coverA_3 (c : Dev nD) (t : Fin cfg0.N) (h0 : t.val % 9 = 0) (y : S512x512.Idx) :
    ∃ pc ∈ (runA m c t h0).1, y ∈ pc.1.set :=
  View.cover_of_tiledL (runA m c t h0).1 S512x512.size (by sl_kernel_rfl) y
theorem coverA_4 (c : Dev nD) (t : Fin cfg0.N) (h0 : t.val % 9 = 0) (y : S6144x512.Idx) :
    ∃ pc ∈ (runA m c t h0).2.1, y ∈ pc.1.set :=
  View.cover_of_tiledL (runA m c t h0).2.1 S1024x512.size (by sl_kernel_rfl) y
theorem coverA_5 (c : Dev nD) (t : Fin cfg0.N) (h0 : t.val % 9 = 0) (y : S192x512.Idx) :
    ∃ pc ∈ (runA m c t h0).2.2.1, y ∈ pc.1.set :=
  View.cover_of_tiledL (runA m c t h0).2.2.1 S32x512.size (by sl_kernel_rfl) y
theorem scoverA_0 (c : Dev nD) (t : Fin cfg0.N) (h0 : t.val % 9 = 0) (y : S512x6144.Idx) :
    ∃ pc ∈ (runA m c t h0).2.2.2.1, y ∈ pc.1.set :=
  View.cover_of_tiledL (runA m c t h0).2.2.2.1 S512x1024.size (by sl_kernel_rfl) y
theorem coverB_3 (c : Dev nD) (t : Fin cfg0.N) (h0 : ¬t.val % 9 = 0) (x4 : Vec F S6144x512 .fp8e4m3) (x5 : Vec F S192x512 .i8) (xs0 : Vec F S512x6144 .bf16) (y : S512x512.Idx) :
    ∃ pc ∈ (runB m c t h0 x4 x5 xs0).1, y ∈ pc.1.set :=
  View.cover_of_tiledL (runB m c t h0 x4 x5 xs0).1 S512x512.size (by sl_kernel_rfl) y

/-! What each case leaves: its pieces read back. -/

def outA_3 (c : Dev nD) (t : Fin cfg0.N) (h0 : t.val % 9 = 0) : Vec F S512x512 .f32 :=
  VO0_3.read (Elt F) (VO0_3.writes (Elt F) VO0_3.junk (runA m c t h0).1)
def outA_4 (c : Dev nD) (t : Fin cfg0.N) (h0 : t.val % 9 = 0) : Vec F S6144x512 .fp8e4m3 :=
  VO0_4.read (Elt F) (VO0_4.writes (Elt F) VO0_4.junk (runA m c t h0).2.1)
def outA_5 (c : Dev nD) (t : Fin cfg0.N) (h0 : t.val % 9 = 0) : Vec F S192x512 .i8 :=
  VO0_5.read (Elt F) (VO0_5.writes (Elt F) VO0_5.junk (runA m c t h0).2.2.1)
def soutA_0 (c : Dev nD) (t : Fin cfg0.N) (h0 : t.val % 9 = 0) : Vec F S512x6144 .bf16 :=
  VS0_0.read (Elt F) (VS0_0.writes (Elt F) VS0_0.junk (runA m c t h0).2.2.2.1)
def outB_3 (c : Dev nD) (t : Fin cfg0.N) (h0 : ¬t.val % 9 = 0) (x4 : Vec F S6144x512 .fp8e4m3) (x5 : Vec F S192x512 .i8) (xs0 : Vec F S512x6144 .bf16) : Vec F S512x512 .f32 :=
  VO0_3.read (Elt F) (VO0_3.writes (Elt F) VO0_3.junk (runB m c t h0 x4 x5 xs0).1)

/-! ## What the buffers hold after each point -/

/-- The gradient block, the codes, the scales and the carried scratch after the body at position `n`. -/
def outsAt0 (c : Dev nD) : (n : ℕ) → n < cfg0.N → Vec F S512x512 .f32 × Vec F S6144x512 .fp8e4m3 × Vec F S192x512 .i8 × Vec F S512x6144 .bf16
  | 0, hn => (outA_3 m c ⟨0, hn⟩ (Nat.zero_mod _), outA_4 m c ⟨0, hn⟩ (Nat.zero_mod _), outA_5 m c ⟨0, hn⟩ (Nat.zero_mod _), soutA_0 m c ⟨0, hn⟩ (Nat.zero_mod _))
  | n + 1, hn =>
    if h0 : (n + 1) % 9 = 0 then
      (outA_3 m c ⟨n + 1, hn⟩ h0, outA_4 m c ⟨n + 1, hn⟩ h0, outA_5 m c ⟨n + 1, hn⟩ h0, soutA_0 m c ⟨n + 1, hn⟩ h0)
    else
      (outB_3 m c ⟨n + 1, hn⟩ h0 (outsAt0 c n (Nat.lt_of_succ_lt hn)).2.1 (outsAt0 c n (Nat.lt_of_succ_lt hn)).2.2.1 (outsAt0 c n (Nat.lt_of_succ_lt hn)).2.2.2,
        (outsAt0 c n (Nat.lt_of_succ_lt hn)).2)

/-- The point before `t`. -/
abbrev prior (t : Fin cfg0.N) : t.val - 1 < cfg0.N := Nat.lt_of_le_of_lt (Nat.sub_le _ _) t.isLt

theorem outsAt0_A (c : Dev nD) (t : Fin cfg0.N) (h0 : t.val % 9 = 0) :
    outsAt0 m c t.val t.isLt = (outA_3 m c t h0, outA_4 m c t h0, outA_5 m c t h0, soutA_0 m c t h0) := by
  obtain ⟨n, hn⟩ := t
  cases n with
  | zero => exact rfl
  | succ n => exact (dif_pos h0).trans rfl

theorem outsAt0_B (c : Dev nD) (t : Fin cfg0.N) (h0 : ¬t.val % 9 = 0) :
    outsAt0 m c t.val t.isLt = (outB_3 m c t h0 (outsAt0 m c (t.val - 1) (prior t)).2.1 (outsAt0 m c (t.val - 1) (prior t)).2.2.1 (outsAt0 m c (t.val - 1) (prior t)).2.2.2,
      (outsAt0 m c (t.val - 1) (prior t)).2) := by
  obtain ⟨n, hn⟩ := t
  cases n with
  | zero => exact (by exfalso; (try dsimp only at h0); exact absurd (Nat.zero_mod _) h0)
  | succ n => exact (dif_neg h0).trans rfl

/-- The invariant before position `n`: the launch's before the first point, afterwards the carried scratch at what the
    point before left and the other scratch at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The arrays as the region finds them; after a point each input's buffer at its block and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ### The outputs a column block keeps through its later points -/

/-- An output that a window keeps from a column block's first point to its last: at a later point of the block its
    buffer holds what the proof data says the point before left there, whether that point stored it or found it. -/
theorem before_kept {c : Dev nD} (dat : Dat τ (Elt F) Unit ℕ (UR sig nD τ) ℕ cfg0 c) (w : Fin cfg0.W) (hw : (cfg0.win w).isOut = true)
    (hfl : ∀ t, (cfg0.win w).flush t = true ↔ t.val % 9 = 8)
    (hclip : ∀ (i : cfg0.grid.Coords) a, (cfg0.win w).clip i a = none)
    (hid : ∀ t : Fin cfg0.N, t.val % 9 = 0 → cfg0.idle w (cfg0.grid.coords t) = false)
    (hstep : ∀ t : Fin cfg0.N, ¬t.val % 9 = 0 → dat.after w t = dat.after w ⟨t.val - 1, prior t⟩) :
    ∀ (n : ℕ) (hn : n < cfg0.N) (d), ¬n % 9 = 0 → dat.before w ⟨n, hn⟩ d = dat.after w ⟨n - 1, Nat.lt_of_le_of_lt (Nat.sub_le _ _) hn⟩ := by
  intro n
  induction n with
  | zero => intro hn d h; exact absurd (Nat.zero_mod _) h
  | succ n ih =>
    intro hn d h
    have hn' : n < cfg0.N := Nat.lt_of_succ_lt hn
    have hf : (cfg0.win w).flush ⟨n, hn'⟩ = false := by
      cases hq : (cfg0.win w).flush ⟨n, hn'⟩ with
      | false => rfl
      | true => exact absurd ((hfl _).mp hq) (by dsimp only; omega)
    have hkept : dat.kept w ⟨n, hn'⟩ d = dat.after w ⟨n, hn'⟩ := by
      unfold Dat.kept
      rw [Pipeline.fill_of_clip_none w _ (hclip _) d (dat.after w _), Window.fill_cut]
    rw [dat.before_of_pos w ⟨n + 1, hn⟩ (Nat.succ_ne_zero n) ((cfg0.win w).fetch_out hw _)]
    rw [show (⟨(⟨n + 1, hn⟩ : Fin cfg0.N).val - 1, Nat.lt_of_le_of_lt (Nat.sub_le _ _) hn⟩ : Fin cfg0.N) = ⟨n, hn'⟩ from rfl, hf,
      if_neg Bool.false_ne_true]
    unfold Dat.left
    cases hi : cfg0.idle w (cfg0.grid.coords ⟨n, hn'⟩) with
    | false => exact hkept
    | true =>
      have h9 : ¬n % 9 = 0 := fun h9 => by
        have := hid ⟨n, hn'⟩ h9; rw [hi] at this; exact Bool.false_ne_true this.symm
      exact (ih hn' d h9).trans (hstep ⟨n, hn'⟩ h9).symm

/-- The two stored outputs are live where the body's condition holds. -/
theorem live_of (t : Fin cfg0.N) (h0 : t.val % 9 = 0) : (!(k0_cond1 (grid0.coords t) == 1#1)) = false := by
  have h : k0_cond1 (grid0.coords t) = 1#1 := (hcond0_0 t).mpr h0
  rw [h]; rfl

theorem before0_4 (c : Dev nD) (t : Fin cfg0.N) (h0 : ¬t.val % 9 = 0) (d) :
    (dats m 0 c).before 4 t d = (outsAt0 m c (t.val - 1) (prior t)).2.1 := by
  have := before_kept (dats m 0 c) 4 rfl flush0_4 (fun _ _ => rfl) (fun t h => live_of t h)
    (fun t h => by rw [after0_4, after0_4, outsAt0_B m c t h]) t.val t.isLt d h0
  rw [after0_4] at this; exact this

theorem before0_5 (c : Dev nD) (t : Fin cfg0.N) (h0 : ¬t.val % 9 = 0) (d) :
    (dats m 0 c).before 5 t d = (outsAt0 m c (t.val - 1) (prior t)).2.2.1 := by
  have := before_kept (dats m 0 c) 5 rfl flush0_5 (fun _ _ => rfl) (fun t h => live_of t h)
    (fun t h => by rw [after0_5, after0_5, outsAt0_B m c t h]) t.val t.isLt d h0
  rw [after0_5] at this; exact this

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- What a point starting a column block starts from, whichever point it is: the scratches and the register at anything. -/
theorem Phi_any (c : Dev nD) (t : Fin cfg0.N) : (dats m 0 c).Φ t.castSucc
    ⊢ iprop(iprop((∃ d, owns (c : Thread nD τ) scM0_0 fullShare d) ∗ (∃ d, owns (c : Thread nD τ) scM0_1 fullShare d)) ∗ (∃ r, prngReg c r)) := by
  by_cases hz : t.val = 0
  · rw [PhiS_castSucc m c t, PhiS_zero m c _ _ hz, PhiA0_eq]
    try exact Idealize.SL.BI.Entails.refl _
  · rw [PhiS_castSucc m c t, PhiS_pos m c _ _ hz]
    iintro ⟨⟨HS0, HS1⟩, Hg⟩
    isplitl [HS0 HS1]
    · isplitl [HS0]
      · iexists _; iexact HS0
      iexact HS1
    iexact Hg

set_option maxHeartbeats 3200000 in
/-- The body at a point that starts a column block. -/
theorem sound_body_A (c : Dev nD) (t : Fin cfg0.N) (h0 : t.val % 9 = 0) :
    bodyPre m c t ⊢ wp frame (wpE (defs₀ (F := F)) Variants.none c none) Set.univ (bodyAt0 t) (fun _ => bodyPost m c t) := by
  refine (show bodyPre m c t ⊢ _ from BIClass.sep_mono (Phi_any m c t) (Idealize.SL.BI.Entails.refl _)).trans ?_
  unfold bodyPost bodyAt0
  simp only [before0_0, before0_1, before0_2]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [outsAt0_A m c t h0]
  unfold outA_3 outA_4 outA_5 soutA_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((runA m c t h0).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, ⟨%e3, H3⟩, ⟨%e4, H4⟩, ⟨%e5, H5⟩, ⟨%es0, HS0⟩, ⟨%fT1, HS1⟩⟩
  isplitl [HS0 HS1 Hg]
  · isplitl [HS0 HS1]
    · isplitl [HS0]
      · unfold owns; iexists _; isplitr
        swap; · iexact HS0
        ipureintro; exact View.read_writes_of_cover _ _ _ _ _ (scoverA_0 m c t h0)
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (coverA_3 m c t h0)
  isplitl [H4]
  · unfold owns; iexists _; isplitr
    swap; · iexact H4
    ipureintro; exact View.read_writes_of_cover _ _ _ _ _ (coverA_4 m c t h0)
  unfold owns; iexists _; isplitr
  swap; · iexact H5
  ipureintro; exact View.read_writes_of_cover _ _ _ _ _ (coverA_5 m c t h0)

set_option maxHeartbeats 3200000 in
/-- The body at any other point. -/
theorem sound_body_B (c : Dev nD) (t : Fin cfg0.N) (h0 : ¬t.val % 9 = 0) :
    bodyPre m c t ⊢ wp frame (wpE (defs₀ (F := F)) Variants.none c none) Set.univ (bodyAt0 t) (fun _ => bodyPost m c t) := by
  have hz : t.val ≠ 0 := fun hz => h0 (by rw [hz])
  unfold bodyPre bodyPost bodyAt0
  simp only [before0_0, before0_1, before0_2, before0_4 m c t h0, before0_5 m c t h0]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [PhiS_castSucc m c t, PhiS_pos m c _ _ hz]
  rw [outsAt0_B m c t h0]
  unfold outB_3; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((runB m c t h0 _ _ _).2.2 Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, ⟨%e3, H3⟩, H4, H5, HS0, ⟨%fT1, HS1⟩⟩
  isplitl [HS0 HS1 Hg]
  · isplitl [HS0 HS1]
    · isplitl [HS0]
      · iexact HS0
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (coverB_3 m c t h0 _ _ _)
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 9 = 0
  · exact sound_body_A m c t h0
  · exact sound_body_B m c t h0

theorem defs₀_row (t : Fin cfg0.N) :
    defs₀ (F := F) .tc cfg0.body (cfg0.bodyArgs t (cfg0.slots t)) = bodyAt0 t := by
  unfold defs₀; rw [Defs.onTc_tc]

/-- A buffer at what the body leaves is the buffer as the obligation asks for it: where the window is idle and not
    written back, at what the body found, which is the same. -/
theorem leaves_of {c : Dev nD} (dat : Dat τ (Elt F) Unit ℕ (UR sig nD τ) ℕ cfg0 c) (w : Fin cfg0.W) (t : Fin cfg0.N)
    (h : cfg0.idle w (cfg0.grid.coords t) = true → ∀ d, dat.before w t d = dat.after w t) :
    owns (c : Thread nD τ) ((cfg0.win w).stage (cfg0.slots t w)) fullShare (dat.after w t) ⊢ (dat.leavesExact w t : sProp 𝕄) := by
  unfold Dat.leavesExact
  cases hi : cfg0.idle w (cfg0.grid.coords t)
  · exact .rfl
  · cases (cfg0.win w).flush t
    · dsimp only
      iintro H; iexists dat.after w t; rw [h hi]; iexact H
    · exact .rfl

/-- An idle point of the stored outputs is no first point of a column block. -/
theorem idle_ne (t : Fin cfg0.N) (h : (!(k0_cond1 (grid0.coords t) == 1#1)) = true) : ¬t.val % 9 = 0 := fun h0 => by
  rw [live_of t h0] at h; exact Bool.false_ne_true h

theorem post_leaves (c : Dev nD) (t : Fin cfg0.N) : bodyPost m c t ⊢ iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t) := by
  unfold bodyPost
  refine Idealize.SL.BI.sep_mono (Idealize.SL.BI.Entails.refl _) (Idealize.SL.BI.sep_mono (Idealize.SL.BI.Entails.refl _) (Idealize.SL.BI.sep_mono (leaves_of _ 0 t (fun h => absurd h Bool.false_ne_true))
    (Idealize.SL.BI.sep_mono (leaves_of _ 1 t (fun h => absurd h Bool.false_ne_true)) (Idealize.SL.BI.sep_mono (leaves_of _ 2 t (fun h => absurd h Bool.false_ne_true))
    (Idealize.SL.BI.sep_mono (leaves_of _ 3 t (fun h => absurd h Bool.false_ne_true)) (Idealize.SL.BI.sep_mono (leaves_of _ 4 t ?_) (leaves_of _ 5 t ?_)))))))
  · intro h d
    have h0 := idle_ne t h
    rw [before0_4 m c t h0, after0_4, outsAt0_B m c t h0]
  · intro h d
    have h0 := idle_ne t h
    rw [before0_5 m c t h0, after0_5, outsAt0_B m c t h0]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 216 := N_0; omega)

/-! ## The run and the frame -/

-- the library theorem's implicit arguments are found by unifying its conclusion with this one
set_option backward.isDefEq.respectTransparency.types false in
/-- The launch: every array of the pipeline ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Wgrad.Run

end
-- ==== Proof.WgradIdealRunB.lean ====
module

public import proofs.«01_k».proof.Proof.Gen.WgradIdeal.Frame
public import proofs.«01_k».proof.Proof.Gen.WgradIdeal.Skeleton
public import Idealize.ShloMosaic.Lib.Claim

@[expose] public section

set_option maxRecDepth 16384

noncomputable section

namespace Cert.WgradIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WgradIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the two cases of the weight-gradient body share: the condition of its `scf.if` over the grid's points and
the memrefs a point is called with. -/

/-- The condition of the body's `scf.if`: the grid's second coordinate is 0. -/
abbrev cond0_0 (i : grid0.Coords) : Prop := (Scalar.cmpi .ne (Scalar.extui (Scalar.cmpi .eq (BitVec.ofNat 32 (i 1).val) 0#32)) 0#32) = 1#1

/-- It holds at the points ≡ 0 (mod 9). -/
theorem hcond0_0 : ∀ t : Fin cfg0.N, cond0_0 (grid0.coords t) ↔ t.val % 9 = 0 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- One staging buffer of output window 3, through which its contents are stated. -/
abbrev VO0_3 : View sig .tc .vmem S512x512 .f32 := (Memref.whole cc0_stg3_0 : Memref sig .tc .vmem S512x512 .f32).view
/-- One staging buffer of output window 4, through which its contents are stated. -/
abbrev VO0_4 : View sig .tc .vmem S6144x512 .fp8e4m3 := (Memref.whole cc0_stg4_0 : Memref sig .tc .vmem S6144x512 .fp8e4m3).view
/-- One staging buffer of output window 5, through which its contents are stated. -/
abbrev VO0_5 : View sig .tc .vmem S192x512 .i8 := (Memref.whole cc0_stg5_0 : Memref sig .tc .vmem S192x512 .i8).view
/-! Each window's current staging memref at a point, and its wholeness. -/
abbrev ms0_0 (t : Fin cfg0.N) : Memref sig .tc .vmem S6144x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6144x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S192x512 .i8 := win0_5.stage (cfg0.slots t 5)
abbrev hs0_5 (t : Fin cfg0.N) : (ms0_5 t).IsWhole := hstage0_5 ((cfg0.slots t 5).cast nbuf0_5)
/-- The scratch that carries the quantised, transposed activations from a column block's first point to its others. -/
abbrev scM0_0 : Memref sig .tc .vmem S512x6144 .bf16 := Memref.whole cc0_scratch0
/-- The scratch every point refills with its gradient block. -/
abbrev scM0_1 : Memref sig .tc .vmem S6144x512 .bf16 := Memref.whole cc0_scratch1
/-- The carried scratch as a view. -/
abbrev VS0_0 : View sig .tc .vmem S512x6144 .bf16 := scM0_0.view

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1600000 in
/-- The body at the other points: it stores into the first output and the refilled scratch alone, and leaves the other
    outputs and the carried scratch as it found them. -/
noncomputable def kernelRun0_B (c : Dev nD) (i : grid0.Coords) (arg2 : Memref sig .tc .vmem S6144x512 .bf16) (harg2 : arg2.IsWhole) (arg3 : Memref sig .tc .vmem S6144x512 .fp8e4m3) (harg3 : arg3.IsWhole) (arg4 : Memref sig .tc .vmem S192x512 .i8) (harg4 : arg4.IsWhole) (arg5 : Memref sig .tc .vmem S512x512 .f32) (harg5 : arg5.IsWhole) (arg6 : Memref sig .tc .vmem S6144x512 .fp8e4m3) (harg6 : arg6.IsWhole) (arg7 : Memref sig .tc .vmem S192x512 .i8) (harg7 : arg7.IsWhole) (arg8 : Memref sig .tc .vmem S512x6144 .bf16) (harg8 : arg8.IsWhole) (arg9 : Memref sig .tc .vmem S6144x512 .bf16) (harg9 : arg9.IsWhole) (hc0 : ¬cond0_0 i)
    (x0 : Vec F S6144x512 .bf16) (x1 : Vec F S6144x512 .fp8e4m3) (x2 : Vec F S192x512 .i8) (x4 : Vec F S6144x512 .fp8e4m3) (x5 : Vec F S192x512 .i8) (xs0 : Vec F S512x6144 .bf16) :
    Σ' (L3 : List (View.Piece (Elt F) S512x512 .f32)), { LT1 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare x5 ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare x4 ∗ owns (c : Thread nD τ) arg7 fullShare x5 ∗ owns (c : Thread nD τ) arg8 fullShare xs0 ∗ (∃ f, arg9.view.loc (c : Thread nD τ) ↦[arg9.view.set]{fullShare} arg9.view.writes (Elt F) f LT1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9) K } := by
  refine ⟨?_, ?_, fun E K => ?run⟩
  case run =>
    simp only [cc0_wgrad_eq_skeleton]; unfold cc0_wgrad_skel
    simp only [k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg2.eq_unread hf0; obtain rfl := harg3.eq_unread hf1; obtain rfl := harg4.eq_unread hf2
    obtain rfl := harg6.eq_unread hf4; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.WgradIdeal.Run

end
-- ==== Proof.WgradIdealRunA.lean ====
module

public import proofs.«01_k».proof.Proof.WgradIdealRunB

@[expose] public section

set_option maxRecDepth 16384

noncomputable section

namespace Cert.WgradIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WgradIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a point that starts a column block: the pieces its stores leave in the three outputs, in the carried
    scratch and in the refilled scratch, with the triple that says so. -/
noncomputable def kernelRun0_A (c : Dev nD) (i : grid0.Coords) (arg2 : Memref sig .tc .vmem S6144x512 .bf16) (harg2 : arg2.IsWhole) (arg3 : Memref sig .tc .vmem S6144x512 .fp8e4m3) (harg3 : arg3.IsWhole) (arg4 : Memref sig .tc .vmem S192x512 .i8) (harg4 : arg4.IsWhole) (arg5 : Memref sig .tc .vmem S512x512 .f32) (harg5 : arg5.IsWhole) (arg6 : Memref sig .tc .vmem S6144x512 .fp8e4m3) (harg6 : arg6.IsWhole) (arg7 : Memref sig .tc .vmem S192x512 .i8) (harg7 : arg7.IsWhole) (arg8 : Memref sig .tc .vmem S512x6144 .bf16) (harg8 : arg8.IsWhole) (arg9 : Memref sig .tc .vmem S6144x512 .bf16) (harg9 : arg9.IsWhole) (hc0 : cond0_0 i)
    (x0 : Vec F S6144x512 .bf16) (x1 : Vec F S6144x512 .fp8e4m3) (x2 : Vec F S192x512 .i8) :
    Σ' (L3 : List (View.Piece (Elt F) S512x512 .f32)), Σ' (L4 : List (View.Piece (Elt F) S6144x512 .fp8e4m3)), Σ' (L5 : List (View.Piece (Elt F) S192x512 .i8)), Σ' (LS0 : List (View.Piece (Elt F) S512x6144 .bf16)), { LT1 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_wgrad i arg2 harg2 arg3 harg3 arg4 harg4 arg5 harg5 arg6 harg6 arg7 harg7 arg8 harg8 arg9 harg9) K } := by
  refine ⟨?_, ?_, ?_, ?_, ?_, fun E K => ?run⟩
  case run =>
    simp only [cc0_wgrad_eq_skeleton]; unfold cc0_wgrad_skel
    simp only [k0_part18_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.WgradIdeal.Run

end
-- ==== Proof.WgradIdealFrame.lean ====
module

public import proofs.«01_k».proof.Proof.WgradIdealRunA
public import Idealize.ShloMosaic.Lib.Claim

@[expose] public section

set_option maxRecDepth 16384

noncomputable section

namespace Cert.WgradIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WgradIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases at a point -/

/-- The run of a point that starts a column block, on the point's memrefs and input blocks. -/
abbrev runA (c : Dev nD) (t : Fin cfg0.N) (h0 : t.val % 9 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t)

/-- The run of any other point, on the point's memrefs and input blocks and what the carried buffers hold. -/
abbrev runB (c : Dev nD) (t : Fin cfg0.N) (h0 : ¬t.val % 9 = 0) (x4 : Vec F S6144x512 .fp8e4m3) (x5 : Vec F S192x512 .i8) (xs0 : Vec F S512x6144 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) x4 x5 xs0

/-! The stores of each case tile the buffers they go to. -/

theorem coverA_3 (c : Dev nD) (t : Fin cfg0.N) (h0 : t.val % 9 = 0) (y : S512x512.Idx) :
    ∃ pc ∈ (runA m c t h0).1, y ∈ pc.1.set :=
  View.cover_of_tiledL (runA m c t h0).1 S512x512.size (by sl_kernel_rfl) y
theorem coverA_4 (c : Dev nD) (t : Fin cfg0.N) (h0 : t.val % 9 = 0) (y : S6144x512.Idx) :
    ∃ pc ∈ (runA m c t h0).2.1, y ∈ pc.1.set :=
  View.cover_of_tiledL (runA m c t h0).2.1 S1024x512.size (by sl_kernel_rfl) y
theorem coverA_5 (c : Dev nD) (t : Fin cfg0.N) (h0 : t.val % 9 = 0) (y : S192x512.Idx) :
    ∃ pc ∈ (runA m c t h0).2.2.1, y ∈ pc.1.set :=
  View.cover_of_tiledL (runA m c t h0).2.2.1 S32x512.size (by sl_kernel_rfl) y
theorem scoverA_0 (c : Dev nD) (t : Fin cfg0.N) (h0 : t.val % 9 = 0) (y : S512x6144.Idx) :
    ∃ pc ∈ (runA m c t h0).2.2.2.1, y ∈ pc.1.set :=
  View.cover_of_tiledL (runA m c t h0).2.2.2.1 S512x1024.size (by sl_kernel_rfl) y
theorem coverB_3 (c : Dev nD) (t : Fin cfg0.N) (h0 : ¬t.val % 9 = 0) (x4 : Vec F S6144x512 .fp8e4m3) (x5 : Vec F S192x512 .i8) (xs0 : Vec F S512x6144 .bf16) (y : S512x512.Idx) :
    ∃ pc ∈ (runB m c t h0 x4 x5 xs0).1, y ∈ pc.1.set :=
  View.cover_of_tiledL (runB m c t h0 x4 x5 xs0).1 S512x512.size (by sl_kernel_rfl) y

/-! What each case leaves: its pieces read back. -/

def outA_3 (c : Dev nD) (t : Fin cfg0.N) (h0 : t.val % 9 = 0) : Vec F S512x512 .f32 :=
  VO0_3.read (Elt F) (VO0_3.writes (Elt F) VO0_3.junk (runA m c t h0).1)
def outA_4 (c : Dev nD) (t : Fin cfg0.N) (h0 : t.val % 9 = 0) : Vec F S6144x512 .fp8e4m3 :=
  VO0_4.read (Elt F) (VO0_4.writes (Elt F) VO0_4.junk (runA m c t h0).2.1)
def outA_5 (c : Dev nD) (t : Fin cfg0.N) (h0 : t.val % 9 = 0) : Vec F S192x512 .i8 :=
  VO0_5.read (Elt F) (VO0_5.writes (Elt F) VO0_5.junk (runA m c t h0).2.2.1)
def soutA_0 (c : Dev nD) (t : Fin cfg0.N) (h0 : t.val % 9 = 0) : Vec F S512x6144 .bf16 :=
  VS0_0.read (Elt F) (VS0_0.writes (Elt F) VS0_0.junk (runA m c t h0).2.2.2.1)
def outB_3 (c : Dev nD) (t : Fin cfg0.N) (h0 : ¬t.val % 9 = 0) (x4 : Vec F S6144x512 .fp8e4m3) (x5 : Vec F S192x512 .i8) (xs0 : Vec F S512x6144 .bf16) : Vec F S512x512 .f32 :=
  VO0_3.read (Elt F) (VO0_3.writes (Elt F) VO0_3.junk (runB m c t h0 x4 x5 xs0).1)

/-! ## What the buffers hold after each point -/

/-- The gradient block, the codes, the scales and the carried scratch after the body at position `n`. -/
def outsAt0 (c : Dev nD) : (n : ℕ) → n < cfg0.N → Vec F S512x512 .f32 × Vec F S6144x512 .fp8e4m3 × Vec F S192x512 .i8 × Vec F S512x6144 .bf16
  | 0, hn => (outA_3 m c ⟨0, hn⟩ (Nat.zero_mod _), outA_4 m c ⟨0, hn⟩ (Nat.zero_mod _), outA_5 m c ⟨0, hn⟩ (Nat.zero_mod _), soutA_0 m c ⟨0, hn⟩ (Nat.zero_mod _))
  | n + 1, hn =>
    if h0 : (n + 1) % 9 = 0 then
      (outA_3 m c ⟨n + 1, hn⟩ h0, outA_4 m c ⟨n + 1, hn⟩ h0, outA_5 m c ⟨n + 1, hn⟩ h0, soutA_0 m c ⟨n + 1, hn⟩ h0)
    else
      (outB_3 m c ⟨n + 1, hn⟩ h0 (outsAt0 c n (Nat.lt_of_succ_lt hn)).2.1 (outsAt0 c n (Nat.lt_of_succ_lt hn)).2.2.1 (outsAt0 c n (Nat.lt_of_succ_lt hn)).2.2.2,
        (outsAt0 c n (Nat.lt_of_succ_lt hn)).2)

/-- The point before `t`. -/
abbrev prior (t : Fin cfg0.N) : t.val - 1 < cfg0.N := Nat.lt_of_le_of_lt (Nat.sub_le _ _) t.isLt

theorem outsAt0_A (c : Dev nD) (t : Fin cfg0.N) (h0 : t.val % 9 = 0) :
    outsAt0 m c t.val t.isLt = (outA_3 m c t h0, outA_4 m c t h0, outA_5 m c t h0, soutA_0 m c t h0) := by
  obtain ⟨n, hn⟩ := t
  cases n with
  | zero => exact rfl
  | succ n => exact (dif_pos h0).trans rfl

theorem outsAt0_B (c : Dev nD) (t : Fin cfg0.N) (h0 : ¬t.val % 9 = 0) :
    outsAt0 m c t.val t.isLt = (outB_3 m c t h0 (outsAt0 m c (t.val - 1) (prior t)).2.1 (outsAt0 m c (t.val - 1) (prior t)).2.2.1 (outsAt0 m c (t.val - 1) (prior t)).2.2.2,
      (outsAt0 m c (t.val - 1) (prior t)).2) := by
  obtain ⟨n, hn⟩ := t
  cases n with
  | zero => exact (by exfalso; (try dsimp only at h0); exact absurd (Nat.zero_mod _) h0)
  | succ n => exact (dif_neg h0).trans rfl

/-- The invariant before position `n`: the launch's before the first point, afterwards the carried scratch at what the
    point before left and the other scratch at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The arrays as the region finds them; after a point each input's buffer at its block and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ### The outputs a column block keeps through its later points -/

/-- An output that a window keeps from a column block's first point to its last: at a later point of the block its
    buffer holds what the proof data says the point before left there, whether that point stored it or found it. -/
theorem before_kept {c : Dev nD} (dat : Dat τ (Elt F) Unit ℕ (UR sig nD τ) ℕ cfg0 c) (w : Fin cfg0.W) (hw : (cfg0.win w).isOut = true)
    (hfl : ∀ t, (cfg0.win w).flush t = true ↔ t.val % 9 = 8)
    (hclip : ∀ (i : cfg0.grid.Coords) a, (cfg0.win w).clip i a = none)
    (hid : ∀ t : Fin cfg0.N, t.val % 9 = 0 → cfg0.idle w (cfg0.grid.coords t) = false)
    (hstep : ∀ t : Fin cfg0.N, ¬t.val % 9 = 0 → dat.after w t = dat.after w ⟨t.val - 1, prior t⟩) :
    ∀ (n : ℕ) (hn : n < cfg0.N) (d), ¬n % 9 = 0 → dat.before w ⟨n, hn⟩ d = dat.after w ⟨n - 1, Nat.lt_of_le_of_lt (Nat.sub_le _ _) hn⟩ := by
  intro n
  induction n with
  | zero => intro hn d h; exact absurd (Nat.zero_mod _) h
  | succ n ih =>
    intro hn d h
    have hn' : n < cfg0.N := Nat.lt_of_succ_lt hn
    have hf : (cfg0.win w).flush ⟨n, hn'⟩ = false := by
      cases hq : (cfg0.win w).flush ⟨n, hn'⟩ with
      | false => rfl
      | true => exact absurd ((hfl _).mp hq) (by dsimp only; omega)
    have hkept : dat.kept w ⟨n, hn'⟩ d = dat.after w ⟨n, hn'⟩ := by
      unfold Dat.kept
      rw [Pipeline.fill_of_clip_none w _ (hclip _) d (dat.after w _), Window.fill_cut]
    rw [dat.before_of_pos w ⟨n + 1, hn⟩ (Nat.succ_ne_zero n) ((cfg0.win w).fetch_out hw _)]
    rw [show (⟨(⟨n + 1, hn⟩ : Fin cfg0.N).val - 1, Nat.lt_of_le_of_lt (Nat.sub_le _ _) hn⟩ : Fin cfg0.N) = ⟨n, hn'⟩ from rfl, hf,
      if_neg Bool.false_ne_true]
    unfold Dat.left
    cases hi : cfg0.idle w (cfg0.grid.coords ⟨n, hn'⟩) with
    | false => exact hkept
    | true =>
      have h9 : ¬n % 9 = 0 := fun h9 => by
        have := hid ⟨n, hn'⟩ h9; rw [hi] at this; exact Bool.false_ne_true this.symm
      exact (ih hn' d h9).trans (hstep ⟨n, hn'⟩ h9).symm

/-- The two stored outputs are live where the body's condition holds. -/
theorem live_of (t : Fin cfg0.N) (h0 : t.val % 9 = 0) : (!(k0_cond1 (grid0.coords t) == 1#1)) = false := by
  have h : k0_cond1 (grid0.coords t) = 1#1 := (hcond0_0 t).mpr h0
  rw [h]; rfl

theorem before0_4 (c : Dev nD) (t : Fin cfg0.N) (h0 : ¬t.val % 9 = 0) (d) :
    (dats m 0 c).before 4 t d = (outsAt0 m c (t.val - 1) (prior t)).2.1 := by
  have := before_kept (dats m 0 c) 4 rfl flush0_4 (fun _ _ => rfl) (fun t h => live_of t h)
    (fun t h => by rw [after0_4, after0_4, outsAt0_B m c t h]) t.val t.isLt d h0
  rw [after0_4] at this; exact this

theorem before0_5 (c : Dev nD) (t : Fin cfg0.N) (h0 : ¬t.val % 9 = 0) (d) :
    (dats m 0 c).before 5 t d = (outsAt0 m c (t.val - 1) (prior t)).2.2.1 := by
  have := before_kept (dats m 0 c) 5 rfl flush0_5 (fun _ _ => rfl) (fun t h => live_of t h)
    (fun t h => by rw [after0_5, after0_5, outsAt0_B m c t h]) t.val t.isLt d h0
  rw [after0_5] at this; exact this

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- What a point starting a column block starts from, whichever point it is: the scratches and the register at anything. -/
theorem Phi_any (c : Dev nD) (t : Fin cfg0.N) : (dats m 0 c).Φ t.castSucc
    ⊢ iprop(iprop((∃ d, owns (c : Thread nD τ) scM0_0 fullShare d) ∗ (∃ d, owns (c : Thread nD τ) scM0_1 fullShare d)) ∗ (∃ r, prngReg c r)) := by
  by_cases hz : t.val = 0
  · rw [PhiS_castSucc m c t, PhiS_zero m c _ _ hz, PhiA0_eq]
    try exact Idealize.SL.BI.Entails.refl _
  · rw [PhiS_castSucc m c t, PhiS_pos m c _ _ hz]
    iintro ⟨⟨HS0, HS1⟩, Hg⟩
    isplitl [HS0 HS1]
    · isplitl [HS0]
      · iexists _; iexact HS0
      iexact HS1
    iexact Hg

set_option maxHeartbeats 3200000 in
/-- The body at a point that starts a column block. -/
theorem sound_body_A (c : Dev nD) (t : Fin cfg0.N) (h0 : t.val % 9 = 0) :
    bodyPre m c t ⊢ wp frame (wpE (defs₀ (F := F)) Variants.none c none) Set.univ (bodyAt0 t) (fun _ => bodyPost m c t) := by
  refine (show bodyPre m c t ⊢ _ from BIClass.sep_mono (Phi_any m c t) (Idealize.SL.BI.Entails.refl _)).trans ?_
  unfold bodyPost bodyAt0
  simp only [before0_0, before0_1, before0_2]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [outsAt0_A m c t h0]
  unfold outA_3 outA_4 outA_5 soutA_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((runA m c t h0).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, ⟨%e3, H3⟩, ⟨%e4, H4⟩, ⟨%e5, H5⟩, ⟨%es0, HS0⟩, ⟨%fT1, HS1⟩⟩
  isplitl [HS0 HS1 Hg]
  · isplitl [HS0 HS1]
    · isplitl [HS0]
      · unfold owns; iexists _; isplitr
        swap; · iexact HS0
        ipureintro; exact View.read_writes_of_cover _ _ _ _ _ (scoverA_0 m c t h0)
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (coverA_3 m c t h0)
  isplitl [H4]
  · unfold owns; iexists _; isplitr
    swap; · iexact H4
    ipureintro; exact View.read_writes_of_cover _ _ _ _ _ (coverA_4 m c t h0)
  unfold owns; iexists _; isplitr
  swap; · iexact H5
  ipureintro; exact View.read_writes_of_cover _ _ _ _ _ (coverA_5 m c t h0)

set_option maxHeartbeats 3200000 in
/-- The body at any other point. -/
theorem sound_body_B (c : Dev nD) (t : Fin cfg0.N) (h0 : ¬t.val % 9 = 0) :
    bodyPre m c t ⊢ wp frame (wpE (defs₀ (F := F)) Variants.none c none) Set.univ (bodyAt0 t) (fun _ => bodyPost m c t) := by
  have hz : t.val ≠ 0 := fun hz => h0 (by rw [hz])
  unfold bodyPre bodyPost bodyAt0
  simp only [before0_0, before0_1, before0_2, before0_4 m c t h0, before0_5 m c t h0]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [PhiS_castSucc m c t, PhiS_pos m c _ _ hz]
  rw [outsAt0_B m c t h0]
  unfold outB_3; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((runB m c t h0 _ _ _).2.2 Set.univ _)
  isplitl [H0]; · iexact H0
  isplitl [H1]; · iexact H1
  isplitl [H2]; · iexact H2
  isplitl [H3]; · iexists _; iexact H3
  isplitl [H4]; · iexact H4
  isplitl [H5]; · iexact H5
  isplitl [HS0]; · iexact HS0
  isplitl [HS1]; · iexact HS1
  iintro ⟨H0, H1, H2, ⟨%e3, H3⟩, H4, H5, HS0, ⟨%fT1, HS1⟩⟩
  isplitl [HS0 HS1 Hg]
  · isplitl [HS0 HS1]
    · isplitl [HS0]
      · iexact HS0
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (coverB_3 m c t h0 _ _ _)
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 9 = 0
  · exact sound_body_A m c t h0
  · exact sound_body_B m c t h0

theorem defs₀_row (t : Fin cfg0.N) :
    defs₀ (F := F) .tc cfg0.body (cfg0.bodyArgs t (cfg0.slots t)) = bodyAt0 t := by
  unfold defs₀; rw [Defs.onTc_tc]

/-- A buffer at what the body leaves is the buffer as the obligation asks for it: where the window is idle and not
    written back, at what the body found, which is the same. -/
theorem leaves_of {c : Dev nD} (dat : Dat τ (Elt F) Unit ℕ (UR sig nD τ) ℕ cfg0 c) (w : Fin cfg0.W) (t : Fin cfg0.N)
    (h : cfg0.idle w (cfg0.grid.coords t) = true → ∀ d, dat.before w t d = dat.after w t) :
    owns (c : Thread nD τ) ((cfg0.win w).stage (cfg0.slots t w)) fullShare (dat.after w t) ⊢ (dat.leavesExact w t : sProp 𝕄) := by
  unfold Dat.leavesExact
  cases hi : cfg0.idle w (cfg0.grid.coords t)
  · exact .rfl
  · cases (cfg0.win w).flush t
    · dsimp only
      iintro H; iexists dat.after w t; rw [h hi]; iexact H
    · exact .rfl

/-- An idle point of the stored outputs is no first point of a column block. -/
theorem idle_ne (t : Fin cfg0.N) (h : (!(k0_cond1 (grid0.coords t) == 1#1)) = true) : ¬t.val % 9 = 0 := fun h0 => by
  rw [live_of t h0] at h; exact Bool.false_ne_true h

theorem post_leaves (c : Dev nD) (t : Fin cfg0.N) : bodyPost m c t ⊢ iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t) := by
  unfold bodyPost
  refine Idealize.SL.BI.sep_mono (Idealize.SL.BI.Entails.refl _) (Idealize.SL.BI.sep_mono (Idealize.SL.BI.Entails.refl _) (Idealize.SL.BI.sep_mono (leaves_of _ 0 t (fun h => absurd h Bool.false_ne_true))
    (Idealize.SL.BI.sep_mono (leaves_of _ 1 t (fun h => absurd h Bool.false_ne_true)) (Idealize.SL.BI.sep_mono (leaves_of _ 2 t (fun h => absurd h Bool.false_ne_true))
    (Idealize.SL.BI.sep_mono (leaves_of _ 3 t (fun h => absurd h Bool.false_ne_true)) (Idealize.SL.BI.sep_mono (leaves_of _ 4 t ?_) (leaves_of _ 5 t ?_)))))))
  · intro h d
    have h0 := idle_ne t h
    rw [before0_4 m c t h0, after0_4, outsAt0_B m c t h0]
  · intro h d
    have h0 := idle_ne t h
    rw [before0_5 m c t h0, after0_5, outsAt0_B m c t h0]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 216 := N_0; omega)

/-! ## The run and the frame -/

-- the library theorem's implicit arguments are found by unifying its conclusion with this one
set_option backward.isDefEq.respectTransparency.types false in
/-- The launch: every array of the pipeline ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.WgradIdeal.Run

end
-- ==== Proof.WgradReference.lean ====
/-
  THE WEIGHT GRADIENT'S REFERENCE, RUN: it has one grid point and every block is a whole array, so each array after the
  run is what the body stores, of the argument arrays.
-/
module

public import proofs.«01_k».proof.Proof.Gen.WgradRefIdeal.Frame
public import Idealize.ShloMosaic.Lib.Pipeline.Value

@[expose] public section

noncomputable section

namespace Cert.WgradRefIdeal.Whole

open Cert.WgradRefIdeal Cert.WgradRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S6144x12288.Idx) : ((cfg0.win 0).blk t).view.emb j = j := by
  obtain ⟨e0, e1⟩ := idx_zero0 t
  funext a; apply Fin.ext
  match a with
  | ⟨0, _⟩ => show win0_0.index t (0 : Fin 2) * 6144 + 1 * (j 0).val = (j 0).val; omega
  | ⟨1, _⟩ => show win0_0.index t (1 : Fin 2) * 12288 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S6144x4608.Idx) : ((cfg0.win 1).blk t).view.emb j = j := by
  obtain ⟨e0, e1⟩ := idx_zero1 t
  funext a; apply Fin.ext
  match a with
  | ⟨0, _⟩ => show win0_1.index t (0 : Fin 2) * 6144 + 1 * (j 0).val = (j 0).val; omega
  | ⟨1, _⟩ => show win0_1.index t (1 : Fin 2) * 4608 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S192x4608.Idx) : ((cfg0.win 2).blk t).view.emb j = j := by
  obtain ⟨e0, e1⟩ := idx_zero2 t
  funext a; apply Fin.ext
  match a with
  | ⟨0, _⟩ => show win0_2.index t (0 : Fin 2) * 192 + 1 * (j 0).val = (j 0).val; omega
  | ⟨1, _⟩ => show win0_2.index t (1 : Fin 2) * 4608 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S12288x4608.Idx) : ((cfg0.win 3).blk t).view.emb j = j := by
  obtain ⟨e0, e1⟩ := idx_zero3 t
  funext a; apply Fin.ext
  match a with
  | ⟨0, _⟩ => show win0_3.index t (0 : Fin 2) * 12288 + 1 * (j 0).val = (j 0).val; omega
  | ⟨1, _⟩ => show win0_3.index t (1 : Fin 2) * 4608 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S6144x12288.Idx) : ((cfg0.win 4).blk t).view.emb j = j := by
  obtain ⟨e0, e1⟩ := idx_zero4 t
  funext a; apply Fin.ext
  match a with
  | ⟨0, _⟩ => show win0_4.index t (0 : Fin 2) * 6144 + 1 * (j 0).val = (j 0).val; omega
  | ⟨1, _⟩ => show win0_4.index t (1 : Fin 2) * 12288 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S192x12288.Idx) : ((cfg0.win 5).blk t).view.emb j = j := by
  obtain ⟨e0, e1⟩ := idx_zero5 t
  funext a; apply Fin.ext
  match a with
  | ⟨0, _⟩ => show win0_5.index t (0 : Fin 2) * 192 + 1 * (j 0).val = (j 0).val; omega
  | ⟨1, _⟩ => show win0_5.index t (1 : Fin 2) * 12288 + 1 * (j 1).val = (j 1).val; omega

/-! ### Output window 3: the array after the run -/

/-- What the window's array ends holding: `out0_3` applied to the argument arrays in place of the input blocks. -/
abbrev G3 (a0 : Vec F S6144x12288 .bf16) (a1 : Vec F S6144x4608 .fp8e4m3) (a2 : Vec F S192x4608 .i8) : Vec F S12288x4608 .f32 :=
  k0_pay5 (k0_pay3 a0) (k0_pay4 a0) a1 a2

/-- A load of the whole of a block reads the block, and the one store through the whole rectangle leaves its payload. -/
theorem out3_eq (a0 : Vec F S6144x12288 .bf16) (a1 : Vec F S6144x4608 .fp8e4m3) (a2 : Vec F S192x4608 .i8) : out0_3 (F := F) a0 a1 a2 = G3 a0 a1 a2 := by
  unfold out0_3 k0_pay6
  rw [View.canon_unit_zero hz3, View.ld_unit_zero (S := S6144x12288) hz0 _ a0, View.ld_unit_zero (S := S6144x4608) hz1 _ a1, View.ld_unit_zero (S := S192x4608) hz2 _ a2]

/-- Cutting the point's block out of `X` and reading `X` through the block's view give the same. -/
theorem cut3_eq (t : Fin cfg0.N) (X : Vec F S12288x4608 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S12288x4608.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks. -/
abbrev G4 (a0 : Vec F S6144x12288 .bf16) (a1 : Vec F S6144x4608 .fp8e4m3) (a2 : Vec F S192x4608 .i8) : Vec F S6144x12288 .fp8e4m3 :=
  k0_pay3 a0

/-- A load of the whole of a block reads the block, and the one store through the whole rectangle leaves its payload. -/
theorem out4_eq (a0 : Vec F S6144x12288 .bf16) (a1 : Vec F S6144x4608 .fp8e4m3) (a2 : Vec F S192x4608 .i8) : out0_4 (F := F) a0 a1 a2 = G4 a0 a1 a2 := by
  unfold out0_4
  rw [View.canon_unit_zero hz4, View.ld_unit_zero (S := S6144x12288) hz0 _ a0]

/-- Cutting the point's block out of `X` and reading `X` through the block's view give the same. -/
theorem cut4_eq (t : Fin cfg0.N) (X : Vec F S6144x12288 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S6144x12288.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks. -/
abbrev G5 (a0 : Vec F S6144x12288 .bf16) (a1 : Vec F S6144x4608 .fp8e4m3) (a2 : Vec F S192x4608 .i8) : Vec F S192x12288 .i8 :=
  k0_pay4 a0

/-- The one store through the whole rectangle leaves its payload. -/
theorem out5_eq (a0 : Vec F S6144x12288 .bf16) (a1 : Vec F S6144x4608 .fp8e4m3) (a2 : Vec F S192x4608 .i8) : out0_5 (F := F) a0 a1 a2 = G5 a0 a1 a2 := by
  unfold out0_5 k0_pay6
  rw [View.canon_unit_zero hz5, View.ld_unit_zero (S := S6144x12288) hz0 _ a0]

/-- Cutting the point's block out of `X` and reading `X` through the block's view give the same. -/
theorem cut5_eq (t : Fin cfg0.N) (X : Vec F S192x12288 .i8) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S192x12288.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.WgradRefIdeal.Whole

end
-- ==== Proof.Exponent.lean ====
/-
  THE EXPONENT OF A RUN OF 32. The kernel reads the top half of the absolute maximum's f32 word (here found by bisection),
  rounds it up by a quarter of a binade less 448's mantissa and takes the exponent field; the reference takes the floor of
  a base-two logarithm of the maximum over 448, plus one. At every maximum from 0 to infinity the two give one byte.
-/
module

public import proofs.«01_k».proof.Proof.Scales

@[expose] public section

set_option maxRecDepth 16384

noncomputable section

namespace Cert.Scales

open Idealize.ShloMosaic

/-! ### What each side computes of one maximum -/

/-- One step of the bisection: the bit `b` is kept when the word with it still reads at most `a`. -/
def stepW (a : EReal) (w b : BitVec 32) : BitVec 32 :=
  Scalar.select (FloatOps.cmpf (F := Ideal) (φ := .f32) .oge a (FloatOps.ofBits (F := Ideal) .f32 (IntOp.addi w b))) (IntOp.addi w b) w

/-- The word of the fifteen steps. -/
def wordOf (a : EReal) : BitVec 32 :=
  stepW a (stepW a (stepW a (stepW a (stepW a (stepW a (stepW a (stepW a (stepW a (stepW a (stepW a (stepW a (stepW a (stepW a
    (stepW a 0#32 1073741824#32) 536870912#32) 268435456#32) 134217728#32) 67108864#32) 33554432#32) 16777216#32) 8388608#32)
    4194304#32) 2097152#32) 1048576#32) 524288#32) 262144#32) 131072#32) 65536#32

/-- The byte the kernel takes from a word. -/
def byteW (w : BitVec 32) : BitVec 32 :=
  Scalar.select (IntOp.andi (IntOp.cmpi .sge w 81788928#32) (IntOp.cmpi .slt w 2139095040#32))
    (IntOp.subi (IntOp.shrsi .vector (IntOp.addi w 2097152#32) 23#32) 8#32) 127#32

/-- The byte the kernel takes from a maximum. -/
def byteOf (a : EReal) : BitVec 32 := byteW (wordOf a)

/-- The exponent the reference takes from a maximum. -/
def expOf (a : EReal) : BitVec 32 :=
  FloatOps.fptosi (F := Ideal) (φ := .f32) 32 (Scalar.select
    (IntOp.ori (FloatOps.cmpf (F := Ideal) (φ := .f32) .olt (FloatOps.divf (F := Ideal) (φ := .f32) a (FloatOps.ofBits (F := Ideal) .f32 0x43E00000#32)) (FloatOps.ofBits (F := Ideal) .f32 0x00800000#32))
      (FloatOps.cmpf (F := Ideal) (φ := .f32) .oeq a (FloatOps.ofBits (F := Ideal) .f32 0x7F800000#32)))
    (FloatOps.ofBits (F := Ideal) .f32 0x00000000#32)
    (FloatOps.minimumf (F := Ideal) (φ := .f32)
      (FloatOps.addf (F := Ideal) (φ := .f32)
        (FloatOps.floor (F := Ideal) (φ := .f32) (FloatOps.divf (F := Ideal) (φ := .f32)
          (FloatOps.log (F := Ideal) (φ := .f32) (FloatOps.divf (F := Ideal) (φ := .f32) a (FloatOps.ofBits (F := Ideal) .f32 0x43E00000#32)))
          (FloatOps.log (F := Ideal) (φ := .f32) (FloatOps.ofBits (F := Ideal) .f32 0x40000000#32))))
        (FloatOps.ofBits (F := Ideal) .f32 0x3F800000#32))
      (FloatOps.ofBits (F := Ideal) .f32 0x42F00000#32)))

/-! ### The values of the words with a zero low half -/

/-- The value of the word `n · 2¹⁶`, for a finite one. -/
def half (n : ℕ) : ℝ := if n / 128 = 0 then (n : ℝ) * (2 : ℝ) ^ (-133 : ℤ) else ((128 + n % 128 : ℕ) : ℝ) * (2 : ℝ) ^ ((n / 128 : ℕ) - 134 : ℤ)

theorem half_mono : Monotone half := by
  refine monotone_nat_of_le_succ fun n => ?_
  unfold half
  have hp : ∀ k : ℤ, (0 : ℝ) < (2 : ℝ) ^ k := fun k => by positivity
  by_cases h0 : n / 128 = 0
  · by_cases h1 : (n + 1) / 128 = 0
    · rw [if_pos h0, if_pos h1]
      have := hp (-133)
      push_cast
      nlinarith
    · have hn : n = 127 := by omega
      subst hn
      rw [if_pos h0, if_neg h1]
      norm_num
  · have h1 : (n + 1) / 128 ≠ 0 := by omega
    rw [if_neg h0, if_neg h1]
    by_cases h2 : n % 128 = 127
    · have e1 : (n + 1) / 128 = n / 128 + 1 := by omega
      have e2 : (n + 1) % 128 = 0 := by omega
      rw [e1, e2, h2]
      have e3 : (((n / 128 + 1 : ℕ) : ℤ) - 134) = ((n / 128 : ℕ) - 134 : ℤ) + 1 := by push_cast; ring
      rw [e3, zpow_add_one₀ (by norm_num)]
      have := hp ((n / 128 : ℕ) - 134 : ℤ)
      push_cast at this ⊢
      nlinarith
    · have e1 : (n + 1) / 128 = n / 128 := by omega
      have e2 : (n + 1) % 128 = n % 128 + 1 := by omega
      rw [e1, e2]
      refine mul_le_mul_of_nonneg_right ?_ (hp _).le
      push_cast
      linarith

/-- The same with infinity from `255 · 128` on. -/
def halfE (n : ℕ) : EReal := if n < 32640 then (half n : EReal) else ⊤

theorem half_fields : ∀ e : Fin 256, ∀ l : Fin 128,
    (BitVec.ofNat 32 (65536 * (128 * e.val + l.val))).extractLsb' 31 1 = 0#1
    ∧ ((BitVec.ofNat 32 (65536 * (128 * e.val + l.val))).extractLsb' 23 8).toNat = e.val
    ∧ ((BitVec.ofNat 32 (65536 * (128 * e.val + l.val))).extractLsb' 0 23).toNat = 65536 * l.val := by
  intro e l
  have he := e.isLt
  have hl := l.isLt
  refine ⟨?_, ?_, ?_⟩
  · apply BitVec.eq_of_toNat_eq
    simp only [BitVec.extractLsb'_toNat, BitVec.toNat_ofNat, Nat.shiftRight_eq_div_pow]
    omega
  · simp only [BitVec.extractLsb'_toNat, BitVec.toNat_ofNat, Nat.shiftRight_eq_div_pow]
    omega
  · simp only [BitVec.extractLsb'_toNat, BitVec.toNat_ofNat, Nat.shiftRight_eq_div_pow]
    omega

theorem ofBits_half (n : ℕ) (hn : n ≤ 32640) : Ideal.ofBits .f32 (BitVec.ofNat 32 (65536 * n)) = halfE n := by
  obtain ⟨h0, h1, h2⟩ := half_fields ⟨n / 128, by omega⟩ ⟨n % 128, Nat.mod_lt _ (by norm_num)⟩
  have hn' : 128 * (n / 128) + n % 128 = n := Nat.div_add_mod n 128
  simp only [hn'] at h0 h1 h2
  rw [ofBits_f32]
  unfold Ideal.ieee halfE half
  simp only [h0, h1, h2]
  by_cases ht : n = 32640
  · subst ht
    norm_num
  · rw [if_neg (by show ¬(n / 128 = 2 ^ 8 - 1); omega), if_pos (show n < 32640 by omega)]
    by_cases hz : n / 128 = 0
    · rw [if_pos hz, if_pos hz]
      congr 1
      have e : n % 128 = n := by omega
      rw [e]
      have : (2 : ℝ) ^ (-133 : ℤ) = (2 : ℝ) ^ (16 : ℕ) * (2 : ℝ) ^ (-149 : ℤ) := by norm_num
      rw [this]
      norm_num
      ring
    · rw [if_neg hz, if_neg hz]
      congr 1
      have : (2 : ℝ) ^ ((n / 128 : ℕ) - 134 : ℤ) = (2 : ℝ) ^ (16 : ℕ) * (2 : ℝ) ^ ((n / 128 : ℕ) - 150 : ℤ) := by
        rw [← zpow_natCast, ← zpow_add₀ (by norm_num)]; congr 1; push_cast; ring
      rw [this]
      have e2 : (((n / 128 : ℕ) : ℤ) - (2 ^ (8 - 1) - 1) - (23 : ℕ)) = ((n / 128 : ℕ) - 150 : ℤ) := by push_cast; ring
      rw [e2]
      push_cast
      norm_num
      ring

/-! ### The bisection -/

theorem stepW_eq (a : EReal) (k n : ℕ) (hk : k ≤ 14) (hd : 2 ^ (k + 1) ∣ n) (hn : n < 32640) :
    stepW a (BitVec.ofNat 32 (65536 * n)) (BitVec.ofNat 32 (65536 * 2 ^ k))
      = BitVec.ofNat 32 (65536 * (if halfE (n + 2 ^ k) ≤ a then n + 2 ^ k else n)) := by
  have hle : n + 2 ^ k ≤ 32640 := by
    obtain ⟨q, rfl⟩ := hd
    interval_cases k <;> omega
  have hadd : IntOp.addi (BitVec.ofNat 32 (65536 * n)) (BitVec.ofNat 32 (65536 * 2 ^ k)) = BitVec.ofNat 32 (65536 * (n + 2 ^ k)) := by
    show BitVec.ofNat 32 _ + BitVec.ofNat 32 _ = _
    rw [← BitVec.ofNat_add, mul_add]
  unfold stepW
  rw [hadd]
  show Scalar.select (BitVec.ofBool (decide (Ideal.ofBits .f32 (BitVec.ofNat 32 (65536 * (n + 2 ^ k))) ≤ a))) _ _ = _
  rw [ofBits_half _ hle]
  unfold Scalar.select
  by_cases h : halfE (n + 2 ^ k) ≤ a
  · simp [h]
  · simp [h]

/-- What holds after the steps down to bit `k`: the word so far is a multiple of the bit, at most `a`, and `a` is below the next one. -/
def Inv (a : EReal) (k : ℕ) (w : BitVec 32) : Prop :=
  ∃ n : ℕ, w = BitVec.ofNat 32 (65536 * n) ∧ 2 ^ k ∣ n ∧ n < 32640 ∧ halfE n ≤ a ∧ a < halfE (n + 2 ^ k)

theorem Inv.step {a : EReal} (ha : a < ⊤) {k : ℕ} (hk : k ≤ 14) {w : BitVec 32} (h : Inv a (k + 1) w) :
    Inv a k (stepW a w (BitVec.ofNat 32 (65536 * 2 ^ k))) := by
  obtain ⟨n, rfl, hd, hn, hlo, hhi⟩ := h
  have hd' : 2 ^ k ∣ n := (pow_dvd_pow 2 (Nat.le_succ k)).trans hd
  rw [stepW_eq a k n hk hd hn]
  by_cases h : halfE (n + 2 ^ k) ≤ a
  · rw [if_pos h]
    refine ⟨n + 2 ^ k, rfl, dvd_add hd' dvd_rfl, ?_, h, ?_⟩
    · by_contra hc
      unfold halfE at h
      rw [if_neg hc] at h
      exact absurd (lt_of_le_of_lt h ha) (lt_irrefl _)
    · have e : n + 2 ^ k + 2 ^ k = n + 2 ^ (k + 1) := by rw [pow_succ]; ring
      rw [e]; exact hhi
  · rw [if_neg h]
    exact ⟨n, rfl, hd', hn, hlo, not_le.mp h⟩

theorem wordOf_inv {a : EReal} (h0 : 0 ≤ a) (ha : a < ⊤) : Inv a 0 (wordOf a) := by
  have h15 : Inv a 15 0#32 := by
    refine ⟨0, rfl, dvd_zero _, by norm_num, ?_, ?_⟩
    · unfold halfE half; norm_num; exact h0
    · unfold halfE; rw [if_neg (by norm_num)]; exact ha
  exact ((((((((((((((h15.step ha (k := 14) (by norm_num)).step ha (k := 13) (by norm_num)).step ha (k := 12) (by norm_num)).step ha (k := 11) (by norm_num)).step ha
    (k := 10) (by norm_num)).step ha (k := 9) (by norm_num)).step ha (k := 8) (by norm_num)).step ha (k := 7) (by norm_num)).step ha (k := 6) (by norm_num)).step ha
    (k := 5) (by norm_num)).step ha (k := 4) (by norm_num)).step ha (k := 3) (by norm_num)).step ha (k := 2) (by norm_num)).step ha (k := 1) (by norm_num)).step ha
    (k := 0) (by norm_num)

theorem stepW_top (w b : BitVec 32) : stepW ⊤ w b = w + b := by
  unfold stepW
  show Scalar.select (BitVec.ofBool (decide (Ideal.ofBits .f32 _ ≤ (⊤ : EReal)))) _ _ = _
  simp [Scalar.select, IntOp.addi]

theorem byteOf_top : byteOf ⊤ = 127#32 := by
  unfold byteOf wordOf
  simp only [stepW_top]
  decide

/-- The byte of a word with a zero low half, by the half's number. -/
theorem byteW_half (n : ℕ) (hn : n < 32640) :
    byteW (BitVec.ofNat 32 (65536 * n)) = if 1248 ≤ n then BitVec.ofNat 32 ((n + 32) / 128 - 8) else 127#32 := by
  have hw : (BitVec.ofNat 32 (65536 * n)).toNat = 65536 * n := by rw [BitVec.toNat_ofNat]; omega
  have hi : (BitVec.ofNat 32 (65536 * n)).toInt = ((65536 * n : ℕ) : ℤ) := by
    rw [BitVec.toInt_eq_toNat_of_lt (by rw [hw]; omega), hw]
  have h1 : IntOp.cmpi .sge (BitVec.ofNat 32 (65536 * n)) 81788928#32 = BitVec.ofBool (decide (1248 ≤ n)) := by
    unfold IntOp.cmpi
    congr 1
    simp only [BitVec.sle, BitVec.slt, hi]
    rw [show (81788928#32).toInt = 81788928 by decide]
    rw [decide_eq_decide]
    push_cast
    omega
  have h2 : IntOp.cmpi .slt (BitVec.ofNat 32 (65536 * n)) 2139095040#32 = 1#1 := by
    unfold IntOp.cmpi
    simp only [BitVec.sle, BitVec.slt, hi]
    rw [show (2139095040#32).toInt = 2139095040 by decide]
    rw [decide_eq_true (by push_cast; omega)]
    rfl
  have h3 : IntOp.subi (IntOp.shrsi .vector (IntOp.addi (BitVec.ofNat 32 (65536 * n)) 2097152#32) 23#32) 8#32
      = BitVec.ofNat 32 ((n + 32) / 128) - 8#32 := by
    have ha : IntOp.addi (BitVec.ofNat 32 (65536 * n)) 2097152#32 = BitVec.ofNat 32 (65536 * (n + 32)) := by
      show BitVec.ofNat 32 _ + BitVec.ofNat 32 2097152 = _
      rw [← BitVec.ofNat_add]
      exact congrArg (BitVec.ofNat 32) (by omega)
    rw [ha]
    unfold IntOp.shrsi IntOp.subi
    rw [if_pos (by decide)]
    refine congrArg (fun z : BitVec 32 => z - 8#32) ?_
    have hs : (BitVec.ofNat 32 (65536 * (n + 32))).toNat = 65536 * (n + 32) := by rw [BitVec.toNat_ofNat]; omega
    have hm : (BitVec.ofNat 32 (65536 * (n + 32))).msb = false := by
      rw [BitVec.msb_eq_decide, hs, decide_eq_false (by omega)]
    have h23 : (23#32).toNat = 23 := by decide
    rw [BitVec.sshiftRight_eq', BitVec.sshiftRight_eq_of_msb_false hm, h23]
    apply BitVec.eq_of_toNat_eq
    rw [BitVec.toNat_ushiftRight, hs, BitVec.toNat_ofNat, Nat.shiftRight_eq_div_pow]
    omega
  unfold byteW
  rw [h1, h2, h3]
  by_cases h : 1248 ≤ n
  · rw [if_pos h]
    simp only [h, decide_true]
    show BitVec.ofNat 32 ((n + 32) / 128) - 8#32 = _
    apply BitVec.eq_of_toNat_eq
    rw [BitVec.toNat_sub, BitVec.toNat_ofNat, BitVec.toNat_ofNat, BitVec.toNat_ofNat]
    omega
  · rw [if_neg h]
    simp only [h, decide_false]
    rfl

/-! ### The reference's exponent -/

/-- The base-two logarithm. -/
def log2 (q : ℝ) : ℝ := Real.log q / Real.log 2

theorem le_log2 {q : ℝ} (hq : 0 < q) (k : ℤ) : (k : ℝ) ≤ log2 q ↔ (2 : ℝ) ^ k ≤ q := by
  unfold log2
  rw [le_div_iff₀ (Real.log_pos (by norm_num)), ← Real.log_zpow, Real.log_le_log_iff (by positivity) hq]

theorem log2_lt {q : ℝ} (hq : 0 < q) (k : ℤ) : log2 q < (k : ℝ) ↔ q < (2 : ℝ) ^ k := by
  rw [← not_le, le_log2 hq, not_le]

theorem word_ieee (n : ℕ) (b : BitVec 32) (h0 : b.extractLsb' 31 1 = 0#1) (h1 : (b.extractLsb' 23 8).toNat = n)
    (hn0 : n ≠ 0) (hn : n ≠ 255) :
    Ideal.ofBits .f32 b = ((((2 ^ 23 + (b.extractLsb' 0 23).toNat : ℕ) : ℝ) * (2 : ℝ) ^ ((n : ℤ) - 150) : ℝ) : EReal) := by
  rw [ofBits_f32]
  unfold Ideal.ieee
  simp only [h0, h1]
  rw [if_neg (by simpa using hn), if_neg hn0]
  congr 1
  have e2 : ((n : ℤ) - (2 ^ (8 - 1) - 1) - (23 : ℕ)) = (n : ℤ) - 150 := by push_cast; ring
  rw [e2]
  norm_num

theorem w448 : Ideal.ofBits .f32 0x43E00000#32 = ((448 : ℝ) : EReal) := by
  rw [word_ieee 135 _ (by decide) (by decide) (by decide) (by decide)]
  congr 1
  rw [show ((0x43E00000#32 : BitVec 32).extractLsb' 0 23).toNat = 6291456 by decide]
  norm_num

theorem w2 : Ideal.ofBits .f32 0x40000000#32 = ((2 : ℝ) : EReal) := by
  rw [word_ieee 128 _ (by decide) (by decide) (by decide) (by decide)]
  congr 1
  rw [show ((0x40000000#32 : BitVec 32).extractLsb' 0 23).toNat = 0 by decide]
  norm_num

theorem w1 : Ideal.ofBits .f32 0x3F800000#32 = ((1 : ℝ) : EReal) := by
  rw [word_ieee 127 _ (by decide) (by decide) (by decide) (by decide)]
  congr 1
  rw [show ((0x3F800000#32 : BitVec 32).extractLsb' 0 23).toNat = 0 by decide]
  norm_num

theorem w120 : Ideal.ofBits .f32 0x42F00000#32 = ((120 : ℝ) : EReal) := by
  rw [word_ieee 133 _ (by decide) (by decide) (by decide) (by decide)]
  congr 1
  rw [show ((0x42F00000#32 : BitVec 32).extractLsb' 0 23).toNat = 7340032 by decide]
  norm_num

theorem wmin : Ideal.ofBits .f32 0x00800000#32 = (((2 : ℝ) ^ (-126 : ℤ) : ℝ) : EReal) := by
  rw [word_ieee 1 _ (by decide) (by decide) (by decide) (by decide)]
  congr 1
  rw [show ((0x00800000#32 : BitVec 32).extractLsb' 0 23).toNat = 0 by decide]
  norm_num

theorem wtop : Ideal.ofBits .f32 0x7F800000#32 = ⊤ := by
  rw [ofBits_f32, ieee_top _ (by decide) (by decide) (by decide)]

theorem wzero : Ideal.ofBits .f32 0x00000000#32 = 0 := by
  rw [ofBits_f32, ieee_zero _ (by decide) (by decide)]

theorem fptosi_int (k : ℤ) (h1 : -2147483648 ≤ k) (h2 : k ≤ 2147483647) : Ideal.fptosi 32 (((k : ℝ)) : EReal) = BitVec.ofInt 32 k := by
  unfold Ideal.fptosi
  rw [Ideal.toIntClamped_coe]
  congr 1
  have : (if (0 : ℝ) ≤ (k : ℝ) then ⌊(k : ℝ)⌋ else ⌈(k : ℝ)⌉) = k := by
    split <;> simp
  rw [this]
  norm_num
  omega

theorem expOf_top : expOf ⊤ = 0#32 := by
  unfold expOf
  show Ideal.fptosi 32 (Scalar.select (IntOp.ori _ (BitVec.ofBool (decide ((⊤ : EReal) = Ideal.ofBits .f32 0x7F800000#32)))) (Ideal.ofBits .f32 0x00000000#32) _) = _
  rw [wtop, wzero]
  have : ∀ c : BitVec 1, IntOp.ori c (BitVec.ofBool (decide ((⊤ : EReal) = ⊤))) = 1#1 := by
    intro c
    rw [decide_eq_true rfl]
    revert c
    decide
  rw [this]
  show Ideal.fptosi 32 0 = _
  have := fptosi_int 0 (by norm_num) (by norm_num)
  simpa using this

/-- The exponent of a real maximum: 0 below `448 · 2⁻¹²⁶`, otherwise the floor of the logarithm plus one, at most 120. -/
theorem expOf_real (r : ℝ) (h0 : 0 ≤ r) : expOf (r : EReal)
    = if r / 448 < (2 : ℝ) ^ (-126 : ℤ) then 0#32 else BitVec.ofInt 32 (min (⌊log2 (r / 448)⌋ + 1) 120) := by
  unfold expOf
  show Ideal.fptosi 32 (Scalar.select (IntOp.ori (BitVec.ofBool (decide (Ideal.div (r : EReal) (Ideal.ofBits .f32 0x43E00000#32) < Ideal.ofBits .f32 0x00800000#32))) (BitVec.ofBool (decide ((r : EReal) = Ideal.ofBits .f32 0x7F800000#32)))) (Ideal.ofBits .f32 0x00000000#32)
    (min (Ideal.liftRound Int.floor (Ideal.div (Ideal.log (Ideal.div (r : EReal) (Ideal.ofBits .f32 0x43E00000#32))) (Ideal.log (Ideal.ofBits .f32 0x40000000#32))) + Ideal.ofBits .f32 0x3F800000#32) (Ideal.ofBits .f32 0x42F00000#32))) = _
  rw [wtop, wzero, w448, w2, w1, w120, wmin]
  have hq : Ideal.div (r : EReal) ((448 : ℝ) : EReal) = ((r / 448 : ℝ) : EReal) := by
    rw [Ideal.div_coe (by norm_num), ← EReal.coe_mul]; congr 1; ring
  rw [hq, decide_eq_false (EReal.coe_ne_top r)]
  by_cases h : r / 448 < (2 : ℝ) ^ (-126 : ℤ)
  · rw [if_pos h, decide_eq_true (EReal.coe_lt_coe_iff.mpr h)]
    show Ideal.fptosi 32 0 = _
    have := fptosi_int 0 (by norm_num) (by norm_num)
    simpa using this
  · rw [if_neg h, decide_eq_false (fun hc => h (EReal.coe_lt_coe_iff.mp hc))]
    show Ideal.fptosi 32 (min _ _) = _
    have hpos : 0 < r / 448 := lt_of_lt_of_le (by positivity) (not_lt.mp h)
    have hl2 : Real.log 2 ≠ 0 := (Real.log_pos (by norm_num)).ne'
    rw [Ideal.log_coe, Ideal.log_coe, if_neg (not_le.mpr hpos), if_neg (by norm_num), Ideal.div_coe hl2, ← EReal.coe_mul]
    have hlog : Real.log (r / 448) * (1 / Real.log 2) = log2 (r / 448) := by rw [log2]; ring
    rw [hlog]
    have hfl : Ideal.liftRound Int.floor ((log2 (r / 448) : ℝ) : EReal) = ((⌊log2 (r / 448)⌋ : ℝ) : EReal) := rfl
    rw [hfl, ← EReal.coe_add]
    have hmin : min ((((⌊log2 (r / 448)⌋ : ℝ) + 1 : ℝ)) : EReal) ((120 : ℝ) : EReal)
        = (((min (⌊log2 (r / 448)⌋ + 1) 120 : ℤ) : ℝ) : EReal) := by
      rw [← (EReal.coe_strictMono.monotone).map_min]; congr 1; push_cast; rfl
    rw [hmin]
    refine fptosi_int _ ?_ ?_
    · refine le_min ?_ (by norm_num)
      have : (-126 : ℤ) ≤ ⌊log2 (r / 448)⌋ := by
        rw [Int.le_floor, le_log2 hpos]
        exact not_lt.mp h
      omega
    · exact (min_le_right _ _).trans (by norm_num)

/-! ### The two agree -/

theorem half_normal (n e m : ℕ) (hn : n = 128 * e + m) (hm : m < 128) (he : e ≠ 0) :
    half n = ((128 + m : ℕ) : ℝ) * (2 : ℝ) ^ ((e : ℤ) - 134) := by
  unfold half
  have e1 : n / 128 = e := by omega
  have e2 : n % 128 = m := by omega
  rw [e1, e2, if_neg he]

/-- The byte, as a number from 2 to 247, is both what the kernel's word gives and the reference's exponent plus 127. -/
theorem byte_number (a : EReal) (h0 : 0 ≤ a) :
    ∃ s : ℕ, 2 ≤ s ∧ s ≤ 247 ∧ byteOf a = BitVec.ofNat 32 s ∧ expOf a = BitVec.ofInt 32 ((s : ℤ) - 127) := by
  induction a with
  | bot => exact absurd h0 (by simp)
  | top => exact ⟨127, by norm_num, by norm_num, byteOf_top, expOf_top⟩
  | coe r =>
    have hr : 0 ≤ r := by exact_mod_cast h0
    obtain ⟨n, hw, -, hn, hlo, hhi⟩ := wordOf_inv h0 (EReal.coe_lt_top r)
    have hlo' : half n ≤ r := by unfold halfE at hlo; rw [if_pos hn] at hlo; exact_mod_cast hlo
    have hhi' : n + 1 < 32640 → r < half (n + 1) := by
      intro h; unfold halfE at hhi; rw [pow_zero, if_pos h] at hhi; exact_mod_cast hhi
    have hb : byteOf (r : EReal) = _ := (congrArg byteW hw).trans (byteW_half n hn)
    rw [hb, expOf_real r hr]
    by_cases h : 1248 ≤ n
    · rw [if_pos h]
      obtain ⟨E, hE⟩ : ∃ E : ℕ, E = (n + 32) / 128 := ⟨_, rfl⟩
      rw [← hE]
      have hE1 : 10 ≤ E := by omega
      have hE2 : E ≤ 255 := by omega
      have hlow : 448 * (2 : ℝ) ^ ((E : ℤ) - 136) ≤ r := by
        refine le_trans (le_of_eq ?_) ((half_mono (show 128 * (E - 1) + 96 ≤ n by omega)).trans hlo')
        rw [half_normal _ (E - 1) 96 rfl (by norm_num) (by omega)]
        have : (((E - 1 : ℕ) : ℤ) - 134) = ((E : ℤ) - 136) + 1 := by omega
        rw [this, zpow_add_one₀ (by norm_num)]
        push_cast; ring
      have hq : (2 : ℝ) ^ ((E : ℤ) - 136) ≤ r / 448 := by rw [le_div_iff₀ (by norm_num)]; linarith
      have hpos : 0 < r / 448 := lt_of_lt_of_le (by positivity) hq
      have hnot : ¬ r / 448 < (2 : ℝ) ^ (-126 : ℤ) := by
        refine not_lt.mpr (le_trans ?_ hq)
        exact zpow_le_zpow_right₀ (by norm_num) (by omega)
      have hf1 : (E : ℤ) - 136 ≤ ⌊log2 (r / 448)⌋ := by
        rw [Int.le_floor, le_log2 hpos]; exact hq
      rw [if_neg hnot]
      refine ⟨E - 8, by omega, by omega, rfl, ?_⟩
      congr 1
      by_cases ht : E = 255
      · rw [min_eq_right (by omega)]; omega
      · have hup : r < 448 * (2 : ℝ) ^ ((E : ℤ) - 135) := by
          refine lt_of_lt_of_le (hhi' (by omega)) ((half_mono (show n + 1 ≤ 128 * E + 96 by omega)).trans (le_of_eq ?_))
          rw [half_normal _ E 96 rfl (by norm_num) (by omega)]
          have : ((E : ℤ) - 134) = ((E : ℤ) - 135) + 1 := by omega
          rw [this, zpow_add_one₀ (by norm_num)]
          push_cast; ring
        have hq2 : r / 448 < (2 : ℝ) ^ ((E : ℤ) - 135) := by rw [div_lt_iff₀ (by norm_num)]; linarith
        have hf2 : ⌊log2 (r / 448)⌋ < (E : ℤ) - 135 := by
          rw [Int.floor_lt, log2_lt hpos]; exact hq2
        have hf : ⌊log2 (r / 448)⌋ = (E : ℤ) - 136 := by omega
        rw [hf, min_eq_left (by omega)]; omega
    · rw [if_neg h]
      have hup : r < 448 * (2 : ℝ) ^ (-126 : ℤ) := by
        refine lt_of_lt_of_le (hhi' (by omega)) ((half_mono (show n + 1 ≤ 128 * 9 + 96 by omega)).trans (le_of_eq ?_))
        rw [half_normal _ 9 96 rfl (by norm_num) (by omega)]
        norm_num
      have hq2 : r / 448 < (2 : ℝ) ^ (-126 : ℤ) := by rw [div_lt_iff₀ (by norm_num)]; linarith
      rw [if_pos hq2]
      exact ⟨127, by norm_num, by norm_num, rfl, rfl⟩

/-- The reference's byte is the kernel's. -/
theorem expOf_add (a : EReal) (h0 : 0 ≤ a) : IntOp.addi (expOf a) 127#32 = byteOf a := by
  obtain ⟨s, h2, h247, hb, he⟩ := byte_number a h0
  rw [hb, he]
  have : (127#32 : BitVec 32) = BitVec.ofInt 32 127 := rfl
  show _ + _ = _
  rw [this, ← BitVec.ofInt_add]
  have e : (s : ℤ) - 127 + 127 = (s : ℤ) := by ring
  rw [e, BitVec.ofInt_natCast]

theorem pow2_number (s : ℕ) (h0 : s ≠ 0) (h1 : s < 255) : pow2 (BitVec.ofNat 32 s) = (((2 : ℝ) ^ ((s : ℤ) - 127) : ℝ) : EReal) := by
  obtain ⟨h0', h1', h2', -⟩ := word_fields ⟨s, by omega⟩
  have e : (BitVec.ofNat 8 s).setWidth 32 = BitVec.ofNat 32 s := by
    apply BitVec.eq_of_toNat_eq
    rw [BitVec.toNat_setWidth, BitVec.toNat_ofNat, BitVec.toNat_ofNat]; omega
  simp only [e] at h0' h1' h2'
  unfold pow2
  rw [ofBits_f32]
  exact ieee_pow s _ h0' h1' h2' h0 (by omega)

/-- The kernel's reciprocal scale, the power of two of 254 minus the byte, is the reference's exponential of minus the exponent. -/
theorem pow2_sub (a : EReal) (h0 : 0 ≤ a) :
    pow2 (IntOp.subi 254#32 (byteOf a)) = Ideal.exp2 (Ideal.ofBits .f32 0x00000000#32 - (((expOf a).toInt : ℝ) : EReal)) := by
  obtain ⟨s, h2, h247, hb, he⟩ := byte_number a h0
  rw [hb, he, wzero]
  have e1 : IntOp.subi 254#32 (BitVec.ofNat 32 s) = BitVec.ofNat 32 (254 - s) := by
    apply BitVec.eq_of_toNat_eq
    show (254#32 - BitVec.ofNat 32 s).toNat = _
    rw [BitVec.toNat_sub, BitVec.toNat_ofNat, BitVec.toNat_ofNat, BitVec.toNat_ofNat]; omega
  have e2 : (BitVec.ofInt 32 ((s : ℤ) - 127)).toInt = (s : ℤ) - 127 := by
    rw [BitVec.toInt_ofInt]
    exact Int.bmod_eq_of_le (by omega) (by omega)
  rw [e1, e2, pow2_number _ (by omega) (by omega), zero_sub, ← EReal.coe_neg, Ideal.exp2_coe]
  congr 1
  have h3 : -(((s : ℤ) - 127 : ℤ) : ℝ) = (((254 - s : ℕ) : ℤ) - 127 : ℤ) := by
    rw [← Int.cast_neg]; congr 1; omega
  rw [h3]
  exact (Real.rpow_intCast 2 _).symm

/-- The byte fits its eight bits. -/
theorem byteOf_fits (a : EReal) (h0 : 0 ≤ a) : ((byteOf a).setWidth 8).setWidth 32 = byteOf a := by
  obtain ⟨s, h2, h247, hb, -⟩ := byte_number a h0
  rw [hb]
  apply BitVec.eq_of_toNat_eq
  rw [BitVec.toNat_setWidth, BitVec.toNat_setWidth, BitVec.toNat_ofNat]; omega

end Cert.Scales

end
-- ==== Proof.Columns.lean ====
/-
  THE QUANTISER DOWN THE COLUMNS. An array of `32 b` rows is quantised in runs of 32 rows: each run's byte comes from its
  absolute maximum, each entry's code is the entry times the reciprocal power of two, clipped to ±448. Here it is stated
  once (`codes`, `bytes`, `wide`), then read out of the operations a kernel's tile is made of and out of the reference's.
-/
module

public import proofs.«01_k».proof.Proof.Exponent
public import proofs.«01_k».proof.Proof.Lanes
public import Idealize.ShloMosaic.Lib.Pipeline.Value

@[expose] public section

set_option maxRecDepth 16384

noncomputable section

namespace Cert.Columns

open Idealize.ShloMosaic Cert.Lanes Cert.Scales

/-! ### What the quantiser computes -/

/-- The absolute maximum of a run. -/
def runMax (f : Fin 32 → EReal) : EReal := (Finset.univ : Finset (Fin 32)).fold max (Ideal.ofBits .f32 0xFF800000#32) fun k => max (f k) (-(f k))

theorem runMax_nonneg (f : Fin 32 → EReal) : 0 ≤ runMax f := by
  refine (Finset.le_fold_max 0).mpr (Or.inr ⟨0, Finset.mem_univ _, ?_⟩)
  rcases le_total 0 (f 0) with h | h
  · exact h.trans (le_max_left _ _)
  · exact (EReal.neg_nonneg.mpr h).trans (le_max_right _ _)

/-- An entry's code, from its run's maximum: the entry over the run's power of two, clipped to ±448. -/
def code (m x : EReal) : EReal :=
  min (Ideal.ofBits .f32 0x43E00000#32) (max (Ideal.ofBits .f32 0xC3E00000#32) (x * pow2 (IntOp.subi 254#32 (byteOf m))))

variable {N b l : ℕ}

/-- The 32 entries of run `p` of column `c`. -/
def runAt (h : N = 32 * b) (X : (Sh N l).Idx → EReal) (p : Fin b) (c : Fin l) : Fin 32 → EReal :=
  fun k => X (ix2 (⟨32 * p.val + k.val, by have := p.isLt; have := k.isLt; omega⟩ : Fin N) c)

/-- The run a row is in. -/
def runOf (h : N = 32 * b) (r : Fin N) : Fin b := ⟨r.val / 32, by have := r.isLt; omega⟩

def codes (h : N = 32 * b) (X : (Sh N l).Idx → EReal) : (Sh N l).Idx → EReal := fun y =>
  code (runMax (runAt h X (runOf h (y 0)) (y 1))) (X y)

def bytes (h : N = 32 * b) (X : (Sh N l).Idx → EReal) : IVec (Sh b l) 8 := fun z => (byteOf (runMax (runAt h X (z 0) (z 1)))).setWidth 8

/-- The codes times their scales. -/
def wide (h : N = 32 * b) (X : (Sh N l).Idx → EReal) : (Sh N l).Idx → EReal := fun y =>
  codes h X y * pow2 (byteOf (runMax (runAt h X (runOf h (y 0)) (y 1))))

/-- Codes given with their scales, widened down runs of 32 rows. -/
def given (h : N = 32 * b) (C : (Sh N l).Idx → EReal) (S : IVec (Sh b l) 8) : (Sh N l).Idx → EReal := fun y =>
  C y * pow2 ((S (ix2 (runOf h (y 0)) (y 1))).setWidth 32)

/-- Widening codes with the bytes they were made with is widening with those bytes' words. -/
theorem wide_given (h : N = 32 * b) (X : (Sh N l).Idx → EReal) : wide h X = given h (codes h X) (bytes h X) := by
  funext y
  unfold wide given bytes
  rw [byteOf_fits _ (runMax_nonneg _)]
  rfl

/-- A block of whole runs of `X` quantises to the block of `X`'s codes and bytes. -/
theorem runAt_block {N' b' l' : ℕ} (h : N = 32 * b) (h' : N' = 32 * b') (X : (Sh N l).Idx → EReal) (Y : (Sh N' l').Idx → EReal) (p : Fin b) (c : Fin l)
    (p' : Fin b') (c' : Fin l') (e : ∀ k : Fin 32, X (ix2 (⟨32 * p.val + k.val, by have := p.isLt; have := k.isLt; omega⟩ : Fin N) c)
      = Y (ix2 (⟨32 * p'.val + k.val, by have := p'.isLt; have := k.isLt; omega⟩ : Fin N') c')) :
    runAt h X p c = runAt h' Y p' c' := funext e

/-! ### A kernel's tile -/

section Tile

/-- One step of the bisection, entry by entry. -/
def vstep {S : Shape} (m : FVec Ideal S .f32) (w : IVec S 32) (bit : BitVec 32) : IVec S 32 :=
  select (cmpf .oge m (bitcastToFloat (F := Ideal) .f32 (addi w (broadcast S bit)))) (addi w (broadcast S bit)) w

theorem vstep_of {S : Shape} {m : FVec Ideal S .f32} {w : IVec S 32} {bit : BitVec 32} {i : S.Idx} {x : BitVec 32} (e : w i = x) :
    vstep m w bit i = stepW (m i) x bit := by
  subst e
  rfl

/-- The word of the fifteen steps, entry by entry. -/
def vword {S : Shape} (m : FVec Ideal S .f32) : IVec S 32 :=
  vstep m (vstep m (vstep m (vstep m (vstep m (vstep m (vstep m (vstep m (vstep m (vstep m (vstep m (vstep m (vstep m (vstep m
    (vstep m (broadcast S 0#32) 1073741824#32) 536870912#32) 268435456#32) 134217728#32) 67108864#32) 33554432#32) 16777216#32) 8388608#32)
    4194304#32) 2097152#32) 1048576#32) 524288#32) 262144#32) 131072#32) 65536#32

/-- The byte of a word, entry by entry. -/
def vbyte {S : Shape} (w : IVec S 32) : IVec S 32 :=
  select (andi (cmpi .sge w (broadcast S 81788928#32)) (cmpi .slt w (broadcast S 2139095040#32)))
    (subi (shrsi (addi w (broadcast S 2097152#32)) (broadcast S 23#32)) (broadcast S 8#32)) (broadcast S 127#32)

theorem vbyte_of {S : Shape} {w : IVec S 32} {i : S.Idx} {x : BitVec 32} (e : w i = x) : vbyte w i = byteW x := by
  subst e
  rfl

theorem vword_apply {S : Shape} (m : FVec Ideal S .f32) (i : S.Idx) : vword m i = wordOf (m i) :=
  vstep_of (vstep_of (vstep_of (vstep_of (vstep_of (vstep_of (vstep_of (vstep_of (vstep_of (vstep_of (vstep_of (vstep_of (vstep_of (vstep_of (vstep_of
    (show (broadcast S 0#32 : IVec S 32) i = 0#32 from rfl)))))))))))))))

theorem vbyte_vword {S : Shape} (m : FVec Ideal S .f32) (i : S.Idx) : vbyte (vword m) i = byteOf (m i) :=
  vbyte_of (vword_apply m i)

/-- The runs' maxima of a tile. -/
def vmax (h1 : (Sh N l).ShapeCasts ⟨3, ![b, 32, l]⟩) (h2 : Shape.Reduces ⟨3, ![b, 32, l]⟩ [1] (Sh b l)) (v : FVec Ideal (Sh N l) .bf16) : FVec Ideal (Sh b l) .f32 :=
  multiReduction .maximumf [1] (Sh b l) (shapeCast ⟨3, ![b, 32, l]⟩ (extf .f32 (absf v) (by decide)) h1) 0xFF800000#32 h2 (.inl rfl) rfl

/-- A tile of scales spread down the rows of their runs. -/
def spread (h1 : (Sh b l).ShapeCasts ⟨3, ![b, 1, l]⟩) (h2 : Shape.ShapeCasts ⟨3, ![b, 1, l]⟩ ⟨3, ![b, 1, l]⟩)
    (h3 : Shape.Broadcasts ⟨3, ![b, 1, l]⟩ ⟨3, ![b, 32, l]⟩) (h4 : Shape.ShapeCasts ⟨3, ![b, 32, l]⟩ (Sh N l)) (s : FVec Ideal (Sh b l) .bf16) : FVec Ideal (Sh N l) .bf16 :=
  shapeCast (Sh N l) (broadcastTo ⟨3, ![b, 32, l]⟩ (shapeCast ⟨3, ![b, 1, l]⟩ (shapeCast ⟨3, ![b, 1, l]⟩ s h1) h2) h3) h4

/-- The powers of two of a tile of words. -/
def vpow {S : Shape} (s : IVec S 32) : FVec Ideal S .bf16 :=
  truncf .bf16 (bitcastToFloat (F := Ideal) .f32 (shli s (broadcast S 23#32))) (by decide)

theorem vpow_apply {S : Shape} (s : IVec S 32) (i : S.Idx) : vpow s i = pow2 (s i) :=
  (Ideal.truncf_def (φ := .f32) (ψ := .bf16) _ _).trans rfl

/-- The codes of a tile `v` from its runs' bytes `s`. -/
def vcodes (h1 : (Sh b l).ShapeCasts ⟨3, ![b, 1, l]⟩) (h2 : Shape.ShapeCasts ⟨3, ![b, 1, l]⟩ ⟨3, ![b, 1, l]⟩)
    (h3 : Shape.Broadcasts ⟨3, ![b, 1, l]⟩ ⟨3, ![b, 32, l]⟩) (h4 : Shape.ShapeCasts ⟨3, ![b, 32, l]⟩ (Sh N l))
    (v : FVec Ideal (Sh N l) .bf16) (s : IVec (Sh b l) 32) : FVec Ideal (Sh N l) .fp8e4m3 :=
  truncf .fp8e4m3 (minimumf (broadcast (Sh N l) (Scalar.truncf (F := Ideal) .bf16 (by decide) (Scalar.ofBits (F := Ideal) .f32 0x43E00000#32)))
    (maximumf (broadcast (Sh N l) (Scalar.truncf (F := Ideal) .bf16 (by decide) (Scalar.ofBits (F := Ideal) .f32 0xC3E00000#32)))
      (mulf v (spread h1 h2 h3 h4 (vpow (subi (broadcast (Sh b l) 254#32) s)))))) (by decide)

/-- The codes `x` of a tile times the scales of their runs' bytes. -/
def vwide (h1 : (Sh b l).ShapeCasts ⟨3, ![b, 1, l]⟩) (h2 : Shape.ShapeCasts ⟨3, ![b, 1, l]⟩ ⟨3, ![b, 1, l]⟩)
    (h3 : Shape.Broadcasts ⟨3, ![b, 1, l]⟩ ⟨3, ![b, 32, l]⟩) (h4 : Shape.ShapeCasts ⟨3, ![b, 32, l]⟩ (Sh N l))
    (x : FVec Ideal (Sh N l) .fp8e4m3) (s : IVec (Sh b l) 32) : FVec Ideal (Sh N l) .bf16 :=
  mulf (extf .bf16 x (by decide)) (spread h1 h2 h3 h4 (vpow s))

theorem lift_rows (h2 : Shape.Reduces ⟨3, ![b, 32, l]⟩ [1] (Sh b l)) (p : Fin b) (c : Fin l) (k : Fin 32) : h2.lift (ix2 p c) k = ix3 p k c := by
  funext q; apply Fin.ext
  match q with
  | ⟨0, _⟩ => rfl
  | ⟨1, _⟩ => rfl
  | ⟨2, _⟩ => rfl

/-- A maximum down the middle axis, read at an entry. -/
theorem max_rows (h2 : Shape.Reduces ⟨3, ![b, 32, l]⟩ [1] (Sh b l)) (src : FVec Ideal ⟨3, ![b, 32, l]⟩ .f32) (f : Fin 32 → EReal) (p : Fin b) (c : Fin l)
    (e : ∀ k : Fin 32, src (ix3 p k c) = max (f k) (-(f k))) :
    multiReduction .maximumf [1] (Sh b l) src 0xFF800000#32 h2 (.inl rfl) rfl (ix2 p c) = runMax f := by
  refine (Ideal.multiReduction_maximumf_single src 0xFF800000#32 h2 (.inl rfl) rfl (ix2 p c)).trans ?_
  unfold runMax
  refine congrArg (fun g => (Finset.univ : Finset (Fin 32)).fold max (Ideal.ofBits .f32 0xFF800000#32) g) ?_
  funext k
  exact (congrArg src (lift_rows h2 p c k)).trans (e k)

/-- Entry `(p, k, c)` of the array cut into runs is row `32 p + k`. -/
theorem cut_apply {α : Type} (h : N = 32 * b) (h1 : (Sh N l).ShapeCasts ⟨3, ![b, 32, l]⟩) (x : (Sh N l).Idx → α) (p : Fin b) (k : Fin 32) (c : Fin l) :
    shapeCast ⟨3, ![b, 32, l]⟩ x h1 (ix3 p k c) = x (ix2 (⟨32 * p.val + k.val, by have := p.isLt; have := k.isLt; omega⟩ : Fin N) c) :=
  shapeCast_apply _ h1 _ _ (by
    rw [Shape.rowMajor_val_three, Shape.rowMajor_val_two]
    show (32 * p.val + k.val) * l + c.val = (p.val * 32 + k.val) * l + c.val
    ring)

/-- … and back. -/
theorem join_apply {α : Type} (h : N = 32 * b) (h4 : Shape.ShapeCasts ⟨3, ![b, 32, l]⟩ (Sh N l)) (x : (⟨3, ![b, 32, l]⟩ : Shape).Idx → α) (r : Fin N) (c : Fin l) :
    shapeCast (Sh N l) x h4 (ix2 r c) = x (ix3 (runOf h r) (⟨r.val % 32, Nat.mod_lt _ (by norm_num)⟩ : Fin 32) c) :=
  shapeCast_apply _ h4 _ _ (by
    rw [Shape.rowMajor_val_three, Shape.rowMajor_val_two]
    show (r.val / 32 * 32 + r.val % 32) * l + c.val = r.val * l + c.val
    rw [Nat.div_add_mod'])

/-- One value per run, repeated down the run. -/
theorem down_apply {α : Type} (h1 : (Sh b l).ShapeCasts ⟨3, ![b, 1, l]⟩) (h3 : Shape.Broadcasts ⟨3, ![b, 1, l]⟩ ⟨3, ![b, 32, l]⟩)
    (hb : b ≠ 1) (hl : l ≠ 1) (s : (Sh b l).Idx → α) (p : Fin b) (k : Fin 32) (c : Fin l) :
    broadcastTo ⟨3, ![b, 32, l]⟩ (shapeCast ⟨3, ![b, 1, l]⟩ s h1) h3 (ix3 p k c) = s (ix2 p c) := by
  rw [broadcastTo_apply _ h3 _ (ix3 p (0 : Fin 1) c) (by
    intro q
    match q with
    | ⟨0, _⟩ => show p.val = if b = 1 then 0 else p.val; rw [if_neg hb]
    | ⟨1, _⟩ => rfl
    | ⟨2, _⟩ => show c.val = if l = 1 then 0 else c.val; rw [if_neg hl])]
  exact shapeCast_apply _ h1 _ _ (by
    rw [Shape.rowMajor_val_three, Shape.rowMajor_val_two]
    show p.val * l + c.val = (p.val * 1 + 0) * l + c.val
    ring)

theorem spread_apply (h : N = 32 * b) (hb : b ≠ 1) (hl : l ≠ 1) (h1 : (Sh b l).ShapeCasts ⟨3, ![b, 1, l]⟩) (h2 : Shape.ShapeCasts ⟨3, ![b, 1, l]⟩ ⟨3, ![b, 1, l]⟩)
    (h3 : Shape.Broadcasts ⟨3, ![b, 1, l]⟩ ⟨3, ![b, 32, l]⟩) (h4 : Shape.ShapeCasts ⟨3, ![b, 32, l]⟩ (Sh N l)) (s : FVec Ideal (Sh b l) .bf16)
    (r : Fin N) (c : Fin l) : spread h1 h2 h3 h4 s (ix2 r c) = s (ix2 (runOf h r) c) := by
  unfold spread
  rw [shapeCast_self, join_apply h, down_apply h1 h3 hb hl]

theorem vmax_apply (h : N = 32 * b) (h1 : (Sh N l).ShapeCasts ⟨3, ![b, 32, l]⟩) (h2 : Shape.Reduces ⟨3, ![b, 32, l]⟩ [1] (Sh b l)) (v : FVec Ideal (Sh N l) .bf16)
    (p : Fin b) (c : Fin l) : vmax h1 h2 v (ix2 p c) = runMax (runAt h v p c) := by
  unfold vmax
  refine max_rows h2 _ _ p c fun k => ?_
  rw [cut_apply h]
  exact (Ideal.extf_def (φ := .bf16) (ψ := .f32) _ _).trans rfl

variable (h : N = 32 * b) (hb : b ≠ 1) (hl : l ≠ 1) (g1 : (Sh N l).ShapeCasts ⟨3, ![b, 32, l]⟩) (g2 : Shape.Reduces ⟨3, ![b, 32, l]⟩ [1] (Sh b l))
    (h1 : (Sh b l).ShapeCasts ⟨3, ![b, 1, l]⟩) (h2 : Shape.ShapeCasts ⟨3, ![b, 1, l]⟩ ⟨3, ![b, 1, l]⟩)
    (h3 : Shape.Broadcasts ⟨3, ![b, 1, l]⟩ ⟨3, ![b, 32, l]⟩) (h4 : Shape.ShapeCasts ⟨3, ![b, 32, l]⟩ (Sh N l)) (v : FVec Ideal (Sh N l) .bf16)

include h hb hl in
theorem vcodes_apply (r : Fin N) (c : Fin l) :
    vcodes h1 h2 h3 h4 v (vbyte (vword (vmax g1 g2 v))) (ix2 r c) = codes h v (ix2 r c) := by
  unfold vcodes
  refine (Ideal.truncf_def (φ := .bf16) (ψ := .fp8e4m3) _ _).trans ?_
  show min (Ideal.ofBits .f32 0x43E00000#32 : EReal) (max (Ideal.ofBits .f32 0xC3E00000#32 : EReal) ((v (ix2 r c) : EReal) * spread h1 h2 h3 h4 (vpow (subi (broadcast (Sh b l) 254#32) (vbyte (vword (vmax g1 g2 v))))) (ix2 r c))) = _
  rw [spread_apply h hb hl, vpow_apply]
  show min _ (max _ (_ * pow2 (IntOp.subi 254#32 (vbyte (vword (vmax g1 g2 v)) (ix2 (runOf h r) c))))) = _
  rw [vbyte_vword, vmax_apply h]
  rfl

include h in
theorem vbytes_apply (p : Fin b) (c : Fin l) :
    trunci 8 (vbyte (vword (vmax g1 g2 v))) (by decide) (ix2 p c) = bytes h v (ix2 p c) := by
  show (vbyte (vword (vmax g1 g2 v)) (ix2 p c)).setWidth 8 = _
  rw [vbyte_vword, vmax_apply h]
  rfl

include h hb hl in
theorem vwide_apply (r : Fin N) (c : Fin l) :
    vwide h1 h2 h3 h4 (vcodes h1 h2 h3 h4 v (vbyte (vword (vmax g1 g2 v)))) (vbyte (vword (vmax g1 g2 v))) (ix2 r c) = wide h v (ix2 r c) := by
  unfold vwide
  show ((FloatOps.extf (F := Ideal) (φ := .fp8e4m3) .bf16 _ _ : EReal) * spread h1 h2 h3 h4 (vpow (vbyte (vword (vmax g1 g2 v)))) (ix2 r c) : EReal) = _
  rw [Ideal.extf_def, vcodes_apply h hb hl g1 g2 h1 h2 h3 h4 v, spread_apply h hb hl, vpow_apply, vbyte_vword, vmax_apply h]
  rfl

end Tile

end Cert.Columns

end
-- ==== Proof.ColumnsReference.lean ====
/-
  THE REFERENCE'S QUANTISER DOWN THE COLUMNS, AS VALUES. The reference cuts an array into runs of 32 rows, takes each run's
  absolute maximum, its exponent by a logarithm, and the codes as entry over power of two, clipped; it widens codes by the
  exponential of the scale byte minus 127. Read at an index these are `Cert.Columns.codes`, `bytes` and `given`.
-/
module

public import proofs.«01_k».proof.Proof.Columns

@[expose] public section

set_option maxRecDepth 16384

noncomputable section

namespace Cert.Columns

open Idealize.ShloMosaic Cert.Lanes Cert.Scales

/-- The exponents the reference takes of a tile of maxima. -/
def rexp {S : Shape} (m : FVec Ideal S .f32) : IVec S 32 :=
  fptosi 32 (select (ori (cmpf .olt (divf m (broadcast S (Scalar.ofBits (F := Ideal) .f32 0x43E00000#32))) (broadcast S (Scalar.ofBits (F := Ideal) .f32 0x00800000#32)))
      (cmpf .oeq m (broadcast S (Scalar.ofBits (F := Ideal) .f32 0x7F800000#32))))
    (broadcast S (Scalar.ofBits (F := Ideal) .f32 0x00000000#32))
    (minimumf (addf (floor (divf (log (divf m (broadcast S (Scalar.ofBits (F := Ideal) .f32 0x43E00000#32)))) (log (broadcast S (Scalar.ofBits (F := Ideal) .f32 0x40000000#32)))))
      (broadcast S (Scalar.ofBits (F := Ideal) .f32 0x3F800000#32))) (broadcast S (Scalar.ofBits (F := Ideal) .f32 0x42F00000#32))))

theorem rexp_apply {S : Shape} (m : FVec Ideal S .f32) (i : S.Idx) : rexp m i = expOf (m i) := rfl

/-- The scales the reference takes of a tile of bytes: the exponential of the byte minus 127, its two ends stated. -/
def rscales {S : Shape} (x : IVec S 8) : FVec Ideal S .bf16 :=
  truncf .bf16 (select (cmpi .slt (subi (extui 32 x (by decide)) (broadcast S 127#32)) (broadcast S 4294967170#32))
    (broadcast S (Scalar.ofBits (F := Ideal) .f32 0x00000000#32))
    (select (cmpi .sgt (subi (extui 32 x (by decide)) (broadcast S 127#32)) (broadcast S 127#32))
      (broadcast S (Scalar.ofBits (F := Ideal) .f32 0x7F800000#32))
      (exp2 (sitofp (F := Ideal) .f32 (subi (extui 32 x (by decide)) (broadcast S 127#32)))))) (by decide)

theorem rscales_apply {S : Shape} (x : IVec S 8) (i : S.Idx) : rscales x i = scaleOf (x i) := by
  unfold rscales
  refine (Ideal.truncf_def (φ := .f32) (ψ := .bf16) _ _).trans ?_
  rfl

variable {N b l : ℕ}

/-- An array cut into runs. -/
def rcut (g1 : (Sh N l).ShapeCasts ⟨3, ![b, 32, l]⟩) (v : FVec Ideal (Sh N l) .bf16) : FVec Ideal ⟨3, ![b, 32, l]⟩ .f32 :=
  shapeCast ⟨3, ![b, 32, l]⟩ (extf .f32 v (by decide)) g1

/-- The runs' absolute maxima. -/
def rmax (g1 : (Sh N l).ShapeCasts ⟨3, ![b, 32, l]⟩) (g2 : Shape.Reduces ⟨3, ![b, 32, l]⟩ [1] (Sh b l)) (v : FVec Ideal (Sh N l) .bf16) : FVec Ideal (Sh b l) .f32 :=
  multiReduction .maximumf [1] (Sh b l) (absf (rcut g1 v)) 0xFF800000#32 g2 (.inl rfl) rfl

/-- The codes. -/
def rcodes (g1 : (Sh N l).ShapeCasts ⟨3, ![b, 32, l]⟩) (g2 : Shape.Reduces ⟨3, ![b, 32, l]⟩ [1] (Sh b l)) (h1 : (Sh b l).ShapeCasts ⟨3, ![b, 1, l]⟩)
    (h3 : Shape.Broadcasts ⟨3, ![b, 1, l]⟩ ⟨3, ![b, 32, l]⟩) (h4 : Shape.ShapeCasts ⟨3, ![b, 32, l]⟩ (Sh N l)) (v : FVec Ideal (Sh N l) .bf16) : FVec Ideal (Sh N l) .fp8e4m3 :=
  shapeCast (Sh N l) (truncf .fp8e4m3 (minimumf (broadcast ⟨3, ![b, 32, l]⟩ (Scalar.ofBits (F := Ideal) .f32 0x43E00000#32))
    (maximumf (broadcast ⟨3, ![b, 32, l]⟩ (Scalar.ofBits (F := Ideal) .f32 0xC3E00000#32))
      (mulf (rcut g1 v) (broadcastTo ⟨3, ![b, 32, l]⟩ (shapeCast ⟨3, ![b, 1, l]⟩
        (exp2 (subf (broadcast (Sh b l) (Scalar.ofBits (F := Ideal) .f32 0x00000000#32)) (sitofp .f32 (rexp (rmax g1 g2 v))))) h1) h3)))) (by decide)) h4

/-- The scale bytes. -/
def rbytes (g1 : (Sh N l).ShapeCasts ⟨3, ![b, 32, l]⟩) (g2 : Shape.Reduces ⟨3, ![b, 32, l]⟩ [1] (Sh b l)) (v : FVec Ideal (Sh N l) .bf16) : IVec (Sh b l) 8 :=
  trunci 8 (addi (rexp (rmax g1 g2 v)) (broadcast (Sh b l) 127#32)) (by decide)

/-- Codes with their scales, widened. -/
def rwide (g1 : (Sh N l).ShapeCasts ⟨3, ![b, 32, l]⟩) (h1 : (Sh b l).ShapeCasts ⟨3, ![b, 1, l]⟩)
    (h3 : Shape.Broadcasts ⟨3, ![b, 1, l]⟩ ⟨3, ![b, 32, l]⟩) (h4 : Shape.ShapeCasts ⟨3, ![b, 32, l]⟩ (Sh N l))
    (x : FVec Ideal (Sh N l) .fp8e4m3) (s : IVec (Sh b l) 8) : FVec Ideal (Sh N l) .bf16 :=
  shapeCast (Sh N l) (mulf (shapeCast ⟨3, ![b, 32, l]⟩ (extf .bf16 x (by decide)) g1) (broadcastTo ⟨3, ![b, 32, l]⟩ (shapeCast ⟨3, ![b, 1, l]⟩ (rscales s) h1) h3)) h4

variable (h : N = 32 * b) (hb : b ≠ 1) (hl : l ≠ 1) (g1 : (Sh N l).ShapeCasts ⟨3, ![b, 32, l]⟩) (g2 : Shape.Reduces ⟨3, ![b, 32, l]⟩ [1] (Sh b l))
    (h1 : (Sh b l).ShapeCasts ⟨3, ![b, 1, l]⟩) (h3 : Shape.Broadcasts ⟨3, ![b, 1, l]⟩ ⟨3, ![b, 32, l]⟩) (h4 : Shape.ShapeCasts ⟨3, ![b, 32, l]⟩ (Sh N l))
    (v : FVec Ideal (Sh N l) .bf16)

include h in
theorem rcut_apply (p : Fin b) (k : Fin 32) (c : Fin l) :
    rcut g1 v (ix3 p k c) = (v (ix2 (⟨32 * p.val + k.val, by have := p.isLt; have := k.isLt; omega⟩ : Fin N) c) : EReal) := by
  unfold rcut
  rw [cut_apply h]
  exact Ideal.extf_def (φ := .bf16) (ψ := .f32) _ _

theorem rmax_apply (p : Fin b) (c : Fin l) : rmax g1 g2 v (ix2 p c) = runMax (runAt h v p c) := by
  unfold rmax
  refine max_rows g2 _ _ p c fun k => ?_
  show max (rcut g1 v (ix3 p k c) : EReal) (-(rcut g1 v (ix3 p k c) : EReal)) = _
  rw [rcut_apply h]
  rfl

theorem rbytes_apply (p : Fin b) (c : Fin l) : rbytes g1 g2 v (ix2 p c) = bytes h v (ix2 p c) := by
  show (IntOp.addi (rexp (rmax g1 g2 v) (ix2 p c)) 127#32).setWidth 8 = (byteOf (runMax (runAt h v p c))).setWidth 8
  rw [rexp_apply, rmax_apply h, expOf_add _ (runMax_nonneg _)]

include hb hl in
theorem rcodes_apply (r : Fin N) (c : Fin l) : rcodes g1 g2 h1 h3 h4 v (ix2 r c) = codes h v (ix2 r c) := by
  unfold rcodes
  rw [join_apply h]
  refine (Ideal.truncf_def (φ := .f32) (ψ := .fp8e4m3) _ _).trans ?_
  show min (Ideal.ofBits .f32 0x43E00000#32 : EReal) (max (Ideal.ofBits .f32 0xC3E00000#32 : EReal) ((rcut g1 v (ix3 (runOf h r) _ c) : EReal) * broadcastTo _ _ h3 (ix3 (runOf h r) _ c))) = _
  rw [down_apply h1 h3 hb hl, rcut_apply h]
  show min _ (max _ (_ * Ideal.exp2 (Ideal.ofBits .f32 0x00000000#32 - (((rexp (rmax g1 g2 v) (ix2 (runOf h r) c)).toInt : ℝ) : EReal)))) = _
  rw [rexp_apply, rmax_apply h, ← pow2_sub _ (runMax_nonneg _)]
  show _ = min _ (max _ ((v (ix2 r c) : EReal) * _))
  have e : (⟨32 * (runOf h r).val + (⟨r.val % 32, Nat.mod_lt _ (by norm_num)⟩ : Fin 32).val, by have := (runOf h r).isLt; have : r.val % 32 < 32 := Nat.mod_lt _ (by norm_num); show 32 * (runOf h r).val + r.val % 32 < N; omega⟩ : Fin N) = r :=
    Fin.ext (Nat.div_add_mod r.val 32)
  rw [e]
  rfl

include hb hl in
theorem rwide_apply (x : FVec Ideal (Sh N l) .fp8e4m3) (s : IVec (Sh b l) 8) (r : Fin N) (c : Fin l) : rwide g1 h1 h3 h4 x s (ix2 r c) = given h x s (ix2 r c) := by
  unfold rwide
  rw [join_apply h]
  show ((shapeCast ⟨3, ![b, 32, l]⟩ (extf (F := Ideal) (φ := .fp8e4m3) .bf16 x (by decide)) g1 (ix3 (runOf h r) _ c) : EReal) * broadcastTo _ _ h3 (ix3 (runOf h r) _ c) : EReal) = _
  rw [down_apply h1 h3 hb hl, cut_apply h, rscales_apply, ← pow2_eq]
  have e : (⟨32 * (runOf h r).val + (⟨r.val % 32, Nat.mod_lt _ (by norm_num)⟩ : Fin 32).val, by have := (runOf h r).isLt; have : r.val % 32 < 32 := Nat.mod_lt _ (by norm_num); show 32 * (runOf h r).val + r.val % 32 < N; omega⟩ : Fin N) = r :=
    Fin.ext (Nat.div_add_mod r.val 32)
  rw [e]
  show ((FloatOps.extf (F := Ideal) (φ := .fp8e4m3) .bf16 _ (x (ix2 r c)) : EReal) * _ : EReal) = _
  rw [Ideal.extf_def]
  rfl

end Cert.Columns

end
-- ==== Proof.WgradPayloads.lean ====
/-
  THE WGRAD BODY'S ARITHMETIC, NAMED. The body quantises a column block in six parts of 1024 rows, each cut across several
  printed pieces in its own way; all six are the same tile (`Cert.Columns`): bytes, codes, and the transposed codes times scales.
-/
module

public import proofs.«01_k».proof.Proof.Gen.WgradIdeal.Skeleton
public import proofs.«01_k».proof.Proof.Columns

@[expose] public section

set_option maxRecDepth 16384

noncomputable section

namespace Cert.WgradIdeal.Tiles

open Idealize.ShloMosaic
open Cert.WgradIdeal Cert.WgradIdeal.Gen Cert.Lanes Cert.Scales Cert.Columns

/-- The bytes of the runs of a part, as words. -/
def partBytes (v : Vec Ideal S1024x512 .bf16) : IVec S32x512 32 :=
  vbyte (vword (vmax (N := 1024) (b := 32) (l := 512) shapeCasts_S1024x512_S32x32x512 reduces_S32x32x512_S32x512 v))

/-- The codes of a part. -/
def partCodes (v : Vec Ideal S1024x512 .bf16) : FVec Ideal S1024x512 .fp8e4m3 :=
  vcodes (N := 1024) (b := 32) (l := 512) shapeCasts_S32x512_S32x1x512 shapeCasts_S32x1x512_S32x1x512 broadcasts_S32x1x512_S32x32x512 shapeCasts_S32x32x512_S1024x512 v (partBytes v)

/-- The codes of a part times their scales. -/
def partWide (v : Vec Ideal S1024x512 .bf16) : FVec Ideal S1024x512 .bf16 :=
  vwide (N := 1024) (b := 32) (l := 512) shapeCasts_S32x512_S32x1x512 shapeCasts_S32x1x512_S32x1x512 broadcasts_S32x1x512_S32x32x512 shapeCasts_S32x32x512_S1024x512 (partCodes v) (partBytes v)

/-- … transposed, as the carried scratch keeps them. -/
def partTurned (v : Vec Ideal S1024x512 .bf16) : FVec Ideal S512x1024 .bf16 :=
  shapeCast S512x1024 (transpose S512x1024 [1, 0] (partWide v) transposes_S1024x512_p1_0_S512x1024) shapeCasts_S512x1024_S512x1024

variable (v : Vec Ideal S1024x512 .bf16)

/-! Part by part: the printed pieces as they are composed. -/

theorem bytes0 : k0_pay9 (k0_pay7 (F := Ideal) (k0_pay4 v) (k0_pay5 v) k0_pay6) = trunci 8 (partBytes v) natLt_8_32 := rfl
theorem codes0 : k0_pay8 (F := Ideal) v (k0_pay7 (F := Ideal) (k0_pay4 v) (k0_pay5 v) k0_pay6) 254#32 = partCodes v := rfl
theorem turned0 : k0_pay10 (F := Ideal) v (k0_pay7 (F := Ideal) (k0_pay4 v) (k0_pay5 v) k0_pay6) 254#32 = partTurned v := rfl

theorem bytes1 : k0_pay19 (k0_pay16 (F := Ideal) (k0_pay11 v) (k0_pay14 (k0_pay11 v) k0_pay12 k0_pay13) k0_pay15) = trunci 8 (partBytes v) natLt_8_32 := rfl
theorem codes1 : k0_pay18 (F := Ideal) (k0_pay17 v (k0_pay11 v) (k0_pay14 (k0_pay11 v) k0_pay12 k0_pay13) k0_pay15) = partCodes v := rfl
theorem turned1 : k0_pay20 (F := Ideal) (k0_pay16 (F := Ideal) (k0_pay11 v) (k0_pay14 (k0_pay11 v) k0_pay12 k0_pay13) k0_pay15)
    (k0_pay17 v (k0_pay11 v) (k0_pay14 (k0_pay11 v) k0_pay12 k0_pay13) k0_pay15) = partTurned v := rfl

theorem bytes2 : k0_pay28 (k0_pay26 (F := Ideal) (k0_pay21 v) (k0_pay24 (k0_pay21 v) (k0_pay22 v) k0_pay23) k0_pay25) = trunci 8 (partBytes v) natLt_8_32 := rfl
theorem codes2 : k0_pay27 (F := Ideal) v (k0_pay21 v) (k0_pay24 (k0_pay21 v) (k0_pay22 v) k0_pay23) k0_pay25 = partCodes v := rfl
theorem turned2 : k0_pay29 (F := Ideal) (k0_pay26 (F := Ideal) (k0_pay21 v) (k0_pay24 (k0_pay21 v) (k0_pay22 v) k0_pay23) k0_pay25)
    (k0_pay27 (F := Ideal) v (k0_pay21 v) (k0_pay24 (k0_pay21 v) (k0_pay22 v) k0_pay23) k0_pay25) = partTurned v := rfl

theorem bytes3 : k0_pay37 (F := Ideal) (k0_pay30 v) (k0_pay33 (k0_pay30 v) (k0_pay31 v) k0_pay32) k0_pay34 = trunci 8 (partBytes v) natLt_8_32 := rfl
theorem codes3 : k0_pay36 (F := Ideal) v (k0_pay30 v) (k0_pay33 (k0_pay30 v) (k0_pay31 v) k0_pay32) k0_pay34 = partCodes v := rfl
theorem turned3 : k0_pay40 (F := Ideal) (k0_pay38 v (k0_pay30 v) (k0_pay33 (k0_pay30 v) (k0_pay31 v) k0_pay32) k0_pay34)
    (k0_pay39 (k0_pay30 v) (k0_pay33 (k0_pay30 v) (k0_pay31 v) k0_pay32) k0_pay34) = partTurned v := rfl

theorem bytes4 : k0_pay49 (k0_pay44 (k0_pay41 v) (k0_pay42 v) k0_pay43) (k0_pay45 (k0_pay41 v) (k0_pay42 v) k0_pay43) k0_pay46
    = trunci 8 (partBytes v) natLt_8_32 := rfl
theorem codes4 : k0_pay48 (F := Ideal) v (k0_pay44 (k0_pay41 v) (k0_pay42 v) k0_pay43) (k0_pay45 (k0_pay41 v) (k0_pay42 v) k0_pay43) k0_pay46 = partCodes v := rfl
theorem turned4 : k0_pay50 (F := Ideal) v (k0_pay44 (k0_pay41 v) (k0_pay42 v) k0_pay43) (k0_pay45 (k0_pay41 v) (k0_pay42 v) k0_pay43) k0_pay46 = partTurned v := rfl

theorem bytes5 : k0_pay56 (k0_pay54 (F := Ideal) (k0_pay51 v) (k0_pay52 v) k0_pay53) = trunci 8 (partBytes v) natLt_8_32 := rfl
theorem codes5 : k0_pay55 (F := Ideal) v (k0_pay54 (F := Ideal) (k0_pay51 v) (k0_pay52 v) k0_pay53) 254#32 = partCodes v := rfl
theorem turned5 : k0_pay58 (F := Ideal) (k0_pay57 v (k0_pay54 (F := Ideal) (k0_pay51 v) (k0_pay52 v) k0_pay53) 254#32) = partTurned v := rfl

/-! ### What a part's tile is of the block it is cut from -/

variable (X : Vec Ideal S6144x512 .bf16) (o : ℕ) (ho : 1024 * o + 1024 ≤ 6144)

/-- The part's runs are the block's. -/
theorem part_run (e : ∀ (r : Fin 1024) (c : Fin 512), v (ix2 r c) = X (ix2 (⟨1024 * o + r.val, by have := r.isLt; omega⟩ : Fin 6144) c)) (p : Fin 32) (c : Fin 512) :
    runAt (N := 1024) (b := 32) (l := 512) rfl v p c = runAt (N := 6144) (b := 192) (l := 512) rfl X (⟨32 * o + p.val, by have := p.isLt; omega⟩ : Fin 192) c := by
  refine runAt_block _ _ _ _ _ _ _ _ fun k => ?_
  rw [e]
  congr 2
  exact Fin.ext (by show 1024 * o + (32 * p.val + k.val) = 32 * (32 * o + p.val) + k.val; ring)

theorem run_split (r : Fin 1024) : (⟨32 * o + (runOf (N := 1024) (b := 32) rfl r).val, by have := (runOf (N := 1024) (b := 32) rfl r).isLt; omega⟩ : Fin 192)
    = runOf (N := 6144) (b := 192) rfl (⟨1024 * o + r.val, by have := r.isLt; omega⟩ : Fin 6144) :=
  Fin.ext (by show 32 * o + r.val / 32 = (1024 * o + r.val) / 32; omega)

theorem partCodes_apply (e : ∀ (r : Fin 1024) (c : Fin 512), v (ix2 r c) = X (ix2 (⟨1024 * o + r.val, by have := r.isLt; omega⟩ : Fin 6144) c)) (r : Fin 1024) (c : Fin 512) :
    partCodes v (ix2 r c) = codes (N := 6144) (b := 192) (l := 512) rfl X (ix2 (⟨1024 * o + r.val, by have := r.isLt; omega⟩ : Fin 6144) c) := by
  refine (vcodes_apply (N := 1024) (b := 32) (l := 512) rfl (by decide) (by decide) _ _ _ _ _ _ v r c).trans ?_
  show code (runMax (runAt (N := 1024) (b := 32) (l := 512) rfl v (runOf rfl r) c)) (v (ix2 r c)) = code (runMax (runAt (N := 6144) (b := 192) (l := 512) rfl X (runOf rfl _) c)) (X _)
  rw [part_run v X o ho e, run_split o ho, e]
  rfl

theorem partBytes_apply (e : ∀ (r : Fin 1024) (c : Fin 512), v (ix2 r c) = X (ix2 (⟨1024 * o + r.val, by have := r.isLt; omega⟩ : Fin 6144) c)) (p : Fin 32) (c : Fin 512) :
    trunci 8 (partBytes v) natLt_8_32 (ix2 p c) = bytes (N := 6144) (b := 192) (l := 512) rfl X (ix2 (⟨32 * o + p.val, by have := p.isLt; omega⟩ : Fin 192) c) := by
  refine (vbytes_apply (N := 1024) (b := 32) (l := 512) rfl _ _ v p c).trans ?_
  show (byteOf (runMax (runAt (N := 1024) (b := 32) (l := 512) rfl v p c))).setWidth 8 = (byteOf (runMax (runAt (N := 6144) (b := 192) (l := 512) rfl X _ c))).setWidth 8
  rw [part_run v X o ho e]
  rfl

theorem partTurned_apply (e : ∀ (r : Fin 1024) (c : Fin 512), v (ix2 r c) = X (ix2 (⟨1024 * o + r.val, by have := r.isLt; omega⟩ : Fin 6144) c)) (r : Fin 1024) (c : Fin 512) :
    partTurned v (ix2 c r) = wide (N := 6144) (b := 192) (l := 512) rfl X (ix2 (⟨1024 * o + r.val, by have := r.isLt; omega⟩ : Fin 6144) c) := by
  unfold partTurned
  rw [shapeCast_self]
  rw [transpose_apply _ _ _ (ix2 c r) (ix2 r c) (by intro q; match q with | ⟨0, _⟩ => rfl | ⟨1, _⟩ => rfl)]
  refine (vwide_apply (N := 1024) (b := 32) (l := 512) rfl (by decide) (by decide) _ _ _ _ _ _ v r c).trans ?_
  show codes (N := 1024) (b := 32) (l := 512) rfl v (ix2 r c) * pow2 (byteOf (runMax (runAt (N := 1024) (b := 32) (l := 512) rfl v (runOf rfl r) c)))
    = codes (N := 6144) (b := 192) (l := 512) rfl X (ix2 _ c) * pow2 (byteOf (runMax (runAt (N := 6144) (b := 192) (l := 512) rfl X (runOf rfl _) c)))
  rw [part_run v X o ho e, run_split o ho]
  congr 1
  show code (runMax (runAt (N := 1024) (b := 32) (l := 512) rfl v (runOf rfl r) c)) (v (ix2 r c)) = code (runMax (runAt (N := 6144) (b := 192) (l := 512) rfl X (runOf rfl _) c)) (X _)
  rw [part_run v X o ho e, run_split o ho, e]
  rfl

/-! ### The gradient's side -/

/-- A tile of gradient codes times their scales, down runs of 32 rows. -/
def gradTile (s : IVec S32x512 8) (x : FVec Ideal S1024x512 .fp8e4m3) : FVec Ideal S1024x512 .bf16 :=
  shapeCast S1024x512 (vwide (N := 1024) (b := 32) (l := 512) shapeCasts_S32x512_S32x1x512 shapeCasts_S32x1x512_S32x1x512 broadcasts_S32x1x512_S32x32x512 shapeCasts_S32x32x512_S1024x512 x
    (extui 32 s natLt_8_32)) shapeCasts_S1024x512_S1024x512

variable (s : Vec Ideal S32x512 .i8) (x : Vec Ideal S1024x512 .fp8e4m3)

theorem grad0 : k0_pay59 (F := Ideal) s x = gradTile s x := rfl
theorem grad1 : k0_pay60 (F := Ideal) s x = gradTile s x := rfl
theorem grad2 : k0_pay62 (F := Ideal) (k0_pay61 (F := Ideal) s) x = gradTile s x := rfl
theorem grad3 : k0_pay63 (F := Ideal) s x = gradTile s x := rfl
theorem grad4 : k0_pay1 (F := Ideal) (k0_pay64 x) (k0_pay65 (F := Ideal) s) = gradTile s x := rfl
theorem grad5 : k0_pay2 (F := Ideal) s x = gradTile s x := rfl

theorem gradTile_apply (C : Vec Ideal S6144x512 .fp8e4m3) (S : Vec Ideal S192x512 .i8)
    (e : ∀ (r : Fin 1024) (c : Fin 512), x (ix2 r c) = C (ix2 (⟨1024 * o + r.val, by have := r.isLt; omega⟩ : Fin 6144) c))
    (e' : ∀ (p : Fin 32) (c : Fin 512), s (ix2 p c) = S (ix2 (⟨32 * o + p.val, by have := p.isLt; omega⟩ : Fin 192) c)) (r : Fin 1024) (c : Fin 512) :
    gradTile s x (ix2 r c) = given (N := 6144) (b := 192) (l := 512) rfl C S (ix2 (⟨1024 * o + r.val, by have := r.isLt; omega⟩ : Fin 6144) c) := by
  unfold gradTile vwide
  rw [shapeCast_self]
  show ((FloatOps.extf (F := Ideal) (φ := .fp8e4m3) .bf16 _ (x (ix2 r c)) : EReal) * Cert.Columns.spread (N := 1024) (b := 32) (l := 512) _ _ _ _ (vpow (extui 32 s natLt_8_32)) (ix2 r c) : EReal) = _
  rw [Ideal.extf_def, Cert.Columns.spread_apply (N := 1024) (b := 32) (l := 512) rfl (by decide) (by decide), vpow_apply, e]
  show (C _ : EReal) * pow2 ((s (ix2 (runOf rfl r) c)).setWidth 32) = (C _ : EReal) * pow2 ((S (ix2 (runOf rfl _) c)).setWidth 32)
  rw [e', run_split o ho]
  rfl

end Cert.WgradIdeal.Tiles

end
-- ==== Proof.WgradTiles.lean ====
/-
  THE WEIGHT-GRADIENT BODY'S CASES, AS VALUES. At a point that opens a column block the body quantises the block of x down
  runs of 32 rows, six parts of 1024 rows one after the other: codes, scale bytes, and the codes times their scales,
  transposed into the carried scratch. At every point it fills the other scratch with the gradient block's codes times
  their scales, again in six parts, and stores the product of the two scratches.
-/
module

public import proofs.«01_k».proof.Proof.WgradIdealFrame
public import proofs.«01_k».proof.Proof.WgradPayloads
public import Idealize.ShloMosaic.Lib.Pipeline.Value
public import Idealize.ShloMosaic.Lib.Pipeline.ValueKit.Tiles

@[expose] public section

set_option maxRecDepth 16384

noncomputable section

namespace Cert.WgradIdeal.Tiles

open Idealize.ShloMosaic Idealize.ShloMosaic.TcCoe Idealize.SL.Sem
open Cert.WgradIdeal Cert.WgradIdeal.Gen Cert.WgradIdeal.Run Cert.Lanes Cert.Scales Cert.Columns

/-- A part loaded at row `1024 o` of a block, at an index. -/
theorem part_load {e : EltTy} (X : Vec Ideal S6144x512 e) (O o : ℕ) (hO : O = 1024 * o) (ho : 1024 * o + 1024 ≤ 6144) (inb : ∀ q, (![O, 0] : Fin 2 → ℕ) q + S1024x512.size q ≤ S6144x512.size q)
    (r : Fin 1024) (c : Fin 512) :
    View.ld (S := S6144x512) (Val := Elt Ideal) (e' := e) X (Rect.unit (s := S6144x512) ![O, 0] S1024x512.size inb) (ix2 r c)
      = X (ix2 (⟨1024 * o + r.val, by have := r.isLt; omega⟩ : Fin 6144) c) := by
  subst hO
  refine View.ld_unit_apply_of (S := S6144x512) (Val := Elt Ideal) (e := e) X _ _ inb (ix2 r c) _ ?_
  intro q
  match q with
  | ⟨0, _⟩ => rfl
  | ⟨1, _⟩ => exact (Nat.zero_add _).symm

theorem runs_load {e : EltTy} (X : Vec Ideal S192x512 e) (O o : ℕ) (hO : O = 32 * o) (ho : 1024 * o + 1024 ≤ 6144) (inb : ∀ q, (![O, 0] : Fin 2 → ℕ) q + S32x512.size q ≤ S192x512.size q)
    (r : Fin 32) (c : Fin 512) :
    View.ld (S := S192x512) (Val := Elt Ideal) (e' := e) X (Rect.unit (s := S192x512) ![O, 0] S32x512.size inb) (ix2 r c)
      = X (ix2 (⟨32 * o + r.val, by have := r.isLt; omega⟩ : Fin 192) c) := by
  subst hO
  refine View.ld_unit_apply_of (S := S192x512) (Val := Elt Ideal) (e := e) X _ _ inb (ix2 r c) _ ?_
  intro q
  match q with
  | ⟨0, _⟩ => rfl
  | ⟨1, _⟩ => exact (Nat.zero_add _).symm

/-- The block widened and transposed. -/
def turned (X : Vec Ideal S6144x512 .bf16) : FVec Ideal S512x6144 .bf16 := fun y => wide (N := 6144) (b := 192) (l := 512) rfl X (ix2 (y 1) (y 0))

section Pieces

variable (X : Vec Ideal S6144x512 .bf16) (O o : ℕ) (hO : O = 1024 * o) (ho : 1024 * o + 1024 ≤ 6144)
  (inb : ∀ q, (![O, 0] : Fin 2 → ℕ) q + S1024x512.size q ≤ S6144x512.size q)
include hO ho

/-- Part `o`'s stored codes, at an index of the block. -/
theorem code_piece (P : Vec Ideal S1024x512 .fp8e4m3)
    (hP : P = partCodes (View.ld (S := S6144x512) (Val := Elt Ideal) (e' := .bf16) X (Rect.unit (s := S6144x512) ![O, 0] S1024x512.size inb)))
    (y : S6144x512.Idx) (j : S1024x512.Idx) (h0 : (y 0).val = O + (j 0).val) (h1 : (y 1).val = (j 1).val) :
    P j = codes (N := 6144) (b := 192) (l := 512) rfl X y := by
  subst hP
  obtain ⟨r, c, rfl⟩ : ∃ (r : Fin 1024) (c : Fin 512), j = ix2 r c := ⟨j 0, j 1, (ix2_eta j).symm⟩
  refine (partCodes_apply _ X o ho (part_load X O o hO ho inb) r c).trans (congrArg _ ?_)
  funext q; apply Fin.ext
  match q with
  | ⟨0, _⟩ => subst hO; exact h0.symm
  | ⟨1, _⟩ => exact h1.symm

/-- Part `o`'s stored scale bytes, at an index of the block's. -/
theorem byte_piece (B : ℕ) (hB : B = 32 * o) (P : Vec Ideal S32x512 .i8)
    (hP : P = trunci 8 (partBytes (View.ld (S := S6144x512) (Val := Elt Ideal) (e' := .bf16) X (Rect.unit (s := S6144x512) ![O, 0] S1024x512.size inb))) natLt_8_32)
    (y : S192x512.Idx) (j : S32x512.Idx) (h0 : (y 0).val = B + (j 0).val) (h1 : (y 1).val = (j 1).val) :
    P j = bytes (N := 6144) (b := 192) (l := 512) rfl X y := by
  subst hP
  obtain ⟨r, c, rfl⟩ : ∃ (r : Fin 32) (c : Fin 512), j = ix2 r c := ⟨j 0, j 1, (ix2_eta j).symm⟩
  refine (partBytes_apply _ X o ho (part_load X O o hO ho inb) r c).trans (congrArg _ ?_)
  funext q; apply Fin.ext
  match q with
  | ⟨0, _⟩ => subst hB; exact h0.symm
  | ⟨1, _⟩ => exact h1.symm

/-- Part `o`'s stored widened codes, at an index of the transposed block. -/
theorem turned_piece (P : Vec Ideal S512x1024 .bf16)
    (hP : P = partTurned (View.ld (S := S6144x512) (Val := Elt Ideal) (e' := .bf16) X (Rect.unit (s := S6144x512) ![O, 0] S1024x512.size inb)))
    (y : S512x6144.Idx) (j : S512x1024.Idx) (h0 : (y 0).val = (j 0).val) (h1 : (y 1).val = O + (j 1).val) :
    P j = turned X y := by
  subst hP
  obtain ⟨c, r, rfl⟩ : ∃ (c : Fin 512) (r : Fin 1024), j = ix2 c r := ⟨j 0, j 1, (ix2_eta j).symm⟩
  refine (partTurned_apply _ X o ho (part_load X O o hO ho inb) r c).trans (congrArg _ ?_)
  funext q; apply Fin.ext
  match q with
  | ⟨0, _⟩ => subst hO; exact h1.symm
  | ⟨1, _⟩ => exact h0.symm

end Pieces

/-- Part `o`'s stored gradient tile, at an index of the block. -/
theorem grad_piece (C : Vec Ideal S6144x512 .fp8e4m3) (S : Vec Ideal S192x512 .i8) (O B o : ℕ) (hO : O = 1024 * o) (hB : B = 32 * o) (ho : 1024 * o + 1024 ≤ 6144)
    (inb : ∀ q, (![O, 0] : Fin 2 → ℕ) q + S1024x512.size q ≤ S6144x512.size q)
    (inb' : ∀ q, (![B, 0] : Fin 2 → ℕ) q + S32x512.size q ≤ S192x512.size q) (P : Vec Ideal S1024x512 .bf16)
    (hP : P = gradTile (View.ld (S := S192x512) (Val := Elt Ideal) (e' := .i8) S (Rect.unit (s := S192x512) ![B, 0] S32x512.size inb'))
      (View.ld (S := S6144x512) (Val := Elt Ideal) (e' := .fp8e4m3) C (Rect.unit (s := S6144x512) ![O, 0] S1024x512.size inb)))
    (y : S6144x512.Idx) (j : S1024x512.Idx) (h0 : (y 0).val = O + (j 0).val) (h1 : (y 1).val = (j 1).val) :
    P j = given (N := 6144) (b := 192) (l := 512) rfl C S y := by
  subst hP
  obtain ⟨r, c, rfl⟩ : ∃ (r : Fin 1024) (c : Fin 512), j = ix2 r c := ⟨j 0, j 1, (ix2_eta j).symm⟩
  refine (gradTile_apply o ho _ _ C S (part_load C O o hO ho inb) (runs_load S B o hB ho inb') r c).trans (congrArg _ ?_)
  funext q; apply Fin.ext
  match q with
  | ⟨0, _⟩ => subst hO; exact h0.symm
  | ⟨1, _⟩ => exact h1.symm

variable (m : (ℓ : Loc nD τ sig) → Buf (Elt Ideal) ℓ)

theorem codes_A (c : Dev nD) (t : Fin cfg0.N) (h0 : t.val % 9 = 0) : outA_4 m c t h0 = codes (N := 6144) (b := 192) (l := 512) rfl (iblk m c 0 t) := by
  unfold outA_4
  rw [View.read_writes_eq_canon _ _ _ (coverA_4 m c t h0)]
  unfold runA kernelRun0_A
  dsimp only
  sl_unfold_words
  simp only [View.readAt_eq_ld, (hs0_0 t).read_unread, (hs0_1 t).read_unread, (hs0_2 t).read_unread]
  funext y
  generalize iblk m c 0 t = X
  clear h0
  canon_tiles x h
  · exact code_piece _ 5120 5 rfl (by decide) _ _ (codes5 _) _ _ h0 h1
  · exact code_piece _ 4096 4 rfl (by decide) _ _ (codes4 _) _ _ h0 h1
  · exact code_piece _ 3072 3 rfl (by decide) _ _ (codes3 _) _ _ h0 h1
  · exact code_piece _ 2048 2 rfl (by decide) _ _ (codes2 _) _ _ h0 h1
  · exact code_piece _ 1024 1 rfl (by decide) _ _ (codes1 _) _ _ h0 h1
  · exact code_piece _ 0 0 rfl (by decide) _ _ (codes0 _) _ _ (h0.trans (Nat.zero_add _).symm) h1

theorem bytes_A (c : Dev nD) (t : Fin cfg0.N) (h0 : t.val % 9 = 0) : outA_5 m c t h0 = bytes (N := 6144) (b := 192) (l := 512) rfl (iblk m c 0 t) := by
  unfold outA_5
  rw [View.read_writes_eq_canon _ _ _ (coverA_5 m c t h0)]
  unfold runA kernelRun0_A
  dsimp only
  sl_unfold_words
  simp only [View.readAt_eq_ld, (hs0_0 t).read_unread, (hs0_1 t).read_unread, (hs0_2 t).read_unread]
  funext y
  generalize iblk m c 0 t = X
  clear h0
  canon_tiles x h
  · exact byte_piece _ 5120 5 rfl (by decide) _ 160 rfl _ (bytes5 _) _ _ h0 h1
  · exact byte_piece _ 4096 4 rfl (by decide) _ 128 rfl _ (bytes4 _) _ _ h0 h1
  · exact byte_piece _ 3072 3 rfl (by decide) _ 96 rfl _ (bytes3 _) _ _ h0 h1
  · exact byte_piece _ 2048 2 rfl (by decide) _ 64 rfl _ (bytes2 _) _ _ h0 h1
  · exact byte_piece _ 1024 1 rfl (by decide) _ 32 rfl _ (bytes1 _) _ _ h0 h1
  · exact byte_piece _ 0 0 rfl (by decide) _ 0 rfl _ (bytes0 _) _ _ (h0.trans (Nat.zero_add _).symm) h1

theorem scratch_A (c : Dev nD) (t : Fin cfg0.N) (h0 : t.val % 9 = 0) : soutA_0 m c t h0 = turned (iblk m c 0 t) := by
  unfold soutA_0
  rw [View.read_writes_eq_canon _ _ _ (scoverA_0 m c t h0)]
  unfold runA kernelRun0_A
  dsimp only
  sl_unfold_words
  simp only [View.readAt_eq_ld, (hs0_0 t).read_unread, (hs0_1 t).read_unread, (hs0_2 t).read_unread]
  funext y
  generalize iblk m c 0 t = X
  clear h0
  canon_tiles x h
  · exact turned_piece _ 5120 5 rfl (by decide) _ _ (turned5 _) _ _ h0 h1
  · exact turned_piece _ 4096 4 rfl (by decide) _ _ (turned4 _) _ _ h0 h1
  · exact turned_piece _ 3072 3 rfl (by decide) _ _ (turned3 _) _ _ h0 h1
  · exact turned_piece _ 2048 2 rfl (by decide) _ _ (turned2 _) _ _ h0 h1
  · exact turned_piece _ 1024 1 rfl (by decide) _ _ (turned1 _) _ _ h0 h1
  · exact turned_piece _ 0 0 rfl (by decide) _ _ (turned0 _) _ _ h0 (h1.trans (Nat.zero_add _).symm)

theorem product_A (c : Dev nD) (t : Fin cfg0.N) (h0 : t.val % 9 = 0) :
    outA_3 m c t h0 = k0_pay3 (F := Ideal) (turned (iblk m c 0 t)) (given (N := 6144) (b := 192) (l := 512) rfl (iblk m c 1 t) (iblk m c 2 t)) := by
  unfold outA_3
  rw [View.read_writes_eq_canon _ _ _ (coverA_3 m c t h0)]
  unfold runA kernelRun0_A
  dsimp only
  sl_unfold_words
  rw [View.canon_unit_zero hz]
  simp only [View.readAt_eq_ld, (hs0_0 t).read_unread, (hs0_1 t).read_unread, (hs0_2 t).read_unread]
  generalize iblk m c 0 t = X
  generalize iblk m c 1 t = C
  generalize iblk m c 2 t = S
  clear h0
  refine congrArg₂ (k0_pay3 (F := Ideal)) ?_ ?_
  · funext y
    rw [readCov_all _ _ hz]
    canon_tiles x h
    · exact turned_piece _ 5120 5 rfl (by decide) _ _ (turned5 _) _ _ h0 h1
    · exact turned_piece _ 4096 4 rfl (by decide) _ _ (turned4 _) _ _ h0 h1
    · exact turned_piece _ 3072 3 rfl (by decide) _ _ (turned3 _) _ _ h0 h1
    · exact turned_piece _ 2048 2 rfl (by decide) _ _ (turned2 _) _ _ h0 h1
    · exact turned_piece _ 1024 1 rfl (by decide) _ _ (turned1 _) _ _ h0 h1
    · exact turned_piece _ 0 0 rfl (by decide) _ _ (turned0 _) _ _ h0 (h1.trans (Nat.zero_add _).symm)
  · funext y
    rw [readCov_all _ _ hz]
    canon_tiles x h
    · exact grad_piece _ _ 5120 160 5 rfl rfl (by decide) _ _ _ (grad5 _ _) _ _ h0 h1
    · exact grad_piece _ _ 4096 128 4 rfl rfl (by decide) _ _ _ (grad4 _ _) _ _ h0 h1
    · exact grad_piece _ _ 3072 96 3 rfl rfl (by decide) _ _ _ (grad3 _ _) _ _ h0 h1
    · exact grad_piece _ _ 2048 64 2 rfl rfl (by decide) _ _ _ (grad2 _ _) _ _ h0 h1
    · exact grad_piece _ _ 1024 32 1 rfl rfl (by decide) _ _ _ (grad1 _ _) _ _ h0 h1
    · exact grad_piece _ _ 0 0 0 rfl rfl (by decide) _ _ _ (grad0 _ _) _ _ (h0.trans (Nat.zero_add _).symm) h1

theorem product_B (c : Dev nD) (t : Fin cfg0.N) (h0 : ¬t.val % 9 = 0) (x4 : Vec Ideal S6144x512 .fp8e4m3) (x5 : Vec Ideal S192x512 .i8) (xs0 : Vec Ideal S512x6144 .bf16) :
    outB_3 m c t h0 x4 x5 xs0 = k0_pay3 (F := Ideal) xs0 (given (N := 6144) (b := 192) (l := 512) rfl (iblk m c 1 t) (iblk m c 2 t)) := by
  unfold outB_3
  rw [View.read_writes_eq_canon _ _ _ (coverB_3 m c t h0 x4 x5 xs0)]
  unfold runB kernelRun0_B
  dsimp only
  sl_unfold_words
  rw [View.canon_unit_zero hz]
  simp only [View.readAt_eq_ld, (hs0_0 t).read_unread, (hs0_1 t).read_unread, (hs0_2 t).read_unread, (Memref.isWhole_whole cc0_scratch0).read_unread, View.ld_unit_zero (S := S512x6144) hz]
  generalize iblk m c 0 t = X
  generalize iblk m c 1 t = C
  generalize iblk m c 2 t = S
  clear h0
  refine congrArg (k0_pay3 (F := Ideal) xs0) ?_
  funext y
  rw [readCov_all _ _ hz]
  canon_tiles x h
  · exact grad_piece _ _ 5120 160 5 rfl rfl (by decide) _ _ _ (grad5 _ _) _ _ h0 h1
  · exact grad_piece _ _ 4096 128 4 rfl rfl (by decide) _ _ _ (grad4 _ _) _ _ h0 h1
  · exact grad_piece _ _ 3072 96 3 rfl rfl (by decide) _ _ _ (grad3 _ _) _ _ h0 h1
  · exact grad_piece _ _ 2048 64 2 rfl rfl (by decide) _ _ _ (grad2 _ _) _ _ h0 h1
  · exact grad_piece _ _ 1024 32 1 rfl rfl (by decide) _ _ _ (grad1 _ _) _ _ h0 h1
  · exact grad_piece _ _ 0 0 0 rfl rfl (by decide) _ _ _ (grad0 _ _) _ _ (h0.trans (Nat.zero_add _).symm) h1

end Cert.WgradIdeal.Tiles

end
-- ==== Proof.WgradValue.lean ====
/-
  THE WEIGHT GRADIENT'S RESULTS, AS VALUES. After each point the carried scratch and the code and scale outputs hold what
  the column block's first point stored (the others keep it), and the gradient output is the product of that scratch with
  the point's gradient block. So the arrays the call returns are, entry by entry: the sum over the 6144 rows of quantised x
  times widened dy; the codes of x; their scale bytes.
-/
module

public import proofs.«01_k».proof.Proof.WgradTiles

@[expose] public section

set_option maxRecDepth 16384

noncomputable section

namespace Cert.WgradIdeal.Tiles

open Idealize.ShloMosaic Idealize.ShloMosaic.TcCoe Idealize.SL.Sem
open Idealize.ShloMosaic.Pipeline (Dat)
open Cert.WgradIdeal Cert.WgradIdeal.Gen Cert.WgradIdeal.Run Cert.Lanes Cert.Scales Cert.Columns

variable (m : (ℓ : Loc nD τ sig) → Buf (Elt Ideal) ℓ)

/-- The product the body stores, at an entry. -/
theorem pay3_apply (l : FVec Ideal S512x6144 .bf16) (r : FVec Ideal S6144x512 .bf16) (a b : Fin 512) :
    k0_pay3 (F := Ideal) l r (ix2 a b) = ∑ k : Fin 6144, (l (ix2 a k) : EReal) * (r (ix2 k b) : EReal) := by
  unfold k0_pay3
  pointwise

/-- The windows' block indices, decided over the grid: the column block of x is the point over 9, of dy the rest. -/
theorem idx_all : ∀ t : Fin cfg0.N,
    (win0_0.index t (0 : Fin 2) = 0 ∧ win0_0.index t (1 : Fin 2) = t.val / 9)
    ∧ (win0_1.index t (0 : Fin 2) = 0 ∧ win0_1.index t (1 : Fin 2) = t.val % 9)
    ∧ (win0_2.index t (0 : Fin 2) = 0 ∧ win0_2.index t (1 : Fin 2) = t.val % 9)
    ∧ (win0_3.index t (0 : Fin 2) = t.val / 9 ∧ win0_3.index t (1 : Fin 2) = t.val % 9)
    ∧ (win0_4.index t (0 : Fin 2) = 0 ∧ win0_4.index t (1 : Fin 2) = t.val / 9)
    ∧ (win0_5.index t (0 : Fin 2) = 0 ∧ win0_5.index t (1 : Fin 2) = t.val / 9) :=
  (by decide +kernel : ∀ t : Fin grid0.N, _)

theorem lt_N (t : Fin cfg0.N) : t.val < 216 := lt_of_lt_of_eq t.isLt N_0

/-- A block of each argument, at an index: the argument's entry. -/
theorem iblk0_apply (c : Dev nD) (t : Fin cfg0.N) (r : Fin 6144) (k : Fin 512) :
    iblk m c 0 t (ix2 r k) = m ((c : Thread nD τ).loc main_arg0) (ix2 r (⟨512 * (t.val / 9) + k.val, by have := lt_N t; omega⟩ : Fin 12288)) := by
  obtain ⟨⟨h0, h1⟩, _⟩ := idx_all t
  show V m c (Pipeline.arrRef spec0 0) (((cfg0.win 0).blk t).view.emb (ix2 r k)) = _
  rw [show V m c (Pipeline.arrRef spec0 0) = m ((c : Thread nD τ).loc main_arg0) from V_main_arg0 m c]
  congr 1
  funext q; apply Fin.ext
  match q with
  | ⟨0, _⟩ => show win0_0.index t (0 : Fin 2) * 6144 + 1 * r.val = r.val; rw [h0]; omega
  | ⟨1, _⟩ => show win0_0.index t (1 : Fin 2) * 512 + 1 * k.val = 512 * (t.val / 9) + k.val; rw [h1]; omega

theorem iblk1_apply (c : Dev nD) (t : Fin cfg0.N) (r : Fin 6144) (k : Fin 512) :
    iblk m c 1 t (ix2 r k) = m ((c : Thread nD τ).loc main_arg1) (ix2 r (⟨512 * (t.val % 9) + k.val, by omega⟩ : Fin 4608)) := by
  obtain ⟨_, ⟨h0, h1⟩, _⟩ := idx_all t
  show V m c (Pipeline.arrRef spec0 1) (((cfg0.win 1).blk t).view.emb (ix2 r k)) = _
  rw [show V m c (Pipeline.arrRef spec0 1) = m ((c : Thread nD τ).loc main_arg1) from V_main_arg1 m c]
  congr 1
  funext q; apply Fin.ext
  match q with
  | ⟨0, _⟩ => show win0_1.index t (0 : Fin 2) * 6144 + 1 * r.val = r.val; rw [h0]; omega
  | ⟨1, _⟩ => show win0_1.index t (1 : Fin 2) * 512 + 1 * k.val = 512 * (t.val % 9) + k.val; rw [h1]; omega

theorem iblk2_apply (c : Dev nD) (t : Fin cfg0.N) (r : Fin 192) (k : Fin 512) :
    iblk m c 2 t (ix2 r k) = m ((c : Thread nD τ).loc main_arg2) (ix2 r (⟨512 * (t.val % 9) + k.val, by omega⟩ : Fin 4608)) := by
  obtain ⟨_, _, ⟨h0, h1⟩, _⟩ := idx_all t
  show V m c (Pipeline.arrRef spec0 2) (((cfg0.win 2).blk t).view.emb (ix2 r k)) = _
  rw [show V m c (Pipeline.arrRef spec0 2) = m ((c : Thread nD τ).loc main_arg2) from V_main_arg2 m c]
  congr 1
  funext q; apply Fin.ext
  match q with
  | ⟨0, _⟩ => show win0_2.index t (0 : Fin 2) * 192 + 1 * r.val = r.val; rw [h0]; omega
  | ⟨1, _⟩ => show win0_2.index t (1 : Fin 2) * 512 + 1 * k.val = 512 * (t.val % 9) + k.val; rw [h1]; omega

/-- The launched arguments: the codes of x with their bytes, and dy's codes times their scales. -/
def xCodes (c : Dev nD) : FVec Ideal (Sh 6144 12288) .fp8e4m3 := codes (N := 6144) (b := 192) (l := 12288) rfl (m ((c : Thread nD τ).loc main_arg0))
def xBytes (c : Dev nD) : IVec (Sh 192 12288) 8 := bytes (N := 6144) (b := 192) (l := 12288) rfl (m ((c : Thread nD τ).loc main_arg0))
def xWide (c : Dev nD) : FVec Ideal (Sh 6144 12288) .bf16 := wide (N := 6144) (b := 192) (l := 12288) rfl (m ((c : Thread nD τ).loc main_arg0))
def dyWide (c : Dev nD) : FVec Ideal (Sh 6144 4608) .bf16 :=
  given (N := 6144) (b := 192) (l := 4608) rfl (m ((c : Thread nD τ).loc main_arg1)) (m ((c : Thread nD τ).loc main_arg2))

theorem run_block (c : Dev nD) (t : Fin cfg0.N) (p : Fin 192) (k : Fin 512) :
    runAt (N := 6144) (b := 192) (l := 512) rfl (iblk m c 0 t) p k
      = runAt (N := 6144) (b := 192) (l := 12288) rfl (m ((c : Thread nD τ).loc main_arg0)) p (⟨512 * (t.val / 9) + k.val, by have := lt_N t; omega⟩ : Fin 12288) :=
  runAt_block _ _ _ _ _ _ _ _ fun q => iblk0_apply m c t _ k

theorem codes_block (c : Dev nD) (t : Fin cfg0.N) (r : Fin 6144) (k : Fin 512) :
    codes (N := 6144) (b := 192) (l := 512) rfl (iblk m c 0 t) (ix2 r k) = xCodes m c (ix2 r (⟨512 * (t.val / 9) + k.val, by have := lt_N t; omega⟩ : Fin 12288)) := by
  show code (runMax (runAt (N := 6144) (b := 192) (l := 512) rfl (iblk m c 0 t) (runOf rfl r) k)) (iblk m c 0 t (ix2 r k)) = _
  rw [run_block, iblk0_apply]
  rfl

theorem bytes_block (c : Dev nD) (t : Fin cfg0.N) (p : Fin 192) (k : Fin 512) :
    bytes (N := 6144) (b := 192) (l := 512) rfl (iblk m c 0 t) (ix2 p k) = xBytes m c (ix2 p (⟨512 * (t.val / 9) + k.val, by have := lt_N t; omega⟩ : Fin 12288)) := by
  show (byteOf (runMax (runAt (N := 6144) (b := 192) (l := 512) rfl (iblk m c 0 t) p k))).setWidth 8 = _
  rw [run_block]
  rfl

theorem wide_block (c : Dev nD) (t : Fin cfg0.N) (r : Fin 6144) (k : Fin 512) :
    wide (N := 6144) (b := 192) (l := 512) rfl (iblk m c 0 t) (ix2 r k) = xWide m c (ix2 r (⟨512 * (t.val / 9) + k.val, by have := lt_N t; omega⟩ : Fin 12288)) := by
  show codes (N := 6144) (b := 192) (l := 512) rfl (iblk m c 0 t) (ix2 r k) * pow2 (byteOf (runMax (runAt (N := 6144) (b := 192) (l := 512) rfl (iblk m c 0 t) (runOf rfl r) k))) = _
  rw [run_block, codes_block]
  rfl

theorem given_block (c : Dev nD) (t : Fin cfg0.N) (r : Fin 6144) (k : Fin 512) :
    given (N := 6144) (b := 192) (l := 512) rfl (iblk m c 1 t) (iblk m c 2 t) (ix2 r k) = dyWide m c (ix2 r (⟨512 * (t.val % 9) + k.val, by omega⟩ : Fin 4608)) := by
  exact congrArg₂ (fun (x : EReal) (s : BitVec 8) => x * pow2 (s.setWidth 32)) (iblk1_apply m c t r k) (iblk2_apply m c t (runOf rfl r) k)

/-- Two points of one column block see one block of x. -/
theorem block_congr (c : Dev nD) (t t' : Fin cfg0.N) (h : t.val / 9 = t'.val / 9) : iblk m c 0 t = iblk m c 0 t' := by
  funext y
  obtain ⟨r, k, rfl⟩ : ∃ (r : Fin 6144) (k : Fin 512), y = ix2 r k := ⟨y 0, y 1, (ix2_eta y).symm⟩
  rw [iblk0_apply, iblk0_apply]
  congr 2
  exact Fin.ext (congrArg (fun q => 512 * q + k.val) h)

/-- What a column block's points keep: the codes, the bytes and the widened transpose of its block of x. -/
def kept (X : Vec Ideal S6144x512 .bf16) : Vec Ideal S6144x512 .fp8e4m3 × Vec Ideal S192x512 .i8 × Vec Ideal S512x6144 .bf16 :=
  (codes (N := 6144) (b := 192) (l := 512) rfl X, bytes (N := 6144) (b := 192) (l := 512) rfl X, turned X)

theorem kept_A (c : Dev nD) (t : Fin cfg0.N) (h0 : t.val % 9 = 0) : (outsAt0 m c t.val t.isLt).2 = kept (iblk m c 0 t) := by
  rw [outsAt0_A m c t h0]
  dsimp only
  rw [codes_A, bytes_A, scratch_A]
  rfl

theorem kept_B (c : Dev nD) (t : Fin cfg0.N) (h0 : ¬t.val % 9 = 0) :
    (outsAt0 m c t.val t.isLt).2 = (outsAt0 m c (t.val - 1) (prior t)).2 := by
  rw [outsAt0_B m c t h0]

theorem kept_eq (c : Dev nD) : ∀ (n : ℕ) (h : n < cfg0.N), (outsAt0 m c n h).2 = kept (iblk m c 0 ⟨n, h⟩) := by
  intro n
  induction n with
  | zero => intro h; exact kept_A m c ⟨0, h⟩ rfl
  | succ n ih =>
    intro h
    by_cases h0 : (n + 1) % 9 = 0
    · exact kept_A m c ⟨n + 1, h⟩ h0
    · refine (kept_B m c ⟨n + 1, h⟩ h0).trans ((ih (Nat.lt_of_succ_lt h)).trans (congrArg kept (block_congr m c _ _ ?_)))
      show n / 9 = (n + 1) / 9
      omega

/-- The gradient block after point `t`: the product of the block of x, widened and transposed, with dy's widened block. -/
theorem product_eq (c : Dev nD) (t : Fin cfg0.N) :
    (outsAt0 m c t.val t.isLt).1 = k0_pay3 (F := Ideal) (turned (iblk m c 0 t)) (given (N := 6144) (b := 192) (l := 512) rfl (iblk m c 1 t) (iblk m c 2 t)) := by
  by_cases h0 : t.val % 9 = 0
  · rw [outsAt0_A m c t h0]
    dsimp only
    rw [product_A]
  · rw [outsAt0_B m c t h0]
    dsimp only
    rw [product_B, kept_eq, block_congr m c ⟨t.val - 1, _⟩ t (by show (t.val - 1) / 9 = t.val / 9; omega)]
    rfl

/-- The gradient: over the 6144 rows, quantised x times widened dy. -/
def result (c : Dev nD) : Buf (Elt Ideal) ((c : Thread nD τ).loc main_v0_0) := fun i =>
  (∑ k : Fin 6144, (xWide m c (ix2 k (i 0)) : EReal) * (dyWide m c (ix2 k (i 1)) : EReal) : EReal)

theorem flushed3 (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3, product_eq]
  obtain ⟨_, _, _, ⟨h0, h1⟩, _⟩ := idx_all t
  have key : ∀ (a b : Fin 512), k0_pay3 (F := Ideal) (turned (iblk m c 0 t)) (given (N := 6144) (b := 192) (l := 512) rfl (iblk m c 1 t) (iblk m c 2 t)) (ix2 a b)
      = result m c (ix2 (⟨512 * (t.val / 9) + a.val, by have := lt_N t; omega⟩ : Fin 12288) (⟨512 * (t.val % 9) + b.val, by omega⟩ : Fin 4608)) := by
    intro a b
    rw [pay3_apply]
    unfold result
    refine Finset.sum_congr rfl fun k _ => ?_
    rw [given_block]
    show (wide (N := 6144) (b := 192) (l := 512) rfl (iblk m c 0 t) (ix2 k a) : EReal) * _ = _
    rw [wide_block]
    rfl
  generalize k0_pay3 (F := Ideal) (turned (iblk m c 0 t)) (given (N := 6144) (b := 192) (l := 512) rfl (iblk m c 1 t) (iblk m c 2 t)) = X at key ⊢
  generalize result m c = Y at key ⊢
  funext y
  have hy0 : (y 0).val < 512 := (y 0).isLt
  have hy1 : (y 1).val < 512 := (y 1).isLt
  show X ((cfg0.win 3).xinj (grid0.coords t) y) = Y (((cfg0.win 3).blk t).view.emb y)
  rw [show (cfg0.win 3).xinj (grid0.coords t) y = ix2 (⟨(y 0).val, hy0⟩ : Fin 512) (⟨(y 1).val, hy1⟩ : Fin 512) from by
    funext a; apply Fin.ext
    match a with
    | ⟨0, _⟩ => rfl
    | ⟨1, _⟩ => rfl]
  rw [key]
  congr 1
  funext a; apply Fin.ext
  match a with
  | ⟨0, _⟩ => show 512 * (t.val / 9) + (y 0).val = win0_3.index t (0 : Fin 2) * 512 + 1 * (y 0).val; rw [h0]; omega
  | ⟨1, _⟩ => show 512 * (t.val % 9) + (y 1).val = win0_3.index t (1 : Fin 2) * 512 + 1 * (y 1).val; rw [h1]; omega

theorem flushed4 (c : Dev nD) (t : Fin cfg0.N) (hf : (cfg0.win 4).flush t = true) :
    (dats m 0 c).flushed 4 t = ((cfg0.win 4).blk t).view.read (Elt Ideal) (xCodes m c) := by
  show (cfg0.win 4).cut (grid0.coords t) ((dats m 0 c).after 4 t) = _
  rw [after0_4, kept_eq]
  obtain ⟨_, _, _, _, ⟨h0, h1⟩, _⟩ := idx_all t
  have key := codes_block m c t
  show (cfg0.win 4).cut (grid0.coords t) (codes (N := 6144) (b := 192) (l := 512) rfl (iblk m c 0 t)) = _
  generalize codes (N := 6144) (b := 192) (l := 512) rfl (iblk m c 0 t) = X at key ⊢
  generalize xCodes m c = Y at key ⊢
  funext y
  have hy0 : (y 0).val < 6144 := (y 0).isLt
  have hy1 : (y 1).val < 512 := (y 1).isLt
  show X ((cfg0.win 4).xinj (grid0.coords t) y) = Y (((cfg0.win 4).blk t).view.emb y)
  rw [show (cfg0.win 4).xinj (grid0.coords t) y = ix2 (⟨(y 0).val, hy0⟩ : Fin 6144) (⟨(y 1).val, hy1⟩ : Fin 512) from by
    funext a; apply Fin.ext
    match a with
    | ⟨0, _⟩ => rfl
    | ⟨1, _⟩ => rfl]
  rw [key]
  congr 1
  funext a; apply Fin.ext
  match a with
  | ⟨0, _⟩ => show (y 0).val = win0_4.index t (0 : Fin 2) * 6144 + 1 * (y 0).val; rw [h0]; omega
  | ⟨1, _⟩ => show 512 * (t.val / 9) + (y 1).val = win0_4.index t (1 : Fin 2) * 512 + 1 * (y 1).val; rw [h1]; omega

theorem flushed5 (c : Dev nD) (t : Fin cfg0.N) (hf : (cfg0.win 5).flush t = true) :
    (dats m 0 c).flushed 5 t = ((cfg0.win 5).blk t).view.read (Elt Ideal) (xBytes m c) := by
  show (cfg0.win 5).cut (grid0.coords t) ((dats m 0 c).after 5 t) = _
  rw [after0_5, kept_eq]
  obtain ⟨_, _, _, _, _, ⟨h0, h1⟩⟩ := idx_all t
  have key := bytes_block m c t
  show (cfg0.win 5).cut (grid0.coords t) (bytes (N := 6144) (b := 192) (l := 512) rfl (iblk m c 0 t)) = _
  generalize bytes (N := 6144) (b := 192) (l := 512) rfl (iblk m c 0 t) = X at key ⊢
  generalize xBytes m c = Y at key ⊢
  funext y
  have hy0 : (y 0).val < 192 := (y 0).isLt
  have hy1 : (y 1).val < 512 := (y 1).isLt
  show X ((cfg0.win 5).xinj (grid0.coords t) y) = Y (((cfg0.win 5).blk t).view.emb y)
  rw [show (cfg0.win 5).xinj (grid0.coords t) y = ix2 (⟨(y 0).val, hy0⟩ : Fin 192) (⟨(y 1).val, hy1⟩ : Fin 512) from by
    funext a; apply Fin.ext
    match a with
    | ⟨0, _⟩ => rfl
    | ⟨1, _⟩ => rfl]
  rw [key]
  congr 1
  funext a; apply Fin.ext
  match a with
  | ⟨0, _⟩ => show (y 0).val = win0_5.index t (0 : Fin 2) * 192 + 1 * (y 0).val; rw [h0]; omega
  | ⟨1, _⟩ => show 512 * (t.val / 9) + (y 1).val = win0_5.index t (1 : Fin 2) * 512 + 1 * (y 1).val; rw [h1]; omega

/-! ### Every entry is written back by some point -/

/-- The point of a block of x and a block of dy. -/
abbrev pointOf (p : Fin 24) (q : Fin 9) : Fin grid0.N := ⟨9 * p.val + q.val, lt_of_lt_of_eq (by omega) N_0.symm⟩

theorem flush_all : ∀ (p : Fin 24) (q : Fin 9), (cfg0.win 3).flush (pointOf p q) = true :=
  (by decide +kernel : ∀ (p : Fin 24) (q : Fin 9), win0_3.flush (pointOf p q) = true)
theorem flush_last : ∀ p : Fin 24, (cfg0.win 4).flush (pointOf p 8) = true ∧ (cfg0.win 5).flush (pointOf p 8) = true :=
  (by decide +kernel : ∀ p : Fin 24, win0_4.flush (pointOf p 8) = true ∧ win0_5.flush (pointOf p 8) = true)

/-- An index of an array is in a point's block iff each coordinate is in the block's range. -/
theorem mem_blk3 (t : Fin cfg0.N) (i : S12288x4608.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0_0).slice (win0_3.rect t)).set ↔ _
  rw [View.set_slice_whole, Rect.mem_set_unit]
  exact Iff.rfl
theorem mem_blk4 (t : Fin cfg0.N) (i : S6144x12288.Idx) :
    i ∈ ((cfg0.win 4).blk t).view.set ↔ ∀ a : Fin 2, win0_4.index t a * S6144x512.size a ≤ (i a).val ∧ (i a).val < win0_4.index t a * S6144x512.size a + S6144x512.size a := by
  show i ∈ ((View.whole main_v0_1).slice (win0_4.rect t)).set ↔ _
  rw [View.set_slice_whole, Rect.mem_set_unit]
  exact Iff.rfl
theorem mem_blk5 (t : Fin cfg0.N) (i : S192x12288.Idx) :
    i ∈ ((cfg0.win 5).blk t).view.set ↔ ∀ a : Fin 2, win0_5.index t a * S192x512.size a ≤ (i a).val ∧ (i a).val < win0_5.index t a * S192x512.size a + S192x512.size a := by
  show i ∈ ((View.whole main_v0_2).slice (win0_5.rect t)).set ↔ _
  rw [View.set_slice_whole, Rect.mem_set_unit]
  exact Iff.rfl

theorem final3 (c : Dev nD) : (dats m 0 c).arrAt 3 cfg0.N = result m c :=
  (dats m 0 c).arrAt_eq_of_cover 3 _ (fun t hf => flushed3 m c t hf) (fun i => by
    have i0 : (i 0).val < 12288 := (i 0).isLt
    have i1 : (i 1).val < 4608 := (i 1).isLt
    have e : (pointOf ⟨(i 0).val / 512, by omega⟩ ⟨(i 1).val / 512, by omega⟩).val = 9 * ((i 0).val / 512) + (i 1).val / 512 := rfl
    refine ⟨_, flush_all ⟨(i 0).val / 512, by omega⟩ ⟨(i 1).val / 512, by omega⟩, (mem_blk3 _ _).2 ?_⟩
    obtain ⟨_, _, _, ⟨h0, h1⟩, _⟩ := idx_all (pointOf ⟨(i 0).val / 512, by omega⟩ ⟨(i 1).val / 512, by omega⟩)
    rw [e] at h0 h1
    intro a
    match a with
    | ⟨0, _⟩ => show win0_3.index _ (0 : Fin 2) * 512 ≤ (i 0).val ∧ (i 0).val < win0_3.index _ (0 : Fin 2) * 512 + 512; rw [h0]; omega
    | ⟨1, _⟩ => show win0_3.index _ (1 : Fin 2) * 512 ≤ (i 1).val ∧ (i 1).val < win0_3.index _ (1 : Fin 2) * 512 + 512; rw [h1]; omega)

theorem final4 (c : Dev nD) : (dats m 0 c).arrAt 4 cfg0.N = xCodes m c :=
  (dats m 0 c).arrAt_eq_of_cover 4 _ (fun t hf => flushed4 m c t hf) (fun i => by
    have i0 : (i 0).val < 6144 := (i 0).isLt
    have i1 : (i 1).val < 12288 := (i 1).isLt
    have e : (pointOf ⟨(i 1).val / 512, by omega⟩ 8).val = 9 * ((i 1).val / 512) + 8 := rfl
    refine ⟨_, (flush_last ⟨(i 1).val / 512, by omega⟩).1, (mem_blk4 _ _).2 ?_⟩
    obtain ⟨_, _, _, _, ⟨h0, h1⟩, _⟩ := idx_all (pointOf ⟨(i 1).val / 512, by omega⟩ 8)
    rw [e] at h1
    intro a
    match a with
    | ⟨0, _⟩ => show win0_4.index _ (0 : Fin 2) * 6144 ≤ (i 0).val ∧ (i 0).val < win0_4.index _ (0 : Fin 2) * 6144 + 6144; rw [h0]; omega
    | ⟨1, _⟩ => show win0_4.index _ (1 : Fin 2) * 512 ≤ (i 1).val ∧ (i 1).val < win0_4.index _ (1 : Fin 2) * 512 + 512; rw [h1]; omega)

theorem final5 (c : Dev nD) : (dats m 0 c).arrAt 5 cfg0.N = xBytes m c :=
  (dats m 0 c).arrAt_eq_of_cover 5 _ (fun t hf => flushed5 m c t hf) (fun i => by
    have i0 : (i 0).val < 192 := (i 0).isLt
    have i1 : (i 1).val < 12288 := (i 1).isLt
    have e : (pointOf ⟨(i 1).val / 512, by omega⟩ 8).val = 9 * ((i 1).val / 512) + 8 := rfl
    refine ⟨_, (flush_last ⟨(i 1).val / 512, by omega⟩).2, (mem_blk5 _ _).2 ?_⟩
    obtain ⟨_, _, _, _, _, ⟨h0, h1⟩⟩ := idx_all (pointOf ⟨(i 1).val / 512, by omega⟩ 8)
    rw [e] at h1
    intro a
    match a with
    | ⟨0, _⟩ => show win0_5.index _ (0 : Fin 2) * 192 ≤ (i 0).val ∧ (i 0).val < win0_5.index _ (0 : Fin 2) * 192 + 192; rw [h0]; omega
    | ⟨1, _⟩ => show win0_5.index _ (1 : Fin 2) * 512 ≤ (i 1).val ∧ (i 1).val < win0_5.index _ (1 : Fin 2) * 512 + 512; rw [h1]; omega)

/-- The run: the result arrays hold the gradient, the codes and the bytes, the arguments are as launched. -/
theorem run (ρ : Dev nD → PrngReg) : θ_run defs (onTc (τ := τ) (main (F := Ideal))) ⟨m, fun _ => 0, ρ⟩ fun r => ∀ c : Dev nD,
      r.2.mem ((c : Thread nD τ).loc main_v0_0) = result m c
      ∧ r.2.mem ((c : Thread nD τ).loc main_v0_1) = xCodes m c
      ∧ r.2.mem ((c : Thread nD τ).loc main_v0_2) = xBytes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.WgradIdeal.Tiles

end
-- ==== Proof.WgradClaim.lean ====
/-
  THE WEIGHT GRADIENT IS ITS REFERENCE over the extended reals: both runs end with the same three arrays, the product of
  quantised x (transposed) with widened dy, the codes of x and their scale bytes.
-/
module

public import proofs.«01_k».proof.Defs
public import proofs.«01_k».proof.Proof.WgradReference
public import proofs.«01_k».proof.Proof.ColumnsReference
public import proofs.«01_k».proof.Proof.WgradValue

@[expose] public section

set_option maxRecDepth 16384

noncomputable section

namespace Cert.WgradRefIdeal.Read

open Idealize.ShloMosaic Idealize.ShloMosaic.TcCoe Idealize.SL.Sem
open Cert.WgradRefIdeal Cert.WgradRefIdeal.Gen Cert.Lanes Cert.Scales Cert.Columns

variable (a0 : Vec Ideal S6144x12288 .bf16) (a1 : Vec Ideal S6144x4608 .fp8e4m3) (a2 : Vec Ideal S192x4608 .i8)

theorem codes_eq : k0_pay3 (F := Ideal) a0 = rcodes (N := 6144) (b := 192) (l := 12288) shapeCasts_S6144x12288_S192x32x12288 reduces_S192x32x12288_S192x12288
    shapeCasts_S192x12288_S192x1x12288 broadcasts_S192x1x12288_S192x32x12288 shapeCasts_S192x32x12288_S6144x12288 a0 := rfl

theorem bytes_eq : k0_pay4 (F := Ideal) a0 = rbytes (N := 6144) (b := 192) (l := 12288) shapeCasts_S6144x12288_S192x32x12288 reduces_S192x32x12288_S192x12288 a0 := rfl

/-- The product the reference stores, at an entry. -/
theorem dot_apply (l : FVec Ideal S6144x12288 .bf16) (r : FVec Ideal S6144x4608 .bf16) (a : Fin 12288) (b : Fin 4608) :
    matmul (F := Ideal) dot_S6144x12288_S6144x4608_S12288x4608_0_0_1_1_n_n none l r (constant S12288x4608 .f32 0x00000000#32) (ix2 a b)
      = ∑ k : Fin 6144, (l (ix2 k a) : EReal) * (r (ix2 k b) : EReal) := by
  pointwise

theorem product_eq (X : FVec Ideal S6144x12288 .fp8e4m3) (x : IVec S192x12288 8) : k0_pay5 (F := Ideal) X x a1 a2
    = matmul (F := Ideal) dot_S6144x12288_S6144x4608_S12288x4608_0_0_1_1_n_n none
      (rwide (N := 6144) (b := 192) (l := 12288) shapeCasts_S6144x12288_S192x32x12288 shapeCasts_S192x12288_S192x1x12288 broadcasts_S192x1x12288_S192x32x12288 shapeCasts_S192x32x12288_S6144x12288 X x)
      (rwide (N := 6144) (b := 192) (l := 4608) shapeCasts_S6144x4608_S192x32x4608 shapeCasts_S192x4608_S192x1x4608 broadcasts_S192x1x4608_S192x32x4608 shapeCasts_S192x32x4608_S6144x4608 a1 a2)
      (constant S12288x4608 .f32 0x00000000#32) := rfl

theorem codes_read : k0_pay3 (F := Ideal) a0 = codes (N := 6144) (b := 192) (l := 12288) rfl a0 := by
  rw [codes_eq]
  funext y
  obtain ⟨r, c, rfl⟩ : ∃ (r : Fin 6144) (c : Fin 12288), y = ix2 r c := ⟨y 0, y 1, (ix2_eta y).symm⟩
  exact rcodes_apply (N := 6144) (b := 192) (l := 12288) rfl (by decide) (by decide) _ _ _ _ _ a0 r c

theorem bytes_read : k0_pay4 (F := Ideal) a0 = bytes (N := 6144) (b := 192) (l := 12288) rfl a0 := by
  rw [bytes_eq]
  funext y
  obtain ⟨r, c, rfl⟩ : ∃ (r : Fin 192) (c : Fin 12288), y = ix2 r c := ⟨y 0, y 1, (ix2_eta y).symm⟩
  exact rbytes_apply (N := 6144) (b := 192) (l := 12288) rfl _ _ a0 r c

theorem product_read (a : Fin 12288) (b : Fin 4608) : k0_pay5 (F := Ideal) (k0_pay3 a0) (k0_pay4 (F := Ideal) a0) a1 a2 (ix2 a b)
    = ∑ k : Fin 6144, (wide (N := 6144) (b := 192) (l := 12288) rfl a0 (ix2 k a) : EReal) * (given (N := 6144) (b := 192) (l := 4608) rfl a1 a2 (ix2 k b) : EReal) := by
  rw [codes_read, bytes_read, product_eq, dot_apply]
  refine Finset.sum_congr rfl fun k _ => ?_
  rw [wide_given]
  exact congrArg₂ (fun (x y : EReal) => x * y) (rwide_apply (N := 6144) (b := 192) (l := 12288) rfl (by decide) (by decide) _ _ _ _ _ _ k a)
    (rwide_apply (N := 6144) (b := 192) (l := 4608) rfl (by decide) (by decide) _ _ _ _ _ _ k b)

end Cert.WgradRefIdeal.Read

namespace Cert.WgradAgree

open Idealize.ShloMosaic Idealize.ShloMosaic.TcCoe Idealize.SL.Sem Cert.Lanes

theorem agree : Cert.algebraic_WgradIdeal_WgradRefIdeal := by
  intro m g m' g' hpre hargs
  refine ⟨fun c => Cert.WgradIdeal.Tiles.result m c, fun c => Cert.WgradIdeal.Tiles.xCodes m c, fun c => Cert.WgradIdeal.Tiles.xBytes m c, Cert.WgradIdeal.Tiles.run m g, ?_⟩
  refine (θ_run Cert.WgradRefIdeal.defs _ _).mono (fun r h c => ⟨(h c).1.trans ?_, (h c).2.1.trans ?_, (h c).2.2.1.trans ?_, (h c).2.2.2⟩) (Cert.WgradRefIdeal.Whole.run (F := Ideal) m' g')
  all_goals
    obtain ⟨e0, e1, e2⟩ := hargs c
    rw [e0, e1, e2]
  · funext i
    obtain ⟨a, b, rfl⟩ : ∃ (a : Fin 12288) (b : Fin 4608), i = ix2 a b := ⟨i 0, i 1, (ix2_eta i).symm⟩
    exact Cert.WgradRefIdeal.Read.product_read _ _ _ a b
  · exact Cert.WgradRefIdeal.Read.codes_read _
  · exact Cert.WgradRefIdeal.Read.bytes_read _

end Cert.WgradAgree

end
-- ==== Proof.QuantReference.lean ====
/-
  THE QUANTISER'S REFERENCE, RUN: it has one grid point and every block is a whole array, so each array after the run is
  what the body stores, of the argument array.
-/
module

public import proofs.«01_k».proof.Proof.Gen.QuantRefIdeal.Frame
public import Idealize.ShloMosaic.Lib.Pipeline.Value

@[expose] public section

noncomputable section

namespace Cert.QuantRefIdeal.Whole

open Cert.QuantRefIdeal Cert.QuantRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S6144x4608.Idx) : ((cfg0.win 0).blk t).view.emb j = j := by
  obtain ⟨e0, e1⟩ := idx_zero0 t
  funext a; apply Fin.ext
  match a with
  | ⟨0, _⟩ => show win0_0.index t (0 : Fin 2) * 6144 + 1 * (j 0).val = (j 0).val; omega
  | ⟨1, _⟩ => show win0_0.index t (1 : Fin 2) * 4608 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S6144x4608.Idx) : ((cfg0.win 1).blk t).view.emb j = j := by
  obtain ⟨e0, e1⟩ := idx_zero1 t
  funext a; apply Fin.ext
  match a with
  | ⟨0, _⟩ => show win0_1.index t (0 : Fin 2) * 6144 + 1 * (j 0).val = (j 0).val; omega
  | ⟨1, _⟩ => show win0_1.index t (1 : Fin 2) * 4608 + 1 * (j 1).val = (j 1).val; omega

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S6144x144.Idx) : ((cfg0.win 2).blk t).view.emb j = j := by
  obtain ⟨e0, e1⟩ := idx_zero2 t
  funext a; apply Fin.ext
  match a with
  | ⟨0, _⟩ => show win0_2.index t (0 : Fin 2) * 6144 + 1 * (j 0).val = (j 0).val; omega
  | ⟨1, _⟩ => show win0_2.index t (1 : Fin 2) * 144 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S6144x4608.Idx) : ((cfg0.win 3).blk t).view.emb j = j := by
  obtain ⟨e0, e1⟩ := idx_zero3 t
  funext a; apply Fin.ext
  match a with
  | ⟨0, _⟩ => show win0_3.index t (0 : Fin 2) * 6144 + 1 * (j 0).val = (j 0).val; omega
  | ⟨1, _⟩ => show win0_3.index t (1 : Fin 2) * 4608 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S192x4608.Idx) : ((cfg0.win 4).blk t).view.emb j = j := by
  obtain ⟨e0, e1⟩ := idx_zero4 t
  funext a; apply Fin.ext
  match a with
  | ⟨0, _⟩ => show win0_4.index t (0 : Fin 2) * 192 + 1 * (j 0).val = (j 0).val; omega
  | ⟨1, _⟩ => show win0_4.index t (1 : Fin 2) * 4608 + 1 * (j 1).val = (j 1).val; omega

/-! ### Output window 1: the array after the run -/

/-- What the window's array ends holding: `out0_1` applied to the argument arrays in place of the input blocks. -/
abbrev G1 (a0 : Vec F S6144x4608 .bf16) : Vec F S6144x4608 .fp8e4m3 :=
  k0_pay3 a0

/-- A load of the whole of a block reads the block, and the one store through the whole rectangle leaves its payload. -/
theorem out1_eq (a0 : Vec F S6144x4608 .bf16) : out0_1 (F := F) a0 = G1 a0 := by
  unfold out0_1
  rw [View.canon_unit_zero hz1, View.ld_unit_zero (S := S6144x4608) hz0 _ a0]

/-- Cutting the point's block out of `X` and reading `X` through the block's view give the same. -/
theorem cut1_eq (t : Fin cfg0.N) (X : Vec F S6144x4608 .fp8e4m3) :
    (cfg0.win 1).cut (grid0.coords t) X = ((cfg0.win 1).blk t).view.read (Elt F) X := by
  funext j
  show X j = X (((cfg0.win 1).blk t).view.emb j)
  rw [emb1]

/-- WHAT THE POINT WRITES BACK is its block of `G1` of the argument arrays as the region finds them. -/
theorem flushed1_eq (c : Dev nD) (t : Fin cfg0.N) :
    (dats m 0 c).flushed 1 t = ((cfg0.win 1).blk t).view.read (Elt F) (G1 (V m c main_arg0)) := by
  show (cfg0.win 1).cut (grid0.coords t) ((dats m 0 c).after 1 t) = _
  rw [after0_1, out1_eq, iblk0_eq]
  exact cut1_eq t _

/-- Every index of the array is in the point's block. -/
theorem covered1 (i : S6144x4608.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- THE ARRAY after the run: `G1` of the argument arrays as launched. -/
theorem final1 (c : Dev nD) : (dats m 0 c).arrAt 1 cfg0.N = G1 (m ((c : Thread nD τ).loc main_arg0)) :=
  ((dats m 0 c).arrAt_eq_of_cover 1 (G1 (V m c main_arg0)) (fun t _ => flushed1_eq m c t) covered1).trans (by rw [V_main_arg0])

/-! ### Output window 2: the array after the run -/

/-- What the window's array ends holding: `out0_2` applied to the argument arrays in place of the input blocks. -/
abbrev G2 (a0 : Vec F S6144x4608 .bf16) : Vec F S6144x144 .i8 :=
  k0_pay4 a0

/-- A load of the whole of a block reads the block, and the one store through the whole rectangle leaves its payload. -/
theorem out2_eq (a0 : Vec F S6144x4608 .bf16) : out0_2 (F := F) a0 = G2 a0 := by
  unfold out0_2
  rw [View.canon_unit_zero hz2, View.ld_unit_zero (S := S6144x4608) hz0 _ a0]

/-- Cutting the point's block out of `X` and reading `X` through the block's view give the same. -/
theorem cut2_eq (t : Fin cfg0.N) (X : Vec F S6144x144 .i8) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0)) := by
  show (cfg0.win 2).cut (grid0.coords t) ((dats m 0 c).after 2 t) = _
  rw [after0_2, out2_eq, iblk0_eq]
  exact cut2_eq t _

/-- Every index of the array is in the point's block. -/
theorem covered2 (i : S6144x144.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) :=
  ((dats m 0 c).arrAt_eq_of_cover 2 (G2 (V m c main_arg0)) (fun t _ => flushed2_eq m c t) covered2).trans (by rw [V_main_arg0])

/-! ### Output window 3: the array after the run -/

/-- What the window's array ends holding: `out0_3` applied to the argument arrays in place of the input blocks. -/
abbrev G3 (a0 : Vec F S6144x4608 .bf16) : Vec F S6144x4608 .fp8e4m3 :=
  k0_pay7 a0

/-- A load of the whole of a block reads the block, and the one store through the whole rectangle leaves its payload. -/
theorem out3_eq (a0 : Vec F S6144x4608 .bf16) : out0_3 (F := F) a0 = G3 a0 := by
  unfold out0_3
  rw [View.canon_unit_zero hz3, View.ld_unit_zero (S := S6144x4608) hz0 _ a0]

/-- Cutting the point's block out of `X` and reading `X` through the block's view give the same. -/
theorem cut3_eq (t : Fin cfg0.N) (X : Vec F S6144x4608 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0)) := by
  show (cfg0.win 3).cut (grid0.coords t) ((dats m 0 c).after 3 t) = _
  rw [after0_3, out3_eq, iblk0_eq]
  exact cut3_eq t _

/-- Every index of the array is in the point's block. -/
theorem covered3 (i : S6144x4608.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) :=
  ((dats m 0 c).arrAt_eq_of_cover 3 (G3 (V m c main_arg0)) (fun t _ => flushed3_eq m c t) covered3).trans (by rw [V_main_arg0])

/-! ### Output window 4: the array after the run -/

/-- What the window's array ends holding: `out0_4` applied to the argument arrays in place of the input blocks. -/
abbrev G4 (a0 : Vec F S6144x4608 .bf16) : Vec F S192x4608 .i8 :=
  k0_pay8 a0

/-- A load of the whole of a block reads the block, and the one store through the whole rectangle leaves its payload. -/
theorem out4_eq (a0 : Vec F S6144x4608 .bf16) : out0_4 (F := F) a0 = G4 a0 := by
  unfold out0_4
  rw [View.canon_unit_zero hz4, View.ld_unit_zero (S := S6144x4608) hz0 _ a0]

/-- Cutting the point's block out of `X` and reading `X` through the block's view give the same. -/
theorem cut4_eq (t : Fin cfg0.N) (X : Vec F S192x4608 .i8) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0)) := by
  show (cfg0.win 4).cut (grid0.coords t) ((dats m 0 c).after 4 t) = _
  rw [after0_4, out4_eq, iblk0_eq]
  exact cut4_eq t _

/-- Every index of the array is in the point's block. -/
theorem covered4 (i : S192x4608.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) :=
  ((dats m 0 c).arrAt_eq_of_cover 4 (G4 (V m c main_arg0)) (fun t _ => flushed4_eq m c t) covered4).trans (by rw [V_main_arg0])

/-! ## The run, read -/

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_2) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_3) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G1 (m ((c : Thread nD τ).loc main_arg0))
      ∧ r.2.mem ((c : Thread nD τ).loc main_v0_1) = G2 (m ((c : Thread nD τ).loc main_arg0))
      ∧ r.2.mem ((c : Thread nD τ).loc main_v0_2) = G3 (m ((c : Thread nD τ).loc main_arg0))
      ∧ r.2.mem ((c : Thread nD τ).loc main_v0_3) = G4 (m ((c : Thread nD τ).loc main_arg0))
      ∧ r.2.mem ((c : Thread nD τ).loc main_arg0) = m ((c : Thread nD τ).loc main_arg0) :=
  (θ_run defs _ _).mono (fun r h c => ⟨(post1 m r h c).trans (final1 m c),
      (post2 m r h c).trans (final2 m c),
      (post3 m r h c).trans (final3 m c),
      (post4 m r h c).trans (final4 m c),
      kept_main_arg0 m r h c⟩)
    (run_main m ρ)

end Cert.QuantRefIdeal.Whole

end
-- ==== Proof.Rows.lean ====
/-
  THE QUANTISER ALONG THE ROWS. An array of `32 b` columns is quantised in runs of 32 columns of a row: each run's byte comes
  from its absolute maximum, each entry's code is the entry times the reciprocal power of two, clipped to ±448. Here it is
  stated once (`codes`, `bytes`), then read out of the operations a kernel's tile is made of and out of the reference's.
-/
module

public import proofs.«01_k».proof.Proof.ColumnsReference
public import proofs.«01_k».proof.Proof.WidenTile
public import Idealize.ShloMosaic.Lib.Pipeline.Value

@[expose] public section

set_option maxRecDepth 16384

noncomputable section

namespace Cert.Rows

open Idealize.ShloMosaic Cert.Lanes Cert.Scales
open Cert.Columns (runMax runMax_nonneg code runOf vword vbyte vmax vpow vbyte_vword vmax_apply vpow_apply rexp rexp_apply)

variable {N n b : ℕ}

/-! ### What the quantiser computes -/

/-- The 32 entries of run `p` of row `r`. -/
def runAt (h : n = 32 * b) (X : (Sh N n).Idx → EReal) (r : Fin N) (p : Fin b) : Fin 32 → EReal :=
  fun k => X (ix2 r (⟨32 * p.val + k.val, by have := p.isLt; have := k.isLt; omega⟩ : Fin n))

def codes (h : n = 32 * b) (X : (Sh N n).Idx → EReal) : (Sh N n).Idx → EReal := fun y =>
  code (runMax (runAt h X (y 0) (runOf h (y 1)))) (X y)

def bytes (h : n = 32 * b) (X : (Sh N n).Idx → EReal) : IVec (Sh N b) 8 := fun z => (byteOf (runMax (runAt h X (z 0) (z 1)))).setWidth 8

/-- A row of one array that is a row of another has its runs. -/
theorem runAt_row {N' : ℕ} (h : n = 32 * b) (X : (Sh N n).Idx → EReal) (Y : (Sh N' n).Idx → EReal) (r : Fin N) (r' : Fin N')
    (e : ∀ c : Fin n, X (ix2 r c) = Y (ix2 r' c)) (p : Fin b) : runAt h X r p = runAt h Y r' p := funext fun k => e _

theorem codes_row {N' : ℕ} (h : n = 32 * b) (X : (Sh N n).Idx → EReal) (Y : (Sh N' n).Idx → EReal) (r : Fin N) (r' : Fin N')
    (e : ∀ c : Fin n, X (ix2 r c) = Y (ix2 r' c)) (c : Fin n) : codes h X (ix2 r c) = codes h Y (ix2 r' c) := by
  show code (runMax (runAt h X r (runOf h c))) (X (ix2 r c)) = code (runMax (runAt h Y r' (runOf h c))) (Y (ix2 r' c))
  rw [runAt_row h X Y r r' e, e]

theorem bytes_row {N' : ℕ} (h : n = 32 * b) (X : (Sh N n).Idx → EReal) (Y : (Sh N' n).Idx → EReal) (r : Fin N) (r' : Fin N')
    (e : ∀ c : Fin n, X (ix2 r c) = Y (ix2 r' c)) (p : Fin b) : bytes h X (ix2 r p) = bytes h Y (ix2 r' p) := by
  show (byteOf (runMax (runAt h X r p))).setWidth 8 = (byteOf (runMax (runAt h Y r' p))).setWidth 8
  rw [runAt_row h X Y r r' e]

/-! ### The reference -/

section Reference

/-- An array cut into runs. -/
def rcut (g1 : (Sh N n).ShapeCasts ⟨3, ![N, b, 32]⟩) (v : FVec Ideal (Sh N n) .bf16) : FVec Ideal ⟨3, ![N, b, 32]⟩ .f32 :=
  shapeCast ⟨3, ![N, b, 32]⟩ (extf .f32 v (by decide)) g1

/-- The runs' absolute maxima. -/
def rmax (g1 : (Sh N n).ShapeCasts ⟨3, ![N, b, 32]⟩) (g2 : Shape.Reduces ⟨3, ![N, b, 32]⟩ [2] (Sh N b)) (v : FVec Ideal (Sh N n) .bf16) : FVec Ideal (Sh N b) .f32 :=
  multiReduction .maximumf [2] (Sh N b) (absf (rcut g1 v)) 0xFF800000#32 g2 (.inl rfl) rfl

/-- The codes. -/
def rcodes (g1 : (Sh N n).ShapeCasts ⟨3, ![N, b, 32]⟩) (g2 : Shape.Reduces ⟨3, ![N, b, 32]⟩ [2] (Sh N b)) (h1 : (Sh N b).ShapeCasts ⟨3, ![N, b, 1]⟩)
    (h3 : Shape.Broadcasts ⟨3, ![N, b, 1]⟩ ⟨3, ![N, b, 32]⟩) (h4 : Shape.ShapeCasts ⟨3, ![N, b, 32]⟩ (Sh N n)) (v : FVec Ideal (Sh N n) .bf16) : FVec Ideal (Sh N n) .fp8e4m3 :=
  shapeCast (Sh N n) (truncf .fp8e4m3 (minimumf (broadcast ⟨3, ![N, b, 32]⟩ (Scalar.ofBits (F := Ideal) .f32 0x43E00000#32))
    (maximumf (broadcast ⟨3, ![N, b, 32]⟩ (Scalar.ofBits (F := Ideal) .f32 0xC3E00000#32))
      (mulf (rcut g1 v) (broadcastTo ⟨3, ![N, b, 32]⟩ (shapeCast ⟨3, ![N, b, 1]⟩
        (exp2 (subf (broadcast (Sh N b) (Scalar.ofBits (F := Ideal) .f32 0x00000000#32)) (sitofp .f32 (rexp (rmax g1 g2 v))))) h1) h3)))) (by decide)) h4

/-- The scale bytes. -/
def rbytes (g1 : (Sh N n).ShapeCasts ⟨3, ![N, b, 32]⟩) (g2 : Shape.Reduces ⟨3, ![N, b, 32]⟩ [2] (Sh N b)) (v : FVec Ideal (Sh N n) .bf16) : IVec (Sh N b) 8 :=
  trunci 8 (addi (rexp (rmax g1 g2 v)) (broadcast (Sh N b) 127#32)) (by decide)

theorem lift_lanes (g2 : Shape.Reduces ⟨3, ![N, b, 32]⟩ [2] (Sh N b)) (r : Fin N) (p : Fin b) (k : Fin 32) : g2.lift (ix2 r p) k = ix3 r p k := by
  funext q; apply Fin.ext
  match q with
  | ⟨0, _⟩ => rfl
  | ⟨1, _⟩ => rfl
  | ⟨2, _⟩ => rfl

/-- A maximum along the last axis, read at an entry. -/
theorem max_lanes (g2 : Shape.Reduces ⟨3, ![N, b, 32]⟩ [2] (Sh N b)) (src : FVec Ideal ⟨3, ![N, b, 32]⟩ .f32) (f : Fin 32 → EReal) (r : Fin N) (p : Fin b)
    (e : ∀ k : Fin 32, src (ix3 r p k) = max (f k) (-(f k))) :
    multiReduction .maximumf [2] (Sh N b) src 0xFF800000#32 g2 (.inl rfl) rfl (ix2 r p) = runMax f := by
  refine (Ideal.multiReduction_maximumf_single src 0xFF800000#32 g2 (.inl rfl) rfl (ix2 r p)).trans ?_
  unfold runMax
  refine congrArg (fun g => (Finset.univ : Finset (Fin 32)).fold max (Ideal.ofBits .f32 0xFF800000#32) g) ?_
  funext k
  exact (congrArg src (lift_lanes g2 r p k)).trans (e k)

/-- Entry `(r, p, k)` of the array cut into runs is column `32 p + k`. -/
theorem cut_apply {α : Type} (h : n = 32 * b) (g1 : (Sh N n).ShapeCasts ⟨3, ![N, b, 32]⟩) (x : (Sh N n).Idx → α) (r : Fin N) (p : Fin b) (k : Fin 32) :
    shapeCast ⟨3, ![N, b, 32]⟩ x g1 (ix3 r p k) = x (ix2 r (⟨32 * p.val + k.val, by have := p.isLt; have := k.isLt; omega⟩ : Fin n)) :=
  shapeCast_apply _ g1 _ _ (by
    rw [Shape.rowMajor_val_three, Shape.rowMajor_val_two]
    show r.val * n + (32 * p.val + k.val) = (r.val * b + p.val) * 32 + k.val
    rw [h]
    ring)

/-- … and back. -/
theorem join_apply {α : Type} (h : n = 32 * b) (h4 : Shape.ShapeCasts ⟨3, ![N, b, 32]⟩ (Sh N n)) (x : (⟨3, ![N, b, 32]⟩ : Shape).Idx → α) (r : Fin N) (c : Fin n) :
    shapeCast (Sh N n) x h4 (ix2 r c) = x (ix3 r (runOf h c) (⟨c.val % 32, Nat.mod_lt _ (by norm_num)⟩ : Fin 32)) :=
  shapeCast_apply _ h4 _ _ (by
    rw [Shape.rowMajor_val_three, Shape.rowMajor_val_two]
    show (r.val * b + c.val / 32) * 32 + c.val % 32 = r.val * n + c.val
    have e := Nat.div_add_mod c.val 32
    have e0 : r.val * n = r.val * (32 * b) := congrArg (r.val * ·) h
    have e' : (r.val * b + c.val / 32) * 32 = r.val * n + 32 * (c.val / 32) := by rw [e0]; ring
    omega)

/-- One value per run, repeated along the run. -/
theorem along_apply {α : Type} (h1 : (Sh N b).ShapeCasts ⟨3, ![N, b, 1]⟩) (h3 : Shape.Broadcasts ⟨3, ![N, b, 1]⟩ ⟨3, ![N, b, 32]⟩)
    (hN : N ≠ 1) (hb : b ≠ 1) (s : (Sh N b).Idx → α) (r : Fin N) (p : Fin b) (k : Fin 32) :
    broadcastTo ⟨3, ![N, b, 32]⟩ (shapeCast ⟨3, ![N, b, 1]⟩ s h1) h3 (ix3 r p k) = s (ix2 r p) := by
  rw [broadcastTo_apply _ h3 _ (ix3 r p (0 : Fin 1)) (by
    intro q
    match q with
    | ⟨0, _⟩ => show r.val = if N = 1 then 0 else r.val; rw [if_neg hN]
    | ⟨1, _⟩ => show p.val = if b = 1 then 0 else p.val; rw [if_neg hb]
    | ⟨2, _⟩ => rfl)]
  exact shapeCast_apply _ h1 _ _ (by
    rw [Shape.rowMajor_val_three, Shape.rowMajor_val_two]
    show r.val * b + p.val = (r.val * b + p.val) * 1 + 0
    ring)

variable (h : n = 32 * b) (hN : N ≠ 1) (hb : b ≠ 1) (g1 : (Sh N n).ShapeCasts ⟨3, ![N, b, 32]⟩) (g2 : Shape.Reduces ⟨3, ![N, b, 32]⟩ [2] (Sh N b))
    (h1 : (Sh N b).ShapeCasts ⟨3, ![N, b, 1]⟩) (h3 : Shape.Broadcasts ⟨3, ![N, b, 1]⟩ ⟨3, ![N, b, 32]⟩) (h4 : Shape.ShapeCasts ⟨3, ![N, b, 32]⟩ (Sh N n))
    (v : FVec Ideal (Sh N n) .bf16)

include h in
theorem rcut_apply (r : Fin N) (p : Fin b) (k : Fin 32) :
    rcut g1 v (ix3 r p k) = (v (ix2 r (⟨32 * p.val + k.val, by have := p.isLt; have := k.isLt; omega⟩ : Fin n)) : EReal) := by
  unfold rcut
  rw [cut_apply h]
  exact Ideal.extf_def (φ := .bf16) (ψ := .f32) _ _

theorem rmax_apply (r : Fin N) (p : Fin b) : rmax g1 g2 v (ix2 r p) = runMax (runAt h v r p) := by
  unfold rmax
  refine max_lanes g2 _ _ r p fun k => ?_
  show max (rcut g1 v (ix3 r p k) : EReal) (-(rcut g1 v (ix3 r p k) : EReal)) = _
  rw [rcut_apply h]
  rfl

theorem rbytes_apply (r : Fin N) (p : Fin b) : rbytes g1 g2 v (ix2 r p) = bytes h v (ix2 r p) := by
  show (IntOp.addi (rexp (rmax g1 g2 v) (ix2 r p)) 127#32).setWidth 8 = (byteOf (runMax (runAt h v r p))).setWidth 8
  rw [rexp_apply, rmax_apply h, expOf_add _ (runMax_nonneg _)]

include hN hb in
theorem rcodes_apply (r : Fin N) (c : Fin n) : rcodes g1 g2 h1 h3 h4 v (ix2 r c) = codes h v (ix2 r c) := by
  unfold rcodes
  rw [join_apply h]
  refine (Ideal.truncf_def (φ := .f32) (ψ := .fp8e4m3) _ _).trans ?_
  show min (Ideal.ofBits .f32 0x43E00000#32 : EReal) (max (Ideal.ofBits .f32 0xC3E00000#32 : EReal) ((rcut g1 v (ix3 r (runOf h c) _) : EReal) * broadcastTo _ _ h3 (ix3 r (runOf h c) _))) = _
  rw [along_apply h1 h3 hN hb, rcut_apply h]
  show min _ (max _ (_ * Ideal.exp2 (Ideal.ofBits .f32 0x00000000#32 - (((rexp (rmax g1 g2 v) (ix2 r (runOf h c))).toInt : ℝ) : EReal)))) = _
  rw [rexp_apply, rmax_apply h, ← pow2_sub _ (runMax_nonneg _)]
  have e : (⟨32 * (runOf h c).val + (⟨c.val % 32, Nat.mod_lt _ (by norm_num)⟩ : Fin 32).val, by have := (runOf h c).isLt; have : c.val % 32 < 32 := Nat.mod_lt _ (by norm_num); show 32 * (runOf h c).val + c.val % 32 < n; omega⟩ : Fin n) = c :=
    Fin.ext (Nat.div_add_mod c.val 32)
  rw [e]
  rfl

end Reference

/-! ### A kernel's tile: the runs' words are found on the transposed tile, and spread over the lanes by a gather -/

section Tile

variable {R : ℕ} (h1 : (Sh 4608 R).ShapeCasts ⟨3, ![144, 32, R]⟩) (h2 : Shape.Reduces ⟨3, ![144, 32, R]⟩ [1] (Sh 144 R))
  (t1 : (Sh R 4608).Transposes [1, 0] (Sh 4608 R)) (t2 : (Sh 144 R).Transposes [1, 0] (Sh R 144))

/-- The runs' bytes, as words. -/
def vwords (v : FVec Ideal (Sh R 4608) .bf16) : IVec (Sh R 144) 32 :=
  transpose (Sh R 144) [1, 0] (vbyte (vword (vmax (N := 4608) (b := 144) (l := R) h1 h2 (transpose (Sh 4608 R) [1, 0] v t1)))) t2

theorem vwords_apply (v : FVec Ideal (Sh R 4608) .bf16) (r : Fin R) (p : Fin 144) :
    vwords h1 h2 t1 t2 v (ix2 r p) = byteOf (runMax (runAt (b := 144) rfl v r p)) := by
  unfold vwords
  rw [transpose_apply _ _ t2 (ix2 r p) (ix2 p r) (by intro q; match q with | ⟨0, _⟩ => rfl | ⟨1, _⟩ => rfl), vbyte_vword,
    vmax_apply (N := 4608) (b := 144) (l := R) rfl]
  refine congrArg (fun f => byteOf (runMax f)) (funext fun k => ?_)
  exact transpose_apply _ _ t1 (ix2 _ r) (ix2 r _) (by intro q; match q with | ⟨0, _⟩ => rfl | ⟨1, _⟩ => rfl)

/-- The reciprocal powers of two of the runs, padded with zeros to 256 lanes. -/
def recip (hc : Shape.Concatenates [Sh R 144, Sh R 112] (Sh R 256) 1) (s : IVec (Sh R 144) 32) : FVec Ideal (Sh R 256) .bf16 :=
  concatenate (Sh R 256) 1 [⟨Sh R 144, vpow (subi (broadcast (Sh R 144) 254#32) s)⟩, ⟨Sh R 112, broadcast (Sh R 112) (Scalar.sitofp (F := Ideal) .bf16 0#32)⟩] hc

theorem recip_apply (hc : Shape.Concatenates [Sh R 144, Sh R 112] (Sh R 256) 1) (s : IVec (Sh R 144) 32)
    (k : (Sh R 256).Idx) (i : (Sh R 144).Idx) (e0 : (i 0).val = (k 0).val) (e1 : (i 1).val = (k 1).val) :
    recip hc s k = pow2 (IntOp.subi 254#32 (s i)) := by
  unfold recip
  refine (concatenate_pair_apply_left (t := Sh R 256) (s₁ := Sh R 144) (s₂ := Sh R 112) (1 : Fin 2) _ _ hc k rfl i ?_).trans ?_
  · intro b
    match b with
    | ⟨0, _⟩ => exact e0
    | ⟨1, _⟩ => exact e1
  · exact vpow_apply _ _

/-- The codes of the 128 columns at `o`, from the runs' words. -/
def tile (hi : (Sh R 128).Iotas .tc 32 [1]) (c1 : (Sh R 128).ShapeCasts ⟨3, ![R, 128, 1]⟩) (c2 : Shape.ShapeCasts ⟨3, ![R, 128, 1]⟩ (Sh R 128))
    (off off' : Fin 2 → ℕ) (hs : (Sh R 256).Slices off (Sh R 128)) (hs' : (Sh R 4608).Slices off' (Sh R 128)) (s : FVec Ideal (Sh R 256) .bf16)
    (v : FVec Ideal (Sh R 4608) .bf16) (a : BitVec 32) : FVec Ideal (Sh R 128) .fp8e4m3 :=
  truncf .fp8e4m3 (minimumf (broadcast (Sh R 128) (Scalar.truncf (F := Ideal) .bf16 (by decide) (Scalar.ofBits (F := Ideal) .f32 0x43E00000#32)))
    (maximumf (broadcast (Sh R 128) (Scalar.truncf (F := Ideal) .bf16 (by decide) (Scalar.ofBits (F := Ideal) .f32 0xC3E00000#32)))
      (mulf (extractStridedSlice (Sh R 128) off' v hs') (spread hi c1 c2 off hs s a)))) (by decide)

/-- Tile `o` holds the codes of columns `o … o + 127`, read at an entry. -/
theorem tile_apply (hi : (Sh R 128).Iotas .tc 32 [1]) (c1 : (Sh R 128).ShapeCasts ⟨3, ![R, 128, 1]⟩) (c2 : Shape.ShapeCasts ⟨3, ![R, 128, 1]⟩ (Sh R 128))
    (b o : ℕ) (hs : (Sh R 256).Slices ![0, b] (Sh R 128)) (hs' : (Sh R 4608).Slices ![0, o] (Sh R 128))
    (hc : Shape.Concatenates [Sh R 144, Sh R 112] (Sh R 256) 1) (v : FVec Ideal (Sh R 4608) .bf16) (a : ℕ) (ha : a < 32) (hob : o = 32 * (b + 4 * a))
    (r : Fin R) (l : Fin 128) (c : Fin 4608) (hcl : c.val = o + l.val) :
    tile hi c1 c2 ![0, b] ![0, o] hs hs' (recip hc (vwords h1 h2 t1 t2 v)) v (BitVec.ofNat 32 (4 * a)) (ix2 r l) = codes (n := 4608) (b := 144) rfl v (ix2 r c) := by
  have hl := l.isLt
  have hc' := c.isLt
  unfold tile
  refine (Ideal.truncf_def (φ := .bf16) (ψ := .fp8e4m3) _ _).trans ?_
  show min (Ideal.ofBits .f32 0x43E00000#32 : EReal) (max (Ideal.ofBits .f32 0xC3E00000#32 : EReal)
    ((extractStridedSlice (Sh R 128) ![0, o] v hs' (ix2 r l) : EReal) * spread hi c1 c2 ![0, b] hs (recip hc (vwords h1 h2 t1 t2 v)) (BitVec.ofNat 32 (4 * a)) (ix2 r l))) = _
  rw [spread_apply hi c1 c2 ![0, b] hs _ a ha (ix2 r l) (ix2 r (⟨c.val / 32, by omega⟩ : Fin 256))
    (by show r.val = 0 + r.val; omega) (by show c.val / 32 = b + (4 * a + l.val / 32); omega),
    recip_apply hc _ _ (ix2 r (runOf (b := 144) rfl c)) rfl rfl, vwords_apply,
    extractStridedSlice_apply ![0, o] v hs' (ix2 r l) (ix2 r c) (by
      intro q
      match q with
      | ⟨0, _⟩ => show r.val = 0 + r.val; omega
      | ⟨1, _⟩ => exact hcl)]
  rfl

end Tile

end Cert.Rows

end
-- ==== Proof.QuantTiles.lean ====
/-
  THE QUANTISER'S BODY, AS VALUES. At a grid point the body goes through a block of 1024 rows in eight trips of 128: a trip
  stores its rows' column codes, their four rows of column bytes (as words, in a scratch), their row bytes, and their row
  codes in 36 tiles of 128 columns. Every store is a piece of one array of the whole block, so the block after the loop is
  that array. The column bytes are narrowed out of the scratch at the end.
-/
module

public import proofs.«01_k».proof.Proof.Gen.QuantIdeal.Value
public import proofs.«01_k».proof.Proof.Rows
public import Idealize.ShloMosaic.Lib.Pipeline.Value
public import Idealize.ShloMosaic.Lib.Pipeline.ReadBack

@[expose] public section

set_option maxRecDepth 16384

noncomputable section

namespace Cert.QuantIdeal.Tiles

open Idealize.ShloMosaic Idealize.ShloMosaic.TcCoe Idealize.SL.Sem
open Cert.QuantIdeal Cert.QuantIdeal.Gen Cert.Lanes Cert.Scales
open Cert.Columns (runMax runOf vword vbyte vmax vcodes vbyte_vword vmax_apply vcodes_apply)

/-! ### Blocks of whole runs -/

section Blocks

variable {N b N' b' l : ℕ} (h : N = 32 * b) (h' : N' = 32 * b') (X : (Sh N l).Idx → EReal) (Y : (Sh N' l).Idx → EReal) (q : ℕ)
  (e : ∀ (r : Fin N) (r' : Fin N') (c : Fin l), r'.val = 32 * q + r.val → X (ix2 r c) = Y (ix2 r' c))

include e

/-- Rows `32 q …` of an array have its runs from `q` on. -/
theorem runs_block (p : Fin b) (p' : Fin b') (c : Fin l) (hp : p'.val = q + p.val) : Columns.runAt h X p c = Columns.runAt h' Y p' c :=
  funext fun k => e _ _ _ (by show 32 * p'.val + k.val = 32 * q + (32 * p.val + k.val); omega)

theorem codes_block (r : Fin N) (r' : Fin N') (c : Fin l) (hr : r'.val = 32 * q + r.val) : Columns.codes h X (ix2 r c) = Columns.codes h' Y (ix2 r' c) := by
  show Columns.code (runMax (Columns.runAt h X (runOf h r) c)) (X (ix2 r c)) = Columns.code (runMax (Columns.runAt h' Y (runOf h' r') c)) (Y (ix2 r' c))
  rw [runs_block h h' X Y q e (runOf h r) (runOf h' r') c (by show r'.val / 32 = q + r.val / 32; omega), e r r' c hr]

theorem bytes_block (p : Fin b) (p' : Fin b') (c : Fin l) (hp : p'.val = q + p.val) : Columns.bytes h X (ix2 p c) = Columns.bytes h' Y (ix2 p' c) := by
  show (byteOf (runMax (Columns.runAt h X p c))).setWidth 8 = (byteOf (runMax (Columns.runAt h' Y p' c))).setWidth 8
  rw [runs_block h h' X Y q e p p' c hp]

end Blocks

/-! ### What a trip computes of its 128 rows -/

section Payloads

variable (v : Vec Ideal S128x4608 .bf16)

/-- The column runs' bytes, as words. -/
def colWords : IVec S4x4608 32 := vbyte (vword (vmax (N := 128) (b := 4) (l := 4608) shapeCasts_S128x4608_S4x32x4608 reduces_S4x32x4608_S4x4608 v))

theorem colWords_eq : k0_pay10 (k0_pay8 (k0_pay3 v) (k0_pay4 v) (k0_pay5 v) (k0_pay6 v)) (k0_pay9 (k0_pay3 v) (k0_pay4 v) (k0_pay5 v) (k0_pay6 v)) = colWords v := rfl

theorem colCodes_eq : k0_pay11 v (k0_pay8 (k0_pay3 v) (k0_pay4 v) (k0_pay5 v) (k0_pay6 v)) (k0_pay9 (k0_pay3 v) (k0_pay4 v) (k0_pay5 v) (k0_pay6 v))
    = vcodes (N := 128) (b := 4) (l := 4608) shapeCasts_S4x4608_S4x1x4608 shapeCasts_S4x1x4608_S4x1x4608 broadcasts_S4x1x4608_S4x32x4608 shapeCasts_S4x32x4608_S128x4608 v (colWords v) := rfl

/-- The row runs' bytes, as words. -/
def rowWords : IVec S128x144 32 :=
  Rows.vwords (R := 128) shapeCasts_S4608x128_S144x32x128 reduces_S144x32x128_S144x128 transposes_S128x4608_p1_0_S4608x128 transposes_S144x128_p1_0_S128x144 v

theorem rowWords_eq : k0_pay22 (k0_pay20 (k0_pay17 v) (k0_pay18 v) (k0_pay19 v)) (k0_pay21 (k0_pay17 v) (k0_pay18 v) (k0_pay19 v)) = rowWords v := rfl

theorem recip_eq : k0_pay24 (F := Ideal) (k0_pay20 (k0_pay17 v) (k0_pay18 v) (k0_pay19 v)) (k0_pay21 (k0_pay17 v) (k0_pay18 v) (k0_pay19 v))
    = Rows.recip (R := 128) concatenates_S128x144_S128x112_S128x256_d1 (rowWords v) := rfl

/-- The row codes of the 128 columns at `o`, from the padded reciprocal scales `s`. -/
def rowTile (b o a : ℕ) (hs : S128x256.Slices ![0, b] S128x128) (hs' : S128x4608.Slices ![0, o] S128x128) (s : FVec Ideal S128x256 .bf16) : FVec Ideal S128x128 .fp8e4m3 :=
  Rows.tile (R := 128) iota_S128x128_d1_w32 shapeCasts_S128x128_S128x128x1 shapeCasts_S128x128x1_S128x128 ![0, b] ![0, o] hs hs' s v (BitVec.ofNat 32 (4 * a))

end Payloads

/-- The trip's rows of `X`. -/
theorem load_rows (X : Vec Ideal S1024x4608 .bf16) (K : ℕ) (inb : ∀ a, (![K, 0] : Fin 2 → ℕ) a + S128x4608.size a ≤ S1024x4608.size a) (r : Fin 128) (r' : Fin 1024) (c : Fin 4608) (hr : r'.val = K + r.val) :
    View.ld (S := S1024x4608) (Val := Elt Ideal) (e' := .bf16) X (Rect.unit (s := S1024x4608) ![K, 0] S128x4608.size inb) (ix2 r c) = X (ix2 r' c) := by
  refine View.ld_unit_apply_of (S := S1024x4608) (Val := Elt Ideal) (e := .bf16) X _ _ inb (ix2 r c) _ ?_
  intro a
  match a with
  | ⟨0, _⟩ => exact hr
  | ⟨1, _⟩ => exact (Nat.zero_add _).symm

/-! ### Each store is a piece of one array of the whole block -/

section Pieces

variable (X : Vec Ideal S1024x4608 .bf16) (K : ℕ) (q : ℕ) (hK : K = 128 * q) (hq : q < 8) (v : Vec Ideal S128x4608 .bf16)
  (hv : ∀ (r : Fin 128) (r' : Fin 1024) (c : Fin 4608), r'.val = K + r.val → (v (ix2 r c) : EReal) = X (ix2 r' c))

/-- A block's column bytes, as words. -/
def colBytes : IVec S32x4608 32 := fun z => byteOf (runMax (Columns.runAt (N := 1024) (b := 32) (l := 4608) rfl X (z 0) (z 1)))

include hK hq hv

theorem colCodes_piece (P : Vec Ideal S128x4608 .fp8e4m3)
    (hP : P = vcodes (N := 128) (b := 4) (l := 4608) shapeCasts_S4x4608_S4x1x4608 shapeCasts_S4x1x4608_S4x1x4608 broadcasts_S4x1x4608_S4x32x4608 shapeCasts_S4x32x4608_S128x4608 v (colWords v))
    (inb : ∀ a, (![K, 0] : Fin 2 → ℕ) a + S128x4608.size a ≤ S1024x4608.size a) (x : S128x4608.Idx) :
    P x = Columns.codes (N := 1024) (b := 32) (l := 4608) rfl X ((Rect.unit (s := S1024x4608) ![K, 0] S128x4608.size inb).emb x) := by
  subst hP
  obtain ⟨r, c, rfl⟩ : ∃ (r : Fin 128) (c : Fin 4608), x = ix2 r c := ⟨x 0, x 1, (ix2_eta x).symm⟩
  have hr := r.isLt
  refine (vcodes_apply (N := 128) (b := 4) (l := 4608) rfl (by decide) (by decide) _ _ _ _ _ _ v r c).trans ?_
  refine (codes_block (N := 128) (b := 4) (N' := 1024) (b' := 32) rfl rfl v X (4 * q) (fun r r' c e => hv r r' c (by omega)) r (⟨K + r.val, by omega⟩ : Fin 1024) c (by show K + r.val = _; omega)).trans (congrArg _ ?_)
  funext a; apply Fin.ext
  match a with
  | ⟨0, _⟩ => show K + r.val = K + 1 * r.val; omega
  | ⟨1, _⟩ => show c.val = 0 + 1 * c.val; omega

theorem colBytes_piece (O j : ℕ) (hO : O = 4 * q + j) (hj : j < 4) (hs : S4x4608.Slices ![j, 0] S1x4608) (P : Vec Ideal S1x4608 .i32)
    (hP : P = shapeCast S1x4608 (extractStridedSlice S1x4608 ![j, 0] (colWords v) hs) shapeCasts_S1x4608_S1x4608)
    (inb : ∀ a, (![O, 0] : Fin 2 → ℕ) a + S1x4608.size a ≤ S32x4608.size a) (x : S1x4608.Idx) :
    P x = colBytes X ((Rect.unit (s := S32x4608) ![O, 0] S1x4608.size inb).emb x) := by
  subst hP
  obtain ⟨r, c, rfl⟩ : ∃ (r : Fin 1) (c : Fin 4608), x = ix2 r c := ⟨x 0, x 1, (ix2_eta x).symm⟩
  have hr := r.isLt
  rw [shapeCast_self, extractStridedSlice_apply ![j, 0] (colWords v) hs (ix2 r c) (ix2 (⟨j, hj⟩ : Fin 4) c) (by
    intro a
    match a with
    | ⟨0, _⟩ => show j = j + r.val; omega
    | ⟨1, _⟩ => exact (Nat.zero_add _).symm)]
  unfold colWords
  rw [vbyte_vword, vmax_apply (N := 128) (b := 4) (l := 4608) rfl,
    runs_block (N := 128) (b := 4) (N' := 1024) (b' := 32) rfl rfl v X (4 * q) (fun r r' c e => hv r r' c (by omega)) (⟨j, hj⟩ : Fin 4) (⟨O, by omega⟩ : Fin 32) c hO]
  show colBytes X (ix2 (⟨O, _⟩ : Fin 32) c) = _
  refine congrArg _ ?_
  funext a; apply Fin.ext
  match a with
  | ⟨0, _⟩ => show O = O + 1 * r.val; omega
  | ⟨1, _⟩ => show c.val = 0 + 1 * c.val; omega

theorem rowBytes_piece (P : Vec Ideal S128x144 .i8) (hP : P = trunci 8 (rowWords v) natLt_8_32)
    (inb : ∀ a, (![K, 0] : Fin 2 → ℕ) a + S128x144.size a ≤ S1024x144.size a) (x : S128x144.Idx) :
    P x = Rows.bytes (N := 1024) (n := 4608) (b := 144) rfl X ((Rect.unit (s := S1024x144) ![K, 0] S128x144.size inb).emb x) := by
  subst hP
  obtain ⟨r, p, rfl⟩ : ∃ (r : Fin 128) (p : Fin 144), x = ix2 r p := ⟨x 0, x 1, (ix2_eta x).symm⟩
  have hr := r.isLt
  show (rowWords v (ix2 r p)).setWidth 8 = _
  unfold rowWords
  rw [Rows.vwords_apply]
  refine (Rows.bytes_row (b := 144) rfl v X r (⟨K + r.val, by omega⟩ : Fin 1024) (fun c => hv _ _ _ rfl) p).trans (congrArg _ ?_)
  funext a; apply Fin.ext
  match a with
  | ⟨0, _⟩ => show K + r.val = K + 1 * r.val; omega
  | ⟨1, _⟩ => show p.val = 0 + 1 * p.val; omega

theorem rowCodes_piece (b o a : ℕ) (hob : o = 32 * (b + 4 * a)) (ha : a < 32) (hs : S128x256.Slices ![0, b] S128x128) (hs' : S128x4608.Slices ![0, o] S128x128)
    (s : FVec Ideal S128x256 .bf16) (hsv : s = Rows.recip (R := 128) concatenates_S128x144_S128x112_S128x256_d1 (rowWords v))
    (P : Vec Ideal S128x128 .fp8e4m3) (hP : P = rowTile v b o a hs hs' s)
    (inb : ∀ a, (![K, o] : Fin 2 → ℕ) a + S128x128.size a ≤ S1024x4608.size a) (x : S128x128.Idx) :
    P x = Rows.codes (N := 1024) (n := 4608) (b := 144) rfl X ((Rect.unit (s := S1024x4608) ![K, o] S128x128.size inb).emb x) := by
  subst hP hsv
  obtain ⟨r, l, rfl⟩ : ∃ (r : Fin 128) (l : Fin 128), x = ix2 r l := ⟨x 0, x 1, (ix2_eta x).symm⟩
  have hr := r.isLt
  have hl := l.isLt
  have hi : o + 128 ≤ 4608 := inb 1
  refine (Rows.tile_apply (R := 128) _ _ _ _ _ _ _ b o hs hs' _ v a ha hob r l (⟨o + l.val, by omega⟩ : Fin 4608) rfl).trans ?_
  refine (Rows.codes_row (b := 144) rfl v X r (⟨K + r.val, by omega⟩ : Fin 1024) (fun c => hv _ _ _ rfl) _).trans (congrArg _ ?_)
  funext a; apply Fin.ext
  match a with
  | ⟨0, _⟩ => show K + r.val = K + 1 * r.val; omega
  | ⟨1, _⟩ => show o + l.val = o + 1 * l.val; omega

/-- The trip's tile of columns at `o`: its scales are those of half `o / 4096`, four runs from the tile's number on. -/
theorem rowCodes_tile (o : ℕ) (ho : o + 128 ≤ 4608 ∧ o = 32 * (o / 4096 * 128 + 4 * (o / 128 % 32)) ∧ o / 4096 * 128 + 128 ≤ 256) (P : Vec Ideal S128x128 .fp8e4m3)
    (hP : P = rowTile v (o / 4096 * 128) o (o / 128 % 32)
      ⟨rfl, fun a => match a with | ⟨0, _⟩ => Nat.le_of_eq (Nat.zero_add 128) | ⟨1, _⟩ => ho.2.2⟩ ⟨rfl, fun a => match a with | ⟨0, _⟩ => Nat.le_of_eq (Nat.zero_add 128) | ⟨1, _⟩ => ho.1⟩
      (k0_pay24 (F := Ideal) (k0_pay20 (k0_pay17 v) (k0_pay18 v) (k0_pay19 v)) (k0_pay21 (k0_pay17 v) (k0_pay18 v) (k0_pay19 v)))) (x : S128x128.Idx) :
    P x = Rows.codes (N := 1024) (n := 4608) (b := 144) rfl X ((Rect.unit (s := S1024x4608) ![K, o] S128x128.size
      (fun a => match a with | ⟨0, _⟩ => by show K + 128 ≤ 1024; omega | ⟨1, _⟩ => ho.1)).emb x) :=
  rowCodes_piece X K q hK hq v hv _ o _ ho.2.1 (Nat.mod_lt _ (by decide)) _ _ _ (recip_eq v) P hP _ x

end Pieces

/-- Two lists of pieces of an array, one after the other. -/
theorem piecesOf_append {S : Shape} {e : EltTy} {G : S.Idx → Elt Ideal e} : ∀ L L' : List (View.Piece (Elt Ideal) S e),
    View.PiecesOf G L → View.PiecesOf G L' → View.PiecesOf G (L ++ L')
  | [], _, _, h => h
  | _ :: L, L', h, h' => ⟨h.1, piecesOf_append L L' h.2 h'⟩

/-! ### A trip's stores -/

section Trip

variable (𝒱 : Variants) (c : Dev nD) (bd : Option 𝒱.V) (i : grid0.Coords) (arg1 : Memref sig .tc .vmem S1024x4608 .bf16) (harg1 : arg1.IsWhole)
  (arg2 : Memref sig .tc .vmem S1024x4608 .fp8e4m3) (harg2 : arg2.IsWhole) (arg3 : Memref sig .tc .vmem S1024x144 .i8) (harg3 : arg3.IsWhole)
  (arg4 : Memref sig .tc .vmem S1024x4608 .fp8e4m3) (harg4 : arg4.IsWhole) (arg5 : Memref sig .tc .vmem S32x4608 .i8) (harg5 : arg5.IsWhole)
  (arg6 : Memref sig .tc .vmem S32x4608 .i32) (harg6 : arg6.IsWhole) (X : Vec Ideal S1024x4608 .bf16)

/-- Where trip `k`'s rows and its rows of words start, decided over the trips. -/
theorem offs : ∀ k : Fin k0_t1_loop.trips, k.val < 8 ∧ (Scalar.indexCast (Scalar.muli (Scf.iv 0#32 1#32 k.val) 128#32)).toNat = 128 * k.val
    ∧ ∀ j : Fin 4, (Scalar.indexCast (Scalar.addi (Scalar.muli (Scf.iv 0#32 1#32 k.val) 4#32) (BitVec.ofNat 32 j.val))).toNat = 4 * k.val + j.val := by
  decide +kernel

theorem trip_colCodes (k : Fin k0_t1_loop.trips) : View.PiecesOf (Val := Elt Ideal) (e := .fp8e4m3) (Columns.codes (N := 1024) (b := 32) (l := 4608) rfl X)
    (trip_k0_t1 (F := Ideal) 𝒱 c bd i arg1 harg1 arg2 harg2 arg3 harg3 arg4 harg4 arg5 harg5 arg6 harg6 (harg1.unread X) k).2.2.1 := by
  obtain ⟨h8, hK, hj⟩ := offs k
  unfold trip_k0_t1
  dsimp only
  sl_unfold_words
  simp only [View.readAt_eq_ld, harg1.read_unread]
  exact ⟨colCodes_piece X _ k.val hK h8 _ (load_rows X _ (k0_off1_inb k)) _ (colCodes_eq _) (k0_off1_inb k), trivial⟩

theorem trip_rowBytes (k : Fin k0_t1_loop.trips) : View.PiecesOf (Val := Elt Ideal) (e := .i8) (Rows.bytes (N := 1024) (n := 4608) (b := 144) rfl X)
    (trip_k0_t1 (F := Ideal) 𝒱 c bd i arg1 harg1 arg2 harg2 arg3 harg3 arg4 harg4 arg5 harg5 arg6 harg6 (harg1.unread X) k).2.1 := by
  obtain ⟨h8, hK, hj⟩ := offs k
  unfold trip_k0_t1
  dsimp only
  sl_unfold_words
  simp only [View.readAt_eq_ld, harg1.read_unread]
  exact ⟨rowBytes_piece X _ k.val hK h8 _ (load_rows X _ (k0_off1_inb k)) _ rfl (k0_off3_inb k), trivial⟩

theorem trip_colBytes (k : Fin k0_t1_loop.trips) : View.PiecesOf (Val := Elt Ideal) (e := .i32) (colBytes X)
    (trip_k0_t1 (F := Ideal) 𝒱 c bd i arg1 harg1 arg2 harg2 arg3 harg3 arg4 harg4 arg5 harg5 arg6 harg6 (harg1.unread X) k).2.2.2.1 := by
  obtain ⟨h8, hK, hj⟩ := offs k
  unfold trip_k0_t1
  dsimp only
  sl_unfold_words
  simp only [View.readAt_eq_ld, harg1.read_unread]
  have hv := load_rows X _ (k0_off1_inb k)
  revert hv
  generalize View.ld X _ = v
  intro hv
  exact ⟨colBytes_piece X _ k.val hK h8 v hv _ 3 (hj 3) (by decide) slices_S4x4608_o3_0_S1x4608 _ rfl (k0_off2_inb k 3),
    colBytes_piece X _ k.val hK h8 v hv _ 2 (hj 2) (by decide) slices_S4x4608_o2_0_S1x4608 _ rfl (k0_off2_inb k 2),
    colBytes_piece X _ k.val hK h8 v hv _ 1 (hj 1) (by decide) slices_S4x4608_o1_0_S1x4608 _ rfl (k0_off2_inb k 1),
    colBytes_piece X _ k.val hK h8 v hv _ 0 (hj 0) (by decide) slices_S4x4608_o0_0_S1x4608 _ rfl (k0_off2_inb k 0), trivial⟩

theorem trip_rowCodes (k : Fin k0_t1_loop.trips) : View.PiecesOf (Val := Elt Ideal) (e := .fp8e4m3) (Rows.codes (N := 1024) (n := 4608) (b := 144) rfl X)
    (trip_k0_t1 (F := Ideal) 𝒱 c bd i arg1 harg1 arg2 harg2 arg3 harg3 arg4 harg4 arg5 harg5 arg6 harg6 (harg1.unread X) k).1 := by
  obtain ⟨h8, hK, hj⟩ := offs k
  unfold trip_k0_t1
  dsimp only
  sl_unfold_words
  simp only [View.readAt_eq_ld, harg1.read_unread]
  have hv := load_rows X _ (k0_off1_inb k)
  revert hv
  generalize View.ld X _ = v
  intro hv
  repeat'
    first
    | refine And.intro (b := View.PiecesOf _ (_ :: _)) ?_ ?_
    | refine And.intro (b := View.PiecesOf _ []) ?_ trivial
  all_goals exact rowCodes_tile X _ k.val hK h8 v hv _ (by decide) _ rfl

/-- The stores of the trips before `n` are pieces of the same four arrays. -/
theorem trips_pieces : ∀ n : ℕ, n ≤ k0_t1_loop.trips →
    (fun L : List (View.Piece (Elt Ideal) S1024x4608 .fp8e4m3) × List (View.Piece (Elt Ideal) S1024x144 .i8) × List (View.Piece (Elt Ideal) S1024x4608 .fp8e4m3) × List (View.Piece (Elt Ideal) S32x4608 .i32) =>
      View.PiecesOf (Rows.codes (N := 1024) (n := 4608) (b := 144) rfl X) L.1 ∧ View.PiecesOf (Rows.bytes (N := 1024) (n := 4608) (b := 144) rfl X) L.2.1
      ∧ View.PiecesOf (Columns.codes (N := 1024) (b := 32) (l := 4608) rfl X) L.2.2.1 ∧ View.PiecesOf (colBytes X) L.2.2.2)
    (pb_k0_t1 (F := Ideal) 𝒱 c bd i arg1 harg1 arg2 harg2 arg3 harg3 arg4 harg4 arg5 harg5 arg6 harg6 (harg1.unread X) n) := by
  intro n
  induction n with
  | zero => intro _; exact ⟨trivial, trivial, trivial, trivial⟩
  | succ n ih =>
    intro h
    obtain ⟨i1, i2, i3, i4⟩ := ih (Nat.le_of_succ_le h)
    rw [show n + 1 = (⟨n, h⟩ : Fin k0_t1_loop.trips).val + 1 from rfl, pb_k0_t1_succ]
    exact ⟨piecesOf_append _ _ (trip_rowCodes 𝒱 c bd i arg1 harg1 arg2 harg2 arg3 harg3 arg4 harg4 arg5 harg5 arg6 harg6 X ⟨n, h⟩) i1,
      piecesOf_append _ _ (trip_rowBytes 𝒱 c bd i arg1 harg1 arg2 harg2 arg3 harg3 arg4 harg4 arg5 harg5 arg6 harg6 X ⟨n, h⟩) i2,
      piecesOf_append _ _ (trip_colCodes 𝒱 c bd i arg1 harg1 arg2 harg2 arg3 harg3 arg4 harg4 arg5 harg5 arg6 harg6 X ⟨n, h⟩) i3,
      piecesOf_append _ _ (trip_colBytes 𝒱 c bd i arg1 harg1 arg2 harg2 arg3 harg3 arg4 harg4 arg5 harg5 arg6 harg6 X ⟨n, h⟩) i4⟩

end Trip

/-! ### A point's blocks of results -/

section Blocks

variable (c : Dev nD) (i : grid0.Coords) (arg1 : Memref sig .tc .vmem S1024x4608 .bf16) (harg1 : arg1.IsWhole)
  (arg2 : Memref sig .tc .vmem S1024x4608 .fp8e4m3) (harg2 : arg2.IsWhole) (arg3 : Memref sig .tc .vmem S1024x144 .i8) (harg3 : arg3.IsWhole)
  (arg4 : Memref sig .tc .vmem S1024x4608 .fp8e4m3) (harg4 : arg4.IsWhole) (arg5 : Memref sig .tc .vmem S32x4608 .i8) (harg5 : arg5.IsWhole)
  (arg6 : Memref sig .tc .vmem S32x4608 .i32) (harg6 : arg6.IsWhole) (X : Vec Ideal S1024x4608 .bf16)

theorem rowCodes_out : out0_A_1 (F := Ideal) c i arg1 harg1 arg2 harg2 arg3 harg3 arg4 harg4 arg5 harg5 arg6 harg6 X = Rows.codes (N := 1024) (n := 4608) (b := 144) rfl X := by
  have hcov := cover0_A_1 (F := Ideal) c i arg1 harg1 arg2 harg2 arg3 harg3 arg4 harg4 arg5 harg5 arg6 harg6 X
  unfold out0_A_1
  rw [View.read_writes_eq_canon _ _ _ hcov]
  funext y
  refine View.canon_apply_of_pieces _ _ (View.PiecesOf.mem ?_) y (hcov y)
  unfold kernelRun0_A
  dsimp only
  sl_unfold_words
  exact (trips_pieces _ _ _ _ arg1 harg1 arg2 harg2 arg3 harg3 arg4 harg4 arg5 harg5 arg6 harg6 X _ (le_refl _)).1

theorem rowBytes_out : out0_A_2 (F := Ideal) c i arg1 harg1 arg2 harg2 arg3 harg3 arg4 harg4 arg5 harg5 arg6 harg6 X = Rows.bytes (N := 1024) (n := 4608) (b := 144) rfl X := by
  have hcov := cover0_A_2 (F := Ideal) c i arg1 harg1 arg2 harg2 arg3 harg3 arg4 harg4 arg5 harg5 arg6 harg6 X
  unfold out0_A_2
  rw [View.read_writes_eq_canon _ _ _ hcov]
  funext y
  refine View.canon_apply_of_pieces _ _ (View.PiecesOf.mem ?_) y (hcov y)
  unfold kernelRun0_A
  dsimp only
  sl_unfold_words
  exact (trips_pieces _ _ _ _ arg1 harg1 arg2 harg2 arg3 harg3 arg4 harg4 arg5 harg5 arg6 harg6 X _ (le_refl _)).2.1

theorem colCodes_out : out0_A_3 (F := Ideal) c i arg1 harg1 arg2 harg2 arg3 harg3 arg4 harg4 arg5 harg5 arg6 harg6 X = Columns.codes (N := 1024) (b := 32) (l := 4608) rfl X := by
  have hcov := cover0_A_3 (F := Ideal) c i arg1 harg1 arg2 harg2 arg3 harg3 arg4 harg4 arg5 harg5 arg6 harg6 X
  unfold out0_A_3
  rw [View.read_writes_eq_canon _ _ _ hcov]
  funext y
  refine View.canon_apply_of_pieces _ _ (View.PiecesOf.mem ?_) y (hcov y)
  unfold kernelRun0_A
  dsimp only
  sl_unfold_words
  exact (trips_pieces _ _ _ _ arg1 harg1 arg2 harg2 arg3 harg3 arg4 harg4 arg5 harg5 arg6 harg6 X _ (le_refl _)).2.2.1

/-- The words of all trips, loaded at once. -/
theorem colBytes_load (inb : ∀ a, (![0, 0] : Fin 2 → ℕ) a + S32x4608.size a ≤ S32x4608.size a) (y : S32x4608.Idx) :
    arg6.view.readCov (pb_k0_t1 (F := Ideal) Variants.none c none i arg1 harg1 arg2 harg2 arg3 harg3 arg4 harg4 arg5 harg5 arg6 harg6 (harg1.unread X) k0_t1_loop.trips).2.2.2
      (Rect.unit (s := S32x4608) ![0, 0] S32x4608.size inb).toLoadRect y = colBytes X y := by
  rw [readCov_all _ _ hz]
  exact View.canon_apply_of_pieces _ _ (View.PiecesOf.mem (trips_pieces _ _ _ _ arg1 harg1 arg2 harg2 arg3 harg3 arg4 harg4 arg5 harg5 arg6 harg6 X _ (le_refl _)).2.2.2) y
    (View.cover_of_tiledL (pb_k0_t1 (F := Ideal) Variants.none c none i arg1 harg1 arg2 harg2 arg3 harg3 arg4 harg4 arg5 harg5 arg6 harg6 (harg1.unread X) k0_t1_loop.trips).2.2.2
      S1x4608.size (by sl_kernel_rfl) y)

theorem colBytes_out : out0_A_4 (F := Ideal) c i arg1 harg1 arg2 harg2 arg3 harg3 arg4 harg4 arg5 harg5 arg6 harg6 X = Columns.bytes (N := 1024) (b := 32) (l := 4608) rfl X := by
  have hcov := cover0_A_4 (F := Ideal) c i arg1 harg1 arg2 harg2 arg3 harg3 arg4 harg4 arg5 harg5 arg6 harg6 X
  unfold out0_A_4
  rw [View.read_writes_eq_canon _ _ _ hcov]
  funext y
  refine View.canon_apply_of_pieces _ _ (View.PiecesOf.mem ?_) y (hcov y)
  unfold kernelRun0_A
  dsimp only
  sl_unfold_words
  refine ⟨fun x => ?_, trivial⟩
  refine (congrArg (BitVec.setWidth 8) (colBytes_load c i arg1 harg1 arg2 harg2 arg3 harg3 arg4 harg4 arg5 harg5 arg6 harg6 X _ x)).trans ?_
  refine congrArg (Columns.bytes (N := 1024) (b := 32) (l := 4608) rfl X) (funext fun a => Fin.ext ?_)
  match a with
  | ⟨0, _⟩ => show (x 0).val = 0 + 1 * (x 0).val; omega
  | ⟨1, _⟩ => show (x 1).val = 0 + 1 * (x 1).val; omega

end Blocks

end Cert.QuantIdeal.Tiles

end
-- ==== Proof.QuantValue.lean ====
/-
  THE QUANTISATION'S RESULTS, AS VALUES. Each point writes back the codes and the bytes of its 1024 rows, by rows and by
  columns; runs of 32 never cross a point's rows. So the arrays the call returns are the codes and bytes of the whole argument.
-/
module

public import proofs.«01_k».proof.Proof.QuantTiles

@[expose] public section

set_option maxRecDepth 16384

noncomputable section

namespace Cert.QuantIdeal.Tiles

open Idealize.ShloMosaic Idealize.ShloMosaic.TcCoe Idealize.SL.Sem
open Idealize.ShloMosaic.Pipeline (Dat)
open Cert.QuantIdeal Cert.QuantIdeal.Gen Cert.QuantIdeal.Value Cert.Lanes Cert.Scales

variable (m : (ℓ : Loc nD τ sig) → Buf (Elt Ideal) ℓ)

/-- The windows' block indices, decided over the grid: the point's rows, all columns. -/
theorem idx_all : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem flush_all : ∀ t : Fin cfg0.N, (cfg0.win 1).flush t = true ∧ (cfg0.win 2).flush t = true ∧ (cfg0.win 3).flush t = true ∧ (cfg0.win 4).flush t = true :=
  (by decide +kernel : ∀ t : Fin grid0.N, win0_1.flush t = true ∧ win0_2.flush t = true ∧ win0_3.flush t = true ∧ win0_4.flush t = true)

theorem lt_N (t : Fin cfg0.N) : t.val < 6 := lt_of_lt_of_eq t.isLt N_0

/-- A point's block of the argument, at an index: the argument's entry. -/
theorem iblk0_apply (c : Dev nD) (t : Fin cfg0.N) (r : Fin 1024) (k : Fin 4608) :
    iblk m c 0 t (ix2 r k) = m ((c : Thread nD τ).loc main_arg0) (ix2 (⟨1024 * t.val + r.val, by have := lt_N t; omega⟩ : Fin 6144) k) := by
  obtain ⟨⟨h0, h1⟩, _⟩ := idx_all t
  show V m c (Pipeline.arrRef spec0 0) (((cfg0.win 0).blk t).view.emb (ix2 r k)) = _
  rw [show V m c (Pipeline.arrRef spec0 0) = m ((c : Thread nD τ).loc main_arg0) from V_main_arg0 m c]
  congr 1
  funext q; apply Fin.ext
  match q with
  | ⟨0, _⟩ => show win0_0.index t (0 : Fin 2) * 1024 + 1 * r.val = 1024 * t.val + r.val; rw [h0]; omega
  | ⟨1, _⟩ => show win0_0.index t (1 : Fin 2) * 4608 + 1 * k.val = k.val; rw [h1]; omega

theorem iblk0_at (c : Dev nD) (t : Fin cfg0.N) (r : Fin 1024) (r' : Fin 6144) (k : Fin 4608) (h : r'.val = 1024 * t.val + r.val) :
    iblk m c 0 t (ix2 r k) = m ((c : Thread nD τ).loc main_arg0) (ix2 r' k) :=
  (iblk0_apply m c t r k).trans (congrArg (fun q => m ((c : Thread nD τ).loc main_arg0) (ix2 q k)) (Fin.ext h.symm))

/-- An entry of a block of `R` rows is the array's entry `R t` rows on. -/
theorem rows_read {α : Type} {R N K : ℕ} (q : ℕ) (hq : R * q + R ≤ N) (X : (Sh R K).Idx → α) (Y : (Sh N K).Idx → α)
    (key : ∀ (r : Fin R) (r' : Fin N) (k : Fin K), r'.val = R * q + r.val → X (ix2 r k) = Y (ix2 r' k)) (u : (Sh R K).Idx) (z : (Sh N K).Idx)
    (h0 : (z 0).val = R * q + (u 0).val) (h1 : (z 1).val = (u 1).val) : X u = Y z := by
  obtain ⟨r, k, rfl⟩ : ∃ (r : Fin R) (k : Fin K), u = ix2 r k := ⟨u 0, u 1, (ix2_eta u).symm⟩
  obtain ⟨r', k', rfl⟩ : ∃ (r : Fin N) (k : Fin K), z = ix2 r k := ⟨z 0, z 1, (ix2_eta z).symm⟩
  obtain rfl : k' = k := Fin.ext h1
  exact key _ _ _ h0

/-- A row is in its block of rows. -/
theorem rows_mem {index size i : Fin 2 → ℕ} (R : ℕ) (hR : 0 < R) (s0 : size 0 = R) (h0 : index 0 = i 0 / R) (h1 : index 1 = 0) (hi : i 1 < size 1) :
    ∀ a, index a * size a ≤ i a ∧ i a < index a * size a + size a := by
  have hd := Nat.div_add_mod (i 0) R
  have hm := Nat.mod_lt (i 0) hR
  intro a
  match a with
  | ⟨0, _⟩ =>
    show index 0 * size 0 ≤ i 0 ∧ i 0 < index 0 * size 0 + size 0
    rw [h0, s0, Nat.mul_comm]
    omega
  | ⟨1, _⟩ =>
    show index 1 * size 1 ≤ i 1 ∧ i 1 < index 1 * size 1 + size 1
    rw [h1, Nat.zero_mul, Nat.zero_add]
    exact ⟨Nat.zero_le _, hi⟩

/-- The point whose rows hold row `i` of an array of six blocks. -/
abbrev pointOf {R N : ℕ} (h : N = R * 6) (i : Fin N) : Fin cfg0.N :=
  ⟨i.val / R, lt_of_lt_of_eq (Nat.div_lt_of_lt_mul (h ▸ i.isLt)) N_0.symm⟩

/-! ### The row codes -/

theorem rowCodes_flushed (c : Dev nD) (t : Fin cfg0.N) :
    (dats m 0 c).flushed 1 t = ((cfg0.win 1).blk t).view.read (Elt Ideal) (Rows.codes (N := 6144) (n := 4608) (b := 144) rfl (m ((c : Thread nD τ).loc main_arg0))) := by
  rw [flushed1_A, rowCodes_out]
  obtain ⟨h0, h1⟩ := (idx_all t).2.1
  have ht := lt_N t
  funext y
  refine rows_read (R := 1024) (N := 6144) (K := 4608) t.val (by omega) (Rows.codes (N := 1024) (n := 4608) (b := 144) rfl (iblk m c 0 t)) (Rows.codes (N := 6144) (n := 4608) (b := 144) rfl (m ((c : Thread nD τ).loc main_arg0)))
    (fun r r' k e => Rows.codes_row (b := 144) rfl _ _ r r' (fun c' => iblk0_at m c t r r' c' e) k)
    ((cfg0.win 1).xinj (grid0.coords t) y) (((cfg0.win 1).blk t).view.emb y) ?_ ?_
  · show win0_1.index t (0 : Fin 2) * 1024 + 1 * (y 0).val = 1024 * t.val + (y 0).val; rw [h0]; omega
  · show win0_1.index t (1 : Fin 2) * 4608 + 1 * (y 1).val = (y 1).val; rw [h1]; omega

theorem rowCodes_final (c : Dev nD) : (dats m 0 c).arrAt 1 cfg0.N = Rows.codes (N := 6144) (n := 4608) (b := 144) rfl (m ((c : Thread nD τ).loc main_arg0)) :=
  (dats m 0 c).arrAt_eq_of_cover 1 _ (fun t _ => rowCodes_flushed m c t) (fun i => by
    refine ⟨pointOf (R := 1024) (N := 6144) rfl (i 0), (flush_all _).1, ?_⟩
    show i ∈ ((View.whole main_v0_0).slice (win0_1.rect (pointOf (R := 1024) (N := 6144) rfl (i 0)))).set
    rw [View.set_slice_whole, Rect.mem_set_unit]
    exact rows_mem (size := S1024x4608.size) (i := fun a => (i a).val) 1024 (by decide) rfl ((idx_all _).2.1.1) ((idx_all _).2.1.2) (i 1).isLt)

/-! ### The row bytes -/

theorem rowBytes_flushed (c : Dev nD) (t : Fin cfg0.N) :
    (dats m 0 c).flushed 2 t = ((cfg0.win 2).blk t).view.read (Elt Ideal) (Rows.bytes (N := 6144) (n := 4608) (b := 144) rfl (m ((c : Thread nD τ).loc main_arg0))) := by
  rw [flushed2_A, rowBytes_out]
  obtain ⟨h0, h1⟩ := (idx_all t).2.2.1
  have ht := lt_N t
  funext y
  refine rows_read (R := 1024) (N := 6144) (K := 144) t.val (by omega) (Rows.bytes (N := 1024) (n := 4608) (b := 144) rfl (iblk m c 0 t)) (Rows.bytes (N := 6144) (n := 4608) (b := 144) rfl (m ((c : Thread nD τ).loc main_arg0)))
    (fun r r' k e => Rows.bytes_row (b := 144) rfl _ _ r r' (fun c' => iblk0_at m c t r r' c' e) k)
    ((cfg0.win 2).xinj (grid0.coords t) y) (((cfg0.win 2).blk t).view.emb y) ?_ ?_
  · show win0_2.index t (0 : Fin 2) * 1024 + 1 * (y 0).val = 1024 * t.val + (y 0).val; rw [h0]; omega
  · show win0_2.index t (1 : Fin 2) * 144 + 1 * (y 1).val = (y 1).val; rw [h1]; omega

theorem rowBytes_final (c : Dev nD) : (dats m 0 c).arrAt 2 cfg0.N = Rows.bytes (N := 6144) (n := 4608) (b := 144) rfl (m ((c : Thread nD τ).loc main_arg0)) :=
  (dats m 0 c).arrAt_eq_of_cover 2 _ (fun t _ => rowBytes_flushed m c t) (fun i => by
    refine ⟨pointOf (R := 1024) (N := 6144) rfl (i 0), (flush_all _).2.1, ?_⟩
    show i ∈ ((View.whole main_v0_1).slice (win0_2.rect (pointOf (R := 1024) (N := 6144) rfl (i 0)))).set
    rw [View.set_slice_whole, Rect.mem_set_unit]
    exact rows_mem (size := S1024x144.size) (i := fun a => (i a).val) 1024 (by decide) rfl ((idx_all _).2.2.1.1) ((idx_all _).2.2.1.2) (i 1).isLt)

/-! ### The column codes -/

theorem colCodes_flushed (c : Dev nD) (t : Fin cfg0.N) :
    (dats m 0 c).flushed 3 t = ((cfg0.win 3).blk t).view.read (Elt Ideal) (Columns.codes (N := 6144) (b := 192) (l := 4608) rfl (m ((c : Thread nD τ).loc main_arg0))) := by
  rw [flushed3_A, colCodes_out]
  obtain ⟨h0, h1⟩ := (idx_all t).2.2.2.1
  have ht := lt_N t
  funext y
  refine rows_read (R := 1024) (N := 6144) (K := 4608) t.val (by omega) (Columns.codes (N := 1024) (b := 32) (l := 4608) rfl (iblk m c 0 t)) (Columns.codes (N := 6144) (b := 192) (l := 4608) rfl (m ((c : Thread nD τ).loc main_arg0)))
    (fun r r' k e => codes_block (N := 1024) (b := 32) (N' := 6144) (b' := 192) rfl rfl _ _ (32 * t.val) (fun r r' c' e => iblk0_at m c t r r' c' (by omega)) r r' k (by omega))
    ((cfg0.win 3).xinj (grid0.coords t) y) (((cfg0.win 3).blk t).view.emb y) ?_ ?_
  · show win0_3.index t (0 : Fin 2) * 1024 + 1 * (y 0).val = 1024 * t.val + (y 0).val; rw [h0]; omega
  · show win0_3.index t (1 : Fin 2) * 4608 + 1 * (y 1).val = (y 1).val; rw [h1]; omega

theorem colCodes_final (c : Dev nD) : (dats m 0 c).arrAt 3 cfg0.N = Columns.codes (N := 6144) (b := 192) (l := 4608) rfl (m ((c : Thread nD τ).loc main_arg0)) :=
  (dats m 0 c).arrAt_eq_of_cover 3 _ (fun t _ => colCodes_flushed m c t) (fun i => by
    refine ⟨pointOf (R := 1024) (N := 6144) rfl (i 0), (flush_all _).2.2.1, ?_⟩
    show i ∈ ((View.whole main_v0_2).slice (win0_3.rect (pointOf (R := 1024) (N := 6144) rfl (i 0)))).set
    rw [View.set_slice_whole, Rect.mem_set_unit]
    exact rows_mem (size := S1024x4608.size) (i := fun a => (i a).val) 1024 (by decide) rfl ((idx_all _).2.2.2.1.1) ((idx_all _).2.2.2.1.2) (i 1).isLt)

/-! ### The column bytes -/

theorem colBytes_flushed (c : Dev nD) (t : Fin cfg0.N) :
    (dats m 0 c).flushed 4 t = ((cfg0.win 4).blk t).view.read (Elt Ideal) (Columns.bytes (N := 6144) (b := 192) (l := 4608) rfl (m ((c : Thread nD τ).loc main_arg0))) := by
  rw [flushed4_A, colBytes_out]
  obtain ⟨h0, h1⟩ := (idx_all t).2.2.2.2
  have ht := lt_N t
  funext y
  refine rows_read (R := 32) (N := 192) (K := 4608) t.val (by omega) (Columns.bytes (N := 1024) (b := 32) (l := 4608) rfl (iblk m c 0 t)) (Columns.bytes (N := 6144) (b := 192) (l := 4608) rfl (m ((c : Thread nD τ).loc main_arg0)))
    (fun r r' k e => bytes_block (N := 1024) (b := 32) (N' := 6144) (b' := 192) rfl rfl _ _ (32 * t.val) (fun r r' c' e => iblk0_at m c t r r' c' (by omega)) r r' k e)
    ((cfg0.win 4).xinj (grid0.coords t) y) (((cfg0.win 4).blk t).view.emb y) ?_ ?_
  · show win0_4.index t (0 : Fin 2) * 32 + 1 * (y 0).val = 32 * t.val + (y 0).val; rw [h0]; omega
  · show win0_4.index t (1 : Fin 2) * 4608 + 1 * (y 1).val = (y 1).val; rw [h1]; omega

theorem colBytes_final (c : Dev nD) : (dats m 0 c).arrAt 4 cfg0.N = Columns.bytes (N := 6144) (b := 192) (l := 4608) rfl (m ((c : Thread nD τ).loc main_arg0)) :=
  (dats m 0 c).arrAt_eq_of_cover 4 _ (fun t _ => colBytes_flushed m c t) (fun i => by
    refine ⟨pointOf (R := 32) (N := 192) rfl (i 0), (flush_all _).2.2.2, ?_⟩
    show i ∈ ((View.whole main_v0_3).slice (win0_4.rect (pointOf (R := 32) (N := 192) rfl (i 0)))).set
    rw [View.set_slice_whole, Rect.mem_set_unit]
    exact rows_mem (size := S32x4608.size) (i := fun a => (i a).val) 32 (by decide) rfl ((idx_all _).2.2.2.2.1) ((idx_all _).2.2.2.2.2) (i 1).isLt)

/-- The run: the result arrays hold the codes and bytes of the argument, which is as launched. -/
theorem run (ρ : Dev nD → PrngReg) : θ_run defs (onTc (τ := τ) (main (F := Ideal))) ⟨m, fun _ => 0, ρ⟩ fun r => ∀ c : Dev nD,
      r.2.mem ((c : Thread nD τ).loc main_v0_0) = Rows.codes (N := 6144) (n := 4608) (b := 144) rfl (m ((c : Thread nD τ).loc main_arg0))
      ∧ r.2.mem ((c : Thread nD τ).loc main_v0_1) = Rows.bytes (N := 6144) (n := 4608) (b := 144) rfl (m ((c : Thread nD τ).loc main_arg0))
      ∧ r.2.mem ((c : Thread nD τ).loc main_v0_2) = Columns.codes (N := 6144) (b := 192) (l := 4608) rfl (m ((c : Thread nD τ).loc main_arg0))
      ∧ r.2.mem ((c : Thread nD τ).loc main_v0_3) = Columns.bytes (N := 6144) (b := 192) (l := 4608) rfl (m ((c : Thread nD τ).loc main_arg0))
      ∧ r.2.mem ((c : Thread nD τ).loc main_arg0) = m ((c : Thread nD τ).loc main_arg0) :=
  (θ_run defs _ _).mono (fun r h c => ⟨(h c).1.trans (rowCodes_final m c), (h c).2.1.trans (rowBytes_final m c), (h c).2.2.1.trans (colCodes_final m c),
      (h c).2.2.2.1.trans (colBytes_final m c), (h c).2.2.2.2⟩)
    (run_blocks m ρ)

end Cert.QuantIdeal.Tiles

end
-- ==== Proof.QuantClaim.lean ====
/-
  THE QUANTISATION IS ITS REFERENCE over the extended reals: both runs end with the same four arrays, the codes of dy with
  their scale bytes, by runs of a row and by runs of a column.
-/
module

public import proofs.«01_k».proof.Defs
public import proofs.«01_k».proof.Proof.QuantReference
public import proofs.«01_k».proof.Proof.ColumnsReference
public import proofs.«01_k».proof.Proof.QuantValue

@[expose] public section

set_option maxRecDepth 16384

noncomputable section

namespace Cert.QuantRefIdeal.Read

open Idealize.ShloMosaic Idealize.ShloMosaic.TcCoe Idealize.SL.Sem
open Cert.QuantRefIdeal Cert.QuantRefIdeal.Gen Cert.Lanes Cert.Scales

variable (a0 : Vec Ideal S6144x4608 .bf16)

theorem rowCodes_eq : k0_pay3 (F := Ideal) a0 = Rows.rcodes (N := 6144) (n := 4608) (b := 144) shapeCasts_S6144x4608_S6144x144x32 reduces_S6144x144x32_S6144x144
    shapeCasts_S6144x144_S6144x144x1 broadcasts_S6144x144x1_S6144x144x32 shapeCasts_S6144x144x32_S6144x4608 a0 := rfl

theorem rowBytes_eq : k0_pay4 (F := Ideal) a0 = Rows.rbytes (N := 6144) (n := 4608) (b := 144) shapeCasts_S6144x4608_S6144x144x32 reduces_S6144x144x32_S6144x144 a0 := rfl

theorem colCodes_eq : k0_pay7 (F := Ideal) a0 = Columns.rcodes (N := 6144) (b := 192) (l := 4608) shapeCasts_S6144x4608_S192x32x4608 reduces_S192x32x4608_S192x4608
    shapeCasts_S192x4608_S192x1x4608 broadcasts_S192x1x4608_S192x32x4608 shapeCasts_S192x32x4608_S6144x4608 a0 := rfl

theorem colBytes_eq : k0_pay8 (F := Ideal) a0 = Columns.rbytes (N := 6144) (b := 192) (l := 4608) shapeCasts_S6144x4608_S192x32x4608 reduces_S192x32x4608_S192x4608 a0 := rfl

theorem rowCodes_read : k0_pay3 (F := Ideal) a0 = Rows.codes (N := 6144) (n := 4608) (b := 144) rfl a0 := by
  rw [rowCodes_eq]
  funext y
  obtain ⟨r, c, rfl⟩ : ∃ (r : Fin 6144) (c : Fin 4608), y = ix2 r c := ⟨y 0, y 1, (ix2_eta y).symm⟩
  exact Rows.rcodes_apply (N := 6144) (n := 4608) (b := 144) rfl (by decide) (by decide) _ _ _ _ _ a0 r c

theorem rowBytes_read : k0_pay4 (F := Ideal) a0 = Rows.bytes (N := 6144) (n := 4608) (b := 144) rfl a0 := by
  rw [rowBytes_eq]
  funext y
  obtain ⟨r, c, rfl⟩ : ∃ (r : Fin 6144) (c : Fin 144), y = ix2 r c := ⟨y 0, y 1, (ix2_eta y).symm⟩
  exact Rows.rbytes_apply (N := 6144) (n := 4608) (b := 144) rfl _ _ a0 r c

theorem colCodes_read : k0_pay7 (F := Ideal) a0 = Columns.codes (N := 6144) (b := 192) (l := 4608) rfl a0 := by
  rw [colCodes_eq]
  funext y
  obtain ⟨r, c, rfl⟩ : ∃ (r : Fin 6144) (c : Fin 4608), y = ix2 r c := ⟨y 0, y 1, (ix2_eta y).symm⟩
  exact Columns.rcodes_apply (N := 6144) (b := 192) (l := 4608) rfl (by decide) (by decide) _ _ _ _ _ a0 r c

theorem colBytes_read : k0_pay8 (F := Ideal) a0 = Columns.bytes (N := 6144) (b := 192) (l := 4608) rfl a0 := by
  rw [colBytes_eq]
  funext y
  obtain ⟨r, c, rfl⟩ : ∃ (r : Fin 192) (c : Fin 4608), y = ix2 r c := ⟨y 0, y 1, (ix2_eta y).symm⟩
  exact Columns.rbytes_apply (N := 6144) (b := 192) (l := 4608) rfl _ _ a0 r c

end Cert.QuantRefIdeal.Read

namespace Cert.QuantAgree

open Idealize.ShloMosaic Idealize.ShloMosaic.TcCoe Idealize.SL.Sem Cert.Lanes

theorem agree : Cert.algebraic_QuantIdeal_QuantRefIdeal := by
  intro m g m' g' hpre hargs
  refine ⟨_, _, _, _, Cert.QuantIdeal.Tiles.run m g, ?_⟩
  refine (θ_run Cert.QuantRefIdeal.defs _ _).mono (fun r h c => ⟨(h c).1.trans ?_, (h c).2.1.trans ?_, (h c).2.2.1.trans ?_, (h c).2.2.2.1.trans ?_, (h c).2.2.2.2⟩)
    (Cert.QuantRefIdeal.Whole.run (F := Ideal) m' g')
  all_goals rw [hargs c]
  · exact Cert.QuantRefIdeal.Read.rowCodes_read _
  · exact Cert.QuantRefIdeal.Read.rowBytes_read _
  · exact Cert.QuantRefIdeal.Read.colCodes_read _
  · exact Cert.QuantRefIdeal.Read.colBytes_read _

end Cert.QuantAgree

end
-- ==== Proof.lean ====
module

public import proofs.«01_k».proof.Defs
public import proofs.«01_k».proof.Proof.Gen.DgradIdeal.Value
public import proofs.«01_k».proof.Proof.Gen.DgradRefIdeal.Value
public import proofs.«01_k».proof.Proof.Gen.Dgrad
public import proofs.«01_k».proof.Proof.Gen.Dgrad.Skeleton
public import proofs.«01_k».proof.Proof.Gen.Dgrad.Launch
public import proofs.«01_k».proof.Proof.Gen.Dgrad.Points
public import proofs.«01_k».proof.Proof.Gen.Dgrad.Frame
public import proofs.«01_k».proof.Proof.Gen.DgradIdeal
public import proofs.«01_k».proof.Proof.Gen.DgradIdeal.Skeleton
public import proofs.«01_k».proof.Proof.Gen.DgradIdeal.Launch
public import proofs.«01_k».proof.Proof.Gen.DgradIdeal.Points
public import proofs.«01_k».proof.Proof.Gen.DgradIdeal.Frame
public import proofs.«01_k».proof.Proof.Gen.DgradRefIdeal
public import proofs.«01_k».proof.Proof.Gen.DgradRefIdeal.Skeleton
public import proofs.«01_k».proof.Proof.Gen.DgradRefIdeal.Launch
public import proofs.«01_k».proof.Proof.Gen.DgradRefIdeal.Points
public import proofs.«01_k».proof.Proof.Gen.DgradRefIdeal.Frame
public import proofs.«01_k».proof.Proof.DgradClaim
public import proofs.«01_k».proof.Proof.WgradFrame
public import proofs.«01_k».proof.Proof.WgradIdealFrame
public import proofs.«01_k».proof.Proof.WgradClaim
public import proofs.«01_k».proof.Proof.QuantClaim
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.WgradRefIdeal.Skeleton
public import proofs.«01_k».proof.Proof.Gen.WgradRefIdeal.Launch
public import proofs.«01_k».proof.Proof.Gen.WgradRefIdeal.Points
public import proofs.«01_k».proof.Proof.Gen.WgradRefIdeal.Frame
public import proofs.«01_k».proof.Proof.Gen.Quant
public import proofs.«01_k».proof.Proof.Gen.Quant.Skeleton
public import proofs.«01_k».proof.Proof.Gen.Quant.Loops
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Loops
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantIdeal.Value
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import Idealize.ShloMosaic.Adequacy
public import Idealize.ShloMosaic.Init

@[expose] public section

noncomputable section

namespace Cert.Proof

open Idealize.ShloMosaic Idealize.SL.Sem Cert.Dgrad

theorem claim : Cert.Claim := ⟨Cert.Dgrad.Gen.facts, Cert.DgradIdeal.Gen.facts, Cert.DgradRefIdeal.Gen.facts,
  Cert.Wgrad.Gen.facts, Cert.WgradIdeal.Gen.facts, Cert.WgradRefIdeal.Gen.facts,
  Cert.Quant.Gen.facts, Cert.QuantIdeal.Gen.facts, Cert.QuantRefIdeal.Gen.facts,
  fun m ρ _ => Cert.Dgrad.Gen.frame m ρ, fun m ρ _ => Cert.DgradIdeal.Gen.frame m ρ, fun m ρ _ => Cert.DgradRefIdeal.Gen.frame m ρ,
  fun m ρ _ => Cert.Wgrad.Run.frame m ρ, fun m ρ _ => Cert.WgradIdeal.Run.frame m ρ, fun m ρ _ => Cert.WgradRefIdeal.Gen.frame m ρ,
  fun m ρ _ => Cert.Quant.Gen.frame m ρ, fun m ρ _ => Cert.QuantIdeal.Gen.frame m ρ, fun m ρ _ => Cert.QuantRefIdeal.Gen.frame m ρ,
  trivial, Cert.DgradAgree.agree, trivial, Cert.WgradAgree.agree, trivial, Cert.QuantAgree.agree⟩

end Cert.Proof

end
